-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_cat_names_rows [hPre_cat_names_rows : Cert.Pre_cat_names_rows.Facts] (m : (ℓ : Loc Cert.KernelIdeal.nD Cert.KernelIdeal.τ Cert.KernelIdeal.sig) → Buf (Elt Ideal) ℓ) : Prop :=
  ∀ c : Dev Cert.KernelIdeal.nD,
    (Cert.Pre_cat_names_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_cat_names_rows [hPre_cat_names_rows : Cert.Pre_cat_names_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_cat_names_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_cat_names_rows [hKernelIdeal : Cert.KernelIdeal.Facts] [hPre_cat_names_rows : Cert.Pre_cat_names_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_cat_names_rows m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_cat_names_rows [hReferenceIdeal : Cert.ReferenceIdeal.Facts] [hPre_cat_names_rows : Cert.Pre_cat_names_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_cat_names_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_cat_names_rows [hKernelIdeal : Cert.KernelIdeal.Facts] [hReferenceIdeal : Cert.ReferenceIdeal.Facts] [hPre_cat_names_rows : Cert.Pre_cat_names_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_cat_names_rows m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v17_10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_cat_names_rows : Cert.Pre_cat_names_rows.Facts),
    quiescent_Kernel (hKernel := hKernel)
    ∧ quiescent_KernelIdeal (hKernelIdeal := hKernelIdeal)
    ∧ quiescent_KernelIdeal_pre_cat_names_rows (hKernelIdeal := hKernelIdeal) (hPre_cat_names_rows := hPre_cat_names_rows)
    ∧ quiescent_ReferenceIdeal (hReferenceIdeal := hReferenceIdeal)
    ∧ quiescent_ReferenceIdeal_pre_cat_names_rows (hReferenceIdeal := hReferenceIdeal) (hPre_cat_names_rows := hPre_cat_names_rows)
    ∧ preserves_Kernel_KernelIdeal
    ∧ algebraic_KernelIdeal_ReferenceIdeal_pre_cat_names_rows (hKernelIdeal := hKernelIdeal) (hReferenceIdeal := hReferenceIdeal) (hPre_cat_names_rows := hPre_cat_names_rows)
-- ==== Pre_cat_names_rows.lean ====
abbrev S24x256x32x256 : Shape := ⟨4, ![24, 256, 32, 256]⟩
abbrev S256x1x1 : Shape := ⟨3, ![256, 1, 1]⟩
abbrev S256x8x1 : Shape := ⟨3, ![256, 8, 1]⟩
abbrev S1000x16 : Shape := ⟨2, ![1000, 16]⟩
abbrev S32x25 : Shape := ⟨2, ![32, 25]⟩
abbrev S32 : Shape := ⟨1, ![32]⟩
abbrev S24x64x32x2 : Shape := ⟨4, ![24, 64, 32, 2]⟩
abbrev S24x64 : Shape := ⟨2, ![24, 64]⟩
abbrev S24x32x32 : Shape := ⟨3, ![24, 32, 32]⟩
abbrev S24x32 : Shape := ⟨2, ![24, 32]⟩
abbrev S128x768 : Shape := ⟨2, ![128, 768]⟩
abbrev S128 : Shape := ⟨1, ![128]⟩
abbrev S1x128 : Shape := ⟨2, ![1, 128]⟩
abbrev S1 : Shape := ⟨1, ![1]⟩
abbrev S_ : Shape := ⟨0, ![]⟩

class Facts : Prop where
  bcast_S_S256x1x1 : S_.BroadcastsInDim S256x1x1 (![] : Fin 0 → Fin S256x1x1.rank)

variable [Facts]

def fn {F : FTy → Type} [FloatOps F] (main_arg0 : FVec F S24x256x32x256 .f32) (main_arg1 : FVec F S256x1x1 .f32) (main_arg2 : FVec F S256x8x1 .f32) (main_arg3 : IVec S256x1x1 32) (main_arg4 : FVec F S1000x16 .f32) (main_arg5 : FVec F S32x25 .f32) (main_arg6 : FVec F S32 .f32) (main_arg7 : FVec F S24x64x32x2 .f32) (main_arg8 : FVec F S24x64 .f32) (main_arg9 : FVec F S24x32x32 .f32) (main_arg10 : FVec F S24x32 .f32) (main_arg11 : FVec F S24x32x32 .f32) (main_arg12 : FVec F S24x32 .f32) (main_arg13 : FVec F S128x768 .f32) (main_arg14 : FVec F S128 .f32) (main_arg15 : FVec F S1x128 .f32) (main_arg16 : FVec F S1 .f32) : IVec S256x1x1 1 :=
  let main_c : IVec S_ 32 := constantI S_ 32 0#32
  let main_v0 : IVec S256x1x1 32 := broadcastInDim S256x1x1 ![] bcast_S_S256x1x1 main_c
  let main_v1 : IVec S256x1x1 1 := cmpi .sge main_arg3 main_v0
  let main_c_0 : IVec S_ 32 := constantI S_ 32 1000#32
  let main_v2 : IVec S256x1x1 32 := broadcastInDim S256x1x1 ![] bcast_S_S256x1x1 main_c_0
  let main_v3 : IVec S256x1x1 1 := cmpi .slt main_arg3 main_v2
  let main_v4 : IVec S256x1x1 1 := andi main_v1 main_v3
  main_v4
-- ==== Kernel.lean ====
abbrev S24x256x32x256 : Shape := ⟨4, ![24, 256, 32, 256]⟩
abbrev S256x1x1 : Shape := ⟨3, ![256, 1, 1]⟩
abbrev S256x8x1 : Shape := ⟨3, ![256, 8, 1]⟩
abbrev S1000x16 : Shape := ⟨2, ![1000, 16]⟩
abbrev S32x25 : Shape := ⟨2, ![32, 25]⟩
abbrev S32 : Shape := ⟨1, ![32]⟩
abbrev S24x64x32x2 : Shape := ⟨4, ![24, 64, 32, 2]⟩
abbrev S24x64 : Shape := ⟨2, ![24, 64]⟩
abbrev S24x32x32 : Shape := ⟨3, ![24, 32, 32]⟩
abbrev S24x32 : Shape := ⟨2, ![24, 32]⟩
abbrev S128x768 : Shape := ⟨2, ![128, 768]⟩
abbrev S128 : Shape := ⟨1, ![128]⟩
abbrev S1x128 : Shape := ⟨2, ![1, 128]⟩
abbrev S1 : Shape := ⟨1, ![1]⟩
abbrev S256x1 : Shape := ⟨2, ![256, 1]⟩
abbrev S1x256 : Shape := ⟨2, ![1, 256]⟩
abbrev S1x1x256 : Shape := ⟨3, ![1, 1, 256]⟩
abbrev S256x8 : Shape := ⟨2, ![256, 8]⟩
abbrev S8x256 : Shape := ⟨2, ![8, 256]⟩
abbrev S1x8x256 : Shape := ⟨3, ![1, 8, 256]⟩
abbrev S24x64x32x1 : Shape := ⟨4, ![24, 64, 32, 1]⟩
abbrev S24x64x32 : Shape := ⟨3, ![24, 64, 32]⟩
abbrev S24x64x1 : Shape := ⟨3, ![24, 64, 1]⟩
abbrev S24x32x1 : Shape := ⟨3, ![24, 32, 1]⟩
abbrev S128x24x32 : Shape := ⟨3, ![128, 24, 32]⟩
abbrev S24x128x32 : Shape := ⟨3, ![24, 128, 32]⟩
abbrev S32x1 : Shape := ⟨2, ![32, 1]⟩
abbrev S128x1 : Shape := ⟨2, ![128, 1]⟩
abbrev S1x1 : Shape := ⟨2, ![1, 1]⟩
abbrev S16x1000 : Shape := ⟨2, ![16, 1000]⟩
abbrev S24x257x32x256 : Shape := ⟨4, ![24, 257, 32, 256]⟩
abbrev S1x64x32 : Shape := ⟨3, ![1, 64, 32]⟩
abbrev S1x64x1 : Shape := ⟨3, ![1, 64, 1]⟩
abbrev S1x32x32 : Shape := ⟨3, ![1, 32, 32]⟩
abbrev S1x32x1 : Shape := ⟨3, ![1, 32, 1]⟩
abbrev S1x128x32 : Shape := ⟨3, ![1, 128, 32]⟩
abbrev S1x257x32x256 : Shape := ⟨4, ![1, 257, 32, 256]⟩
abbrev S3x32x256x256 : Shape := ⟨4, ![3, 32, 256, 256]⟩
abbrev S32x256 : Shape := ⟨2, ![32, 256]⟩
abbrev S128x256 : Shape := ⟨2, ![128, 256]⟩
abbrev S3x32 : Shape := ⟨2, ![3, 32]⟩
abbrev S_ : Shape := ⟨0, ![]⟩
abbrev S1x1x256x256 : Shape := ⟨4, ![1, 1, 256, 256]⟩
abbrev S256x256 : Shape := ⟨2, ![256, 256]⟩
abbrev S1x256x1x256 : Shape := ⟨4, ![1, 256, 1, 256]⟩
abbrev S1000x1 : Shape := ⟨2, ![1000, 1]⟩
abbrev S1000x256 : Shape := ⟨2, ![1000, 256]⟩
abbrev S16x256 : Shape := ⟨2, ![16, 256]⟩
abbrev S32x8 : Shape := ⟨2, ![32, 8]⟩
abbrev S32x16 : Shape := ⟨2, ![32, 16]⟩
abbrev S1x32x256x256 : Shape := ⟨4, ![1, 32, 256, 256]⟩
abbrev S32x256x256 : Shape := ⟨3, ![32, 256, 256]⟩
abbrev S256x32x256 : Shape := ⟨3, ![256, 32, 256]⟩
abbrev S1x256x32x256 : Shape := ⟨4, ![1, 256, 32, 256]⟩
abbrev S1x1x32x256 : Shape := ⟨4, ![1, 1, 32, 256]⟩
abbrev S64x32 : Shape := ⟨2, ![64, 32]⟩
abbrev S64x256 : Shape := ⟨2, ![64, 256]⟩
abbrev S64x1 : Shape := ⟨2, ![64, 1]⟩
abbrev S32x32 : Shape := ⟨2, ![32, 32]⟩
abbrev S128x32 : Shape := ⟨2, ![128, 32]⟩
abbrev S24x256x32x257 : Shape := ⟨4, ![24, 256, 32, 257]⟩

abbrev nBuf : Space → Nat
  | .hbm => 43
  | .vmem => 31
  | .smem => 0
  | _ => 0

abbrev bufTy : (tb : Table) → Fin (tcTables nBuf tb) → BufTy
  | .hbm, ⟨0, _⟩ => ⟨S24x256x32x256, .f32⟩
  | .hbm, ⟨1, _⟩ => ⟨S256x1x1, .f32⟩
  | .hbm, ⟨2, _⟩ => ⟨S256x8x1, .f32⟩
  | .hbm, ⟨3, _⟩ => ⟨S256x1x1, .i32⟩
  | .hbm, ⟨4, _⟩ => ⟨S1000x16, .f32⟩
  | .hbm, ⟨5, _⟩ => ⟨S32x25, .f32⟩
  | .hbm, ⟨6, _⟩ => ⟨S32, .f32⟩
  | .hbm, ⟨7, _⟩ => ⟨S24x64x32x2, .f32⟩
  | .hbm, ⟨8, _⟩ => ⟨S24x64, .f32⟩
  | .hbm, ⟨9, _⟩ => ⟨S24x32x32, .f32⟩
  | .hbm, ⟨10, _⟩ => ⟨S24x32, .f32⟩
  | .hbm, ⟨11, _⟩ => ⟨S24x32x32, .f32⟩
  | .hbm, ⟨12, _⟩ => ⟨S24x32, .f32⟩
  | .hbm, ⟨13, _⟩ => ⟨S128x768, .f32⟩
  | .hbm, ⟨14, _⟩ => ⟨S128, .f32⟩
  | .hbm, ⟨15, _⟩ => ⟨S1x128, .f32⟩
  | .hbm, ⟨16, _⟩ => ⟨S1, .f32⟩
  | .hbm, ⟨17, _⟩ => ⟨S256x1, .f32⟩
  | .hbm, ⟨18, _⟩ => ⟨S1x256, .f32⟩
  | .hbm, ⟨19, _⟩ => ⟨S1x1x256, .f32⟩
  | .hbm, ⟨20, _⟩ => ⟨S256x8, .f32⟩
  | .hbm, ⟨21, _⟩ => ⟨S8x256, .f32⟩
  | .hbm, ⟨22, _⟩ => ⟨S1x8x256, .f32⟩
  | .hbm, ⟨23, _⟩ => ⟨S256x1, .i32⟩
  | .hbm, ⟨24, _⟩ => ⟨S1x256, .i32⟩
  | .hbm, ⟨25, _⟩ => ⟨S1x1x256, .i32⟩
  | .hbm, ⟨26, _⟩ => ⟨S24x64x32x1, .f32⟩
  | .hbm, ⟨27, _⟩ => ⟨S24x64x32, .f32⟩
  | .hbm, ⟨28, _⟩ => ⟨S24x64x32x1, .f32⟩
  | .hbm, ⟨29, _⟩ => ⟨S24x64x32, .f32⟩
  | .hbm, ⟨30, _⟩ => ⟨S24x64x1, .f32⟩
  | .hbm, ⟨31, _⟩ => ⟨S24x32x1, .f32⟩
  | .hbm, ⟨32, _⟩ => ⟨S24x32x1, .f32⟩
  | .hbm, ⟨33, _⟩ => ⟨S128x24x32, .f32⟩
  | .hbm, ⟨34, _⟩ => ⟨S24x128x32, .f32⟩
  | .hbm, ⟨35, _⟩ => ⟨S32x1, .f32⟩
  | .hbm, ⟨36, _⟩ => ⟨S128x1, .f32⟩
  | .hbm, ⟨37, _⟩ => ⟨S1x1, .f32⟩
  | .hbm, ⟨38, _⟩ => ⟨S16x1000, .f32⟩
  | .hbm, ⟨39, _⟩ => ⟨S1x1x256, .f32⟩
  | .hbm, ⟨40, _⟩ => ⟨S24x257x32x256, .f32⟩
  | .hbm, ⟨41, _⟩ => ⟨S256x1x1, .f32⟩
  | .hbm, ⟨42, _⟩ => ⟨S24x256x32x257, .f32⟩
  | .local _ .vmem, ⟨0, _⟩ => ⟨S1x1x256, .f32⟩
  | .local _ .vmem, ⟨1, _⟩ => ⟨S1x8x256, .f32⟩
  | .local _ .vmem, ⟨2, _⟩ => ⟨S1x1x256, .i32⟩
  | .local _ .vmem, ⟨3, _⟩ => ⟨S16x1000, .f32⟩
  | .local _ .vmem, ⟨4, _⟩ => ⟨S32x25, .f32⟩
  | .local _ .vmem, ⟨5, _⟩ => ⟨S32x1, .f32⟩
  | .local _ .vmem, ⟨6, _⟩ => ⟨S1x64x32, .f32⟩
  | .local _ .vmem, ⟨7, _⟩ => ⟨S1x64x32, .f32⟩
  | .local _ .vmem, ⟨8, _⟩ => ⟨S1x64x32, .f32⟩
  | .local _ .vmem, ⟨9, _⟩ => ⟨S1x64x32, .f32⟩
  | .local _ .vmem, ⟨10, _⟩ => ⟨S1x64x1, .f32⟩
  | .local _ .vmem, ⟨11, _⟩ => ⟨S1x64x1, .f32⟩
  | .local _ .vmem, ⟨12, _⟩ => ⟨S1x32x32, .f32⟩
  | .local _ .vmem, ⟨13, _⟩ => ⟨S1x32x32, .f32⟩
  | .local _ .vmem, ⟨14, _⟩ => ⟨S1x32x1, .f32⟩
  | .local _ .vmem, ⟨15, _⟩ => ⟨S1x32x1, .f32⟩
  | .local _ .vmem, ⟨16, _⟩ => ⟨S1x32x32, .f32⟩
  | .local _ .vmem, ⟨17, _⟩ => ⟨S1x32x32, .f32⟩
  | .local _ .vmem, ⟨18, _⟩ => ⟨S1x32x1, .f32⟩
  | .local _ .vmem, ⟨19, _⟩ => ⟨S1x32x1, .f32⟩
  | .local _ .vmem, ⟨20, _⟩ => ⟨S1x128x32, .f32⟩
  | .local _ .vmem, ⟨21, _⟩ => ⟨S1x128x32, .f32⟩
  | .local _ .vmem, ⟨22, _⟩ => ⟨S128x1, .f32⟩
  | .local _ .vmem, ⟨23, _⟩ => ⟨S1x128, .f32⟩
  | .local _ .vmem, ⟨24, _⟩ => ⟨S1x1, .f32⟩
  | .local _ .vmem, ⟨25, _⟩ => ⟨S1x1x256, .f32⟩
  | .local _ .vmem, ⟨26, _⟩ => ⟨S1x257x32x256, .f32⟩
  | .local _ .vmem, ⟨27, _⟩ => ⟨S1x257x32x256, .f32⟩
  | .local _ .vmem, ⟨28, _⟩ => ⟨S3x32x256x256, .f32⟩
  | .local _ .vmem, ⟨29, _⟩ => ⟨S32x256, .f32⟩
  | .local _ .vmem, ⟨30, _⟩ => ⟨S128x256, .f32⟩
  | _, _ => ⟨S24x256x32x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 124 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | _ => false

abbrev sig : RefSig :=
  ofTc nBuf bufTy 0 124 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22_0 : Ref sig .tc := ⟨.hbm, 39, rfl⟩
abbrev main_v22_1 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_stg18_0 : Ref sig .tc := ⟨.vmem, 26, rfl⟩
abbrev cc0_stg18_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23
abbrev cc0_sem16_0 : DmaSem sig := 24
abbrev cc0_sem17_0 : DmaSem sig := 25
abbrev cc0_sem18_0 : DmaSem sig := 26
abbrev cc0_sem18_1 : DmaSem sig := 27

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c2_i32 : BitVec 32 := 2#32
  let v13 : BitVec 32 := Scalar.addi arg0 c2_i32
  let c24_i32 : BitVec 32 := 24#32
  let v14 : BitVec 1 := Scalar.cmpi .slt v13 c24_i32
  let v15 : BitVec 32 := Scalar.extui v14
  let c0_i32_5 : BitVec 32 := 0#32
  let v16 : BitVec 1 := Scalar.cmpi .ne v15 c0_i32_5
  v16

def k0_off1 (i : grid0.Coords) : Fin 2 → Nat :=
  let arg0 : BitVec 32 := BitVec.ofNat 32 (i 0).val
  let c2_i32_260 : BitVec 32 := 2#32
  let v281 : BitVec 32 := Scalar.addi arg0 c2_i32_260
  let c3_i32_261 : BitVec 32 := 3#32
  let c0_i32_262 : BitVec 32 := 0#32
  let v282 : BitVec 1 := Scalar.cmpi .eq c3_i32_261 c0_i32_262
  let c1_i32_263 : BitVec 32 := 1#32
  let v283 : BitVec 32 := Scalar.select v282 c1_i32_263 c3_i32_261
  let v284 : BitVec 32 := Scalar.remsi v281 v283
  let c0_i32_265 : BitVec 32 := 0#32
  let v286 : BitVec 1 := Scalar.cmpi .slt v284 c0_i32_265
  let c0_i32_266 : BitVec 32 := 0#32
  let v287 : BitVec 1 := Scalar.cmpi .slt v283 c0_i32_266
  let v288 : BitVec 1 := Scalar.xori v286 v287
  let c0_i32_264 : BitVec 32 := 0#32
  let v285 : BitVec 1 := Scalar.cmpi .ne v284 c0_i32_264
  let v289 : BitVec 1 := Scalar.andi v288 v285
  let v290 : BitVec 32 := Scalar.addi v284 v283
  let v291 : BitVec 32 := Scalar.select v289 v290 v284
  let c0_i32_269 : BitVec 32 := 0#32
  ![v291.toNat, 0]
def k0_off2 (i : grid0.Coords) : Fin 4 → Nat :=
  let arg0 : BitVec 32 := BitVec.ofNat 32 (i 0).val
  let c2_i32_260 : BitVec 32 := 2#32
  let v281 : BitVec 32 := Scalar.addi arg0 c2_i32_260
  let c3_i32_261 : BitVec 32 := 3#32
  let c0_i32_262 : BitVec 32 := 0#32
  let v282 : BitVec 1 := Scalar.cmpi .eq c3_i32_261 c0_i32_262
  let c1_i32_263 : BitVec 32 := 1#32
  let v283 : BitVec 32 := Scalar.select v282 c1_i32_263 c3_i32_261
  let v284 : BitVec 32 := Scalar.remsi v281 v283
  let c0_i32_265 : BitVec 32 := 0#32
  let v286 : BitVec 1 := Scalar.cmpi .slt v284 c0_i32_265
  let c0_i32_266 : BitVec 32 := 0#32
  let v287 : BitVec 1 := Scalar.cmpi .slt v283 c0_i32_266
  let v288 : BitVec 1 := Scalar.xori v286 v287
  let c0_i32_264 : BitVec 32 := 0#32
  let v285 : BitVec 1 := Scalar.cmpi .ne v284 c0_i32_264
  let v289 : BitVec 1 := Scalar.andi v288 v285
  let v290 : BitVec 32 := Scalar.addi v284 v283
  let v291 : BitVec 32 := Scalar.select v289 v290 v284
  let c0_i32_268 : BitVec 32 := 0#32
  let c0_i32_270 : BitVec 32 := 0#32
  let c0_i32_271 : BitVec 32 := 0#32
  ![v291.toNat, 0, 0, 0]
def k0_off3 (i : grid0.Coords) : Fin 4 → Nat :=
  let arg0 : BitVec 32 := BitVec.ofNat 32 (i 0).val
  let c2_i32_259 : BitVec 32 := 2#32
  let v280 : BitVec 32 := Scalar.addi arg0 c2_i32_259
  let c0_i32_272 : BitVec 32 := 0#32
  let c0_i32_267 : BitVec 32 := 0#32
  let c0_i32_273 : BitVec 32 := 0#32
  ![v280.toNat, 0, 0, 0]
def k0_off4 (i : grid0.Coords) : Fin 2 → Nat :=
  let arg0 : BitVec 32 := BitVec.ofNat 32 (i 0).val
  let c2_i32_275 : BitVec 32 := 2#32
  let v299 : BitVec 32 := Scalar.addi arg0 c2_i32_275
  let c3_i32_276 : BitVec 32 := 3#32
  let c0_i32_277 : BitVec 32 := 0#32
  let v300 : BitVec 1 := Scalar.cmpi .eq c3_i32_276 c0_i32_277
  let c1_i32_278 : BitVec 32 := 1#32
  let v301 : BitVec 32 := Scalar.select v300 c1_i32_278 c3_i32_276
  let v302 : BitVec 32 := Scalar.remsi v299 v301
  let c0_i32_280 : BitVec 32 := 0#32
  let v304 : BitVec 1 := Scalar.cmpi .slt v302 c0_i32_280
  let c0_i32_281 : BitVec 32 := 0#32
  let v305 : BitVec 1 := Scalar.cmpi .slt v301 c0_i32_281
  let v306 : BitVec 1 := Scalar.xori v304 v305
  let c0_i32_279 : BitVec 32 := 0#32
  let v303 : BitVec 1 := Scalar.cmpi .ne v302 c0_i32_279
  let v307 : BitVec 1 := Scalar.andi v306 v303
  let v308 : BitVec 32 := Scalar.addi v302 v301
  let v309 : BitVec 32 := Scalar.select v307 v308 v302
  let c1_i32_284 : BitVec 32 := 1#32
  ![v309.toNat, 1]
def k0_off5 (i : grid0.Coords) : Fin 4 → Nat :=
  let arg0 : BitVec 32 := BitVec.ofNat 32 (i 0).val
  let c2_i32_275 : BitVec 32 := 2#32
  let v299 : BitVec 32 := Scalar.addi arg0 c2_i32_275
  let c3_i32_276 : BitVec 32 := 3#32
  let c0_i32_277 : BitVec 32 := 0#32
  let v300 : BitVec 1 := Scalar.cmpi .eq c3_i32_276 c0_i32_277
  let c1_i32_278 : BitVec 32 := 1#32
  let v301 : BitVec 32 := Scalar.select v300 c1_i32_278 c3_i32_276
  let v302 : BitVec 32 := Scalar.remsi v299 v301
  let c0_i32_280 : BitVec 32 := 0#32
  let v304 : BitVec 1 := Scalar.cmpi .slt v302 c0_i32_280
  let c0_i32_281 : BitVec 32 := 0#32
  let v305 : BitVec 1 := Scalar.cmpi .slt v301 c0_i32_281
  let v306 : BitVec 1 := Scalar.xori v304 v305
  let c0_i32_279 : BitVec 32 := 0#32
  let v303 : BitVec 1 := Scalar.cmpi .ne v302 c0_i32_279
  let v307 : BitVec 1 := Scalar.andi v306 v303
  let v308 : BitVec 32 := Scalar.addi v302 v301
  let v309 : BitVec 32 := Scalar.select v307 v308 v302
  let c1_i32_283 : BitVec 32 := 1#32
  let c0_i32_285 : BitVec 32 := 0#32
  let c0_i32_286 : BitVec 32 := 0#32
  ![v309.toNat, 1, 0, 0]
def k0_off6 (i : grid0.Coords) : Fin 4 → Nat :=
  let arg0 : BitVec 32 := BitVec.ofNat 32 (i 0).val
  let c2_i32_274 : BitVec 32 := 2#32
  let v298 : BitVec 32 := Scalar.addi arg0 c2_i32_274
  let c0_i32_287 : BitVec 32 := 0#32
  let c1_i32_282 : BitVec 32 := 1#32
  let c0_i32_288 : BitVec 32 := 0#32
  ![v298.toNat, 0, 1, 0]
def k0_off7 (i : grid0.Coords) : Fin 2 → Nat :=
  let arg0 : BitVec 32 := BitVec.ofNat 32 (i 0).val
  let c2_i32_290 : BitVec 32 := 2#32
  let v317 : BitVec 32 := Scalar.addi arg0 c2_i32_290
  let c3_i32_291 : BitVec 32 := 3#32
  let c0_i32_292 : BitVec 32 := 0#32
  let v318 : BitVec 1 := Scalar.cmpi .eq c3_i32_291 c0_i32_292
  let c1_i32_293 : BitVec 32 := 1#32
  let v319 : BitVec 32 := Scalar.select v318 c1_i32_293 c3_i32_291
  let v320 : BitVec 32 := Scalar.remsi v317 v319
  let c0_i32_295 : BitVec 32 := 0#32
  let v322 : BitVec 1 := Scalar.cmpi .slt v320 c0_i32_295
  let c0_i32_296 : BitVec 32 := 0#32
  let v323 : BitVec 1 := Scalar.cmpi .slt v319 c0_i32_296
  let v324 : BitVec 1 := Scalar.xori v322 v323
  let c0_i32_294 : BitVec 32 := 0#32
  let v321 : BitVec 1 := Scalar.cmpi .ne v320 c0_i32_294
  let v325 : BitVec 1 := Scalar.andi v324 v321
  let v326 : BitVec 32 := Scalar.addi v320 v319
  let v327 : BitVec 32 := Scalar.select v325 v326 v320
  let c2_i32_299 : BitVec 32 := 2#32
  ![v327.toNat, 2]
def k0_off8 (i : grid0.Coords) : Fin 4 → Nat :=
  let arg0 : BitVec 32 := BitVec.ofNat 32 (i 0).val
  let c2_i32_290 : BitVec 32 := 2#32
  let v317 : BitVec 32 := Scalar.addi arg0 c2_i32_290
  let c3_i32_291 : BitVec 32 := 3#32
  let c0_i32_292 : BitVec 32 := 0#32
  let v318 : BitVec 1 := Scalar.cmpi .eq c3_i32_291 c0_i32_292
  let c1_i32_293 : BitVec 32 := 1#32
  let v319 : BitVec 32 := Scalar.select v318 c1_i32_293 c3_i32_291
  let v320 : BitVec 32 := Scalar.remsi v317 v319
  let c0_i32_295 : BitVec 32 := 0#32
  let v322 : BitVec 1 := Scalar.cmpi .slt v320 c0_i32_295
  let c0_i32_296 : BitVec 32 := 0#32
  let v323 : BitVec 1 := Scalar.cmpi .slt v319 c0_i32_296
  let v324 : BitVec 1 := Scalar.xori v322 v323
  let c0_i32_294 : BitVec 32 := 0#32
  let v321 : BitVec 1 := Scalar.cmpi .ne v320 c0_i32_294
  let v325 : BitVec 1 := Scalar.andi v324 v321
  let v326 : BitVec 32 := Scalar.addi v320 v319
  let v327 : BitVec 32 := Scalar.select v325 v326 v320
  let c2_i32_298 : BitVec 32 := 2#32
  let c0_i32_300 : BitVec 32 := 0#32
  let c0_i32_301 : BitVec 32 := 0#32
  ![v327.toNat, 2, 0, 0]
def k0_off9 (i : grid0.Coords) : Fin 4 → Nat :=
  let arg0 : BitVec 32 := BitVec.ofNat 32 (i 0).val
  let c2_i32_289 : BitVec 32 := 2#32
  let v316 : BitVec 32 := Scalar.addi arg0 c2_i32_289
  let c0_i32_302 : BitVec 32 := 0#32
  let c2_i32_297 : BitVec 32 := 2#32
  let c0_i32_303 : BitVec 32 := 0#32
  ![v316.toNat, 0, 2, 0]
def k0_off10 (i : grid0.Coords) : Fin 2 → Nat :=
  let arg0 : BitVec 32 := BitVec.ofNat 32 (i 0).val
  let c2_i32_305 : BitVec 32 := 2#32
  let v335 : BitVec 32 := Scalar.addi arg0 c2_i32_305
  let c3_i32_306 : BitVec 32 := 3#32
  let c0_i32_307 : BitVec 32 := 0#32
  let v336 : BitVec 1 := Scalar.cmpi .eq c3_i32_306 c0_i32_307
  let c1_i32_308 : BitVec 32 := 1#32
  let v337 : BitVec 32 := Scalar.select v336 c1_i32_308 c3_i32_306
  let v338 : BitVec 32 := Scalar.remsi v335 v337
  let c0_i32_310 : BitVec 32 := 0#32
  let v340 : BitVec 1 := Scalar.cmpi .slt v338 c0_i32_310
  let c0_i32_311 : BitVec 32 := 0#32
  let v341 : BitVec 1 := Scalar.cmpi .slt v337 c0_i32_311
  let v342 : BitVec 1 := Scalar.xori v340 v341
  let c0_i32_309 : BitVec 32 := 0#32
  let v339 : BitVec 1 := Scalar.cmpi .ne v338 c0_i32_309
  let v343 : BitVec 1 := Scalar.andi v342 v339
  let v344 : BitVec 32 := Scalar.addi v338 v337
  let v345 : BitVec 32 := Scalar.select v343 v344 v338
  let c3_i32_314 : BitVec 32 := 3#32
  ![v345.toNat, 3]
def k0_off11 (i : grid0.Coords) : Fin 4 → Nat :=
  let arg0 : BitVec 32 := BitVec.ofNat 32 (i 0).val
  let c2_i32_305 : BitVec 32 := 2#32
  let v335 : BitVec 32 := Scalar.addi arg0 c2_i32_305
  let c3_i32_306 : BitVec 32 := 3#32
  let c0_i32_307 : BitVec 32 := 0#32
  let v336 : BitVec 1 := Scalar.cmpi .eq c3_i32_306 c0_i32_307
  let c1_i32_308 : BitVec 32 := 1#32
  let v337 : BitVec 32 := Scalar.select v336 c1_i32_308 c3_i32_306
  let v338 : BitVec 32 := Scalar.remsi v335 v337
  let c0_i32_310 : BitVec 32 := 0#32
  let v340 : BitVec 1 := Scalar.cmpi .slt v338 c0_i32_310
  let c0_i32_311 : BitVec 32 := 0#32
  let v341 : BitVec 1 := Scalar.cmpi .slt v337 c0_i32_311
  let v342 : BitVec 1 := Scalar.xori v340 v341
  let c0_i32_309 : BitVec 32 := 0#32
  let v339 : BitVec 1 := Scalar.cmpi .ne v338 c0_i32_309
  let v343 : BitVec 1 := Scalar.andi v342 v339
  let v344 : BitVec 32 := Scalar.addi v338 v337
  let v345 : BitVec 32 := Scalar.select v343 v344 v338
  let c3_i32_313 : BitVec 32 := 3#32
  let c0_i32_315 : BitVec 32 := 0#32
  let c0_i32_316 : BitVec 32 := 0#32
  ![v345.toNat, 3, 0, 0]
def k0_off12 (i : grid0.Coords) : Fin 4 → Nat :=
  let arg0 : BitVec 32 := BitVec.ofNat 32 (i 0).val
  let c2_i32_304 : BitVec 32 := 2#32
  let v334 : BitVec 32 := Scalar.addi arg0 c2_i32_304
  let c0_i32_317 : BitVec 32 := 0#32
  let c3_i32_312 : BitVec 32 := 3#32
  let c0_i32_318 : BitVec 32 := 0#32
  ![v334.toNat, 0, 3, 0]
def k0_off13 (i : grid0.Coords) : Fin 2 → Nat :=
  let arg0 : BitVec 32 := BitVec.ofNat 32 (i 0).val
  let c2_i32_320 : BitVec 32 := 2#32
  let v353 : BitVec 32 := Scalar.addi arg0 c2_i32_320
  let c3_i32_321 : BitVec 32 := 3#32
  let c0_i32_322 : BitVec 32 := 0#32
  let v354 : BitVec 1 := Scalar.cmpi .eq c3_i32_321 c0_i32_322
  let c1_i32_323 : BitVec 32 := 1#32
  let v355 : BitVec 32 := Scalar.select v354 c1_i32_323 c3_i32_321
  let v356 : BitVec 32 := Scalar.remsi v353 v355
  let c0_i32_325 : BitVec 32 := 0#32
  let v358 : BitVec 1 := Scalar.cmpi .slt v356 c0_i32_325
  let c0_i32_326 : BitVec 32 := 0#32
  let v359 : BitVec 1 := Scalar.cmpi .slt v355 c0_i32_326
  let v360 : BitVec 1 := Scalar.xori v358 v359
  let c0_i32_324 : BitVec 32 := 0#32
  let v357 : BitVec 1 := Scalar.cmpi .ne v356 c0_i32_324
  let v361 : BitVec 1 := Scalar.andi v360 v357
  let v362 : BitVec 32 := Scalar.addi v356 v355
  let v363 : BitVec 32 := Scalar.select v361 v362 v356
  let c4_i32_329 : BitVec 32 := 4#32
  ![v363.toNat, 4]
def k0_off14 (i : grid0.Coords) : Fin 4 → Nat :=
  let arg0 : BitVec 32 := BitVec.ofNat 32 (i 0).val
  let c2_i32_320 : BitVec 32 := 2#32
  let v353 : BitVec 32 := Scalar.addi arg0 c2_i32_320
  let c3_i32_321 : BitVec 32 := 3#32
  let c0_i32_322 : BitVec 32 := 0#32
  let v354 : BitVec 1 := Scalar.cmpi .eq c3_i32_321 c0_i32_322
  let c1_i32_323 : BitVec 32 := 1#32
  let v355 : BitVec 32 := Scalar.select v354 c1_i32_323 c3_i32_321
  let v356 : BitVec 32 := Scalar.remsi v353 v355
  let c0_i32_325 : BitVec 32 := 0#32
  let v358 : BitVec 1 := Scalar.cmpi .slt v356 c0_i32_325
  let c0_i32_326 : BitVec 32 := 0#32
  let v359 : BitVec 1 := Scalar.cmpi .slt v355 c0_i32_326
  let v360 : BitVec 1 := Scalar.xori v358 v359
  let c0_i32_324 : BitVec 32 := 0#32
  let v357 : BitVec 1 := Scalar.cmpi .ne v356 c0_i32_324
  let v361 : BitVec 1 := Scalar.andi v360 v357
  let v362 : BitVec 32 := Scalar.addi v356 v355
  let v363 : BitVec 32 := Scalar.select v361 v362 v356
  let c4_i32_328 : BitVec 32 := 4#32
  let c0_i32_330 : BitVec 32 := 0#32
  let c0_i32_331 : BitVec 32 := 0#32
  ![v363.toNat, 4, 0, 0]
def k0_off15 (i : grid0.Coords) : Fin 4 → Nat :=
  let arg0 : BitVec 32 := BitVec.ofNat 32 (i 0).val
  let c2_i32_319 : BitVec 32 := 2#32
  let v352 : BitVec 32 := Scalar.addi arg0 c2_i32_319
  let c0_i32_332 : BitVec 32 := 0#32
  let c4_i32_327 : BitVec 32 := 4#32
  let c0_i32_333 : BitVec 32 := 0#32
  ![v352.toNat, 0, 4, 0]
def k0_off16 (i : grid0.Coords) : Fin 2 → Nat :=
  let arg0 : BitVec 32 := BitVec.ofNat 32 (i 0).val
  let c2_i32_335 : BitVec 32 := 2#32
  let v371 : BitVec 32 := Scalar.addi arg0 c2_i32_335
  let c3_i32_336 : BitVec 32 := 3#32
  let c0_i32_337 : BitVec 32 := 0#32
  let v372 : BitVec 1 := Scalar.cmpi .eq c3_i32_336 c0_i32_337
  let c1_i32_338 : BitVec 32 := 1#32
  let v373 : BitVec 32 := Scalar.select v372 c1_i32_338 c3_i32_336
  let v374 : BitVec 32 := Scalar.remsi v371 v373
  let c0_i32_340 : BitVec 32 := 0#32
  let v376 : BitVec 1 := Scalar.cmpi .slt v374 c0_i32_340
  let c0_i32_341 : BitVec 32 := 0#32
  let v377 : BitVec 1 := Scalar.cmpi .slt v373 c0_i32_341
  let v378 : BitVec 1 := Scalar.xori v376 v377
  let c0_i32_339 : BitVec 32 := 0#32
  let v375 : BitVec 1 := Scalar.cmpi .ne v374 c0_i32_339
  let v379 : BitVec 1 := Scalar.andi v378 v375
  let v380 : BitVec 32 := Scalar.addi v374 v373
  let v381 : BitVec 32 := Scalar.select v379 v380 v374
  let c5_i32_344 : BitVec 32 := 5#32
  ![v381.toNat, 5]
def k0_off17 (i : grid0.Coords) : Fin 4 → Nat :=
  let arg0 : BitVec 32 := BitVec.ofNat 32 (i 0).val
  let c2_i32_335 : BitVec 32 := 2#32
  let v371 : BitVec 32 := Scalar.addi arg0 c2_i32_335
  let c3_i32_336 : BitVec 32 := 3#32
  let c0_i32_337 : BitVec 32 := 0#32
  let v372 : BitVec 1 := Scalar.cmpi .eq c3_i32_336 c0_i32_337
  let c1_i32_338 : BitVec 32 := 1#32
  let v373 : BitVec 32 := Scalar.select v372 c1_i32_338 c3_i32_336
  let v374 : BitVec 32 := Scalar.remsi v371 v373
  let c0_i32_340 : BitVec 32 := 0#32
  let v376 : BitVec 1 := Scalar.cmpi .slt v374 c0_i32_340
  let c0_i32_341 : BitVec 32 := 0#32
  let v377 : BitVec 1 := Scalar.cmpi .slt v373 c0_i32_341
  let v378 : BitVec 1 := Scalar.xori v376 v377
  let c0_i32_339 : BitVec 32 := 0#32
  let v375 : BitVec 1 := Scalar.cmpi .ne v374 c0_i32_339
  let v379 : BitVec 1 := Scalar.andi v378 v375
  let v380 : BitVec 32 := Scalar.addi v374 v373
  let v381 : BitVec 32 := Scalar.select v379 v380 v374
  let c5_i32_343 : BitVec 32 := 5#32
  let c0_i32_345 : BitVec 32 := 0#32
  let c0_i32_346 : BitVec 32 := 0#32
  ![v381.toNat, 5, 0, 0]
def k0_off18 (i : grid0.Coords) : Fin 4 → Nat :=
  let arg0 : BitVec 32 := BitVec.ofNat 32 (i 0).val
  let c2_i32_334 : BitVec 32 := 2#32
  let v370 : BitVec 32 := Scalar.addi arg0 c2_i32_334
  let c0_i32_347 : BitVec 32 := 0#32
  let c5_i32_342 : BitVec 32 := 5#32
  let c0_i32_348 : BitVec 32 := 0#32
  ![v370.toNat, 0, 5, 0]
def k0_off19 (i : grid0.Coords) : Fin 2 → Nat :=
  let arg0 : BitVec 32 := BitVec.ofNat 32 (i 0).val
  let c2_i32_350 : BitVec 32 := 2#32
  let v389 : BitVec 32 := Scalar.addi arg0 c2_i32_350
  let c3_i32_351 : BitVec 32 := 3#32
  let c0_i32_352 : BitVec 32 := 0#32
  let v390 : BitVec 1 := Scalar.cmpi .eq c3_i32_351 c0_i32_352
  let c1_i32_353 : BitVec 32 := 1#32
  let v391 : BitVec 32 := Scalar.select v390 c1_i32_353 c3_i32_351
  let v392 : BitVec 32 := Scalar.remsi v389 v391
  let c0_i32_355 : BitVec 32 := 0#32
  let v394 : BitVec 1 := Scalar.cmpi .slt v392 c0_i32_355
  let c0_i32_356 : BitVec 32 := 0#32
  let v395 : BitVec 1 := Scalar.cmpi .slt v391 c0_i32_356
  let v396 : BitVec 1 := Scalar.xori v394 v395
  let c0_i32_354 : BitVec 32 := 0#32
  let v393 : BitVec 1 := Scalar.cmpi .ne v392 c0_i32_354
  let v397 : BitVec 1 := Scalar.andi v396 v393
  let v398 : BitVec 32 := Scalar.addi v392 v391
  let v399 : BitVec 32 := Scalar.select v397 v398 v392
  let c6_i32_359 : BitVec 32 := 6#32
  ![v399.toNat, 6]
def k0_off20 (i : grid0.Coords) : Fin 4 → Nat :=
  let arg0 : BitVec 32 := BitVec.ofNat 32 (i 0).val
  let c2_i32_350 : BitVec 32 := 2#32
  let v389 : BitVec 32 := Scalar.addi arg0 c2_i32_350
  let c3_i32_351 : BitVec 32 := 3#32
  let c0_i32_352 : BitVec 32 := 0#32
  let v390 : BitVec 1 := Scalar.cmpi .eq c3_i32_351 c0_i32_352
  let c1_i32_353 : BitVec 32 := 1#32
  let v391 : BitVec 32 := Scalar.select v390 c1_i32_353 c3_i32_351
  let v392 : BitVec 32 := Scalar.remsi v389 v391
  let c0_i32_355 : BitVec 32 := 0#32
  let v394 : BitVec 1 := Scalar.cmpi .slt v392 c0_i32_355
  let c0_i32_356 : BitVec 32 := 0#32
  let v395 : BitVec 1 := Scalar.cmpi .slt v391 c0_i32_356
  let v396 : BitVec 1 := Scalar.xori v394 v395
  let c0_i32_354 : BitVec 32 := 0#32
  let v393 : BitVec 1 := Scalar.cmpi .ne v392 c0_i32_354
  let v397 : BitVec 1 := Scalar.andi v396 v393
  let v398 : BitVec 32 := Scalar.addi v392 v391
  let v399 : BitVec 32 := Scalar.select v397 v398 v392
  let c6_i32_358 : BitVec 32 := 6#32
  let c0_i32_360 : BitVec 32 := 0#32
  let c0_i32_361 : BitVec 32 := 0#32
  ![v399.toNat, 6, 0, 0]
def k0_off21 (i : grid0.Coords) : Fin 4 → Nat :=
  let arg0 : BitVec 32 := BitVec.ofNat 32 (i 0).val
  let c2_i32_349 : BitVec 32 := 2#32
  let v388 : BitVec 32 := Scalar.addi arg0 c2_i32_349
  let c0_i32_362 : BitVec 32 := 0#32
  let c6_i32_357 : BitVec 32 := 6#32
  let c0_i32_363 : BitVec 32 := 0#32
  ![v388.toNat, 0, 6, 0]
def k0_off22 (i : grid0.Coords) : Fin 2 → Nat :=
  let arg0 : BitVec 32 := BitVec.ofNat 32 (i 0).val
  let c2_i32_365 : BitVec 32 := 2#32
  let v407 : BitVec 32 := Scalar.addi arg0 c2_i32_365
  let c3_i32_366 : BitVec 32 := 3#32
  let c0_i32_367 : BitVec 32 := 0#32
  let v408 : BitVec 1 := Scalar.cmpi .eq c3_i32_366 c0_i32_367
  let c1_i32_368 : BitVec 32 := 1#32
  let v409 : BitVec 32 := Scalar.select v408 c1_i32_368 c3_i32_366
  let v410 : BitVec 32 := Scalar.remsi v407 v409
  let c0_i32_370 : BitVec 32 := 0#32
  let v412 : BitVec 1 := Scalar.cmpi .slt v410 c0_i32_370
  let c0_i32_371 : BitVec 32 := 0#32
  let v413 : BitVec 1 := Scalar.cmpi .slt v409 c0_i32_371
  let v414 : BitVec 1 := Scalar.xori v412 v413
  let c0_i32_369 : BitVec 32 := 0#32
  let v411 : BitVec 1 := Scalar.cmpi .ne v410 c0_i32_369
  let v415 : BitVec 1 := Scalar.andi v414 v411
  let v416 : BitVec 32 := Scalar.addi v410 v409
  let v417 : BitVec 32 := Scalar.select v415 v416 v410
  let c7_i32_374 : BitVec 32 := 7#32
  ![v417.toNat, 7]
def k0_off23 (i : grid0.Coords) : Fin 4 → Nat :=
  let arg0 : BitVec 32 := BitVec.ofNat 32 (i 0).val
  let c2_i32_365 : BitVec 32 := 2#32
  let v407 : BitVec 32 := Scalar.addi arg0 c2_i32_365
  let c3_i32_366 : BitVec 32 := 3#32
  let c0_i32_367 : BitVec 32 := 0#32
  let v408 : BitVec 1 := Scalar.cmpi .eq c3_i32_366 c0_i32_367
  let c1_i32_368 : BitVec 32 := 1#32
  let v409 : BitVec 32 := Scalar.select v408 c1_i32_368 c3_i32_366
  let v410 : BitVec 32 := Scalar.remsi v407 v409
  let c0_i32_370 : BitVec 32 := 0#32
  let v412 : BitVec 1 := Scalar.cmpi .slt v410 c0_i32_370
  let c0_i32_371 : BitVec 32 := 0#32
  let v413 : BitVec 1 := Scalar.cmpi .slt v409 c0_i32_371
  let v414 : BitVec 1 := Scalar.xori v412 v413
  let c0_i32_369 : BitVec 32 := 0#32
  let v411 : BitVec 1 := Scalar.cmpi .ne v410 c0_i32_369
  let v415 : BitVec 1 := Scalar.andi v414 v411
  let v416 : BitVec 32 := Scalar.addi v410 v409
  let v417 : BitVec 32 := Scalar.select v415 v416 v410
  let c7_i32_373 : BitVec 32 := 7#32
  let c0_i32_375 : BitVec 32 := 0#32
  let c0_i32_376 : BitVec 32 := 0#32
  ![v417.toNat, 7, 0, 0]
def k0_off24 (i : grid0.Coords) : Fin 4 → Nat :=
  let arg0 : BitVec 32 := BitVec.ofNat 32 (i 0).val
  let c2_i32_364 : BitVec 32 := 2#32
  let v406 : BitVec 32 := Scalar.addi arg0 c2_i32_364
  let c0_i32_377 : BitVec 32 := 0#32
  let c7_i32_372 : BitVec 32 := 7#32
  let c0_i32_378 : BitVec 32 := 0#32
  ![v406.toNat, 0, 7, 0]
def k0_off25 (i : grid0.Coords) : Fin 2 → Nat :=
  let arg0 : BitVec 32 := BitVec.ofNat 32 (i 0).val
  let c2_i32_380 : BitVec 32 := 2#32
  let v425 : BitVec 32 := Scalar.addi arg0 c2_i32_380
  let c3_i32_381 : BitVec 32 := 3#32
  let c0_i32_382 : BitVec 32 := 0#32
  let v426 : BitVec 1 := Scalar.cmpi .eq c3_i32_381 c0_i32_382
  let c1_i32_383 : BitVec 32 := 1#32
  let v427 : BitVec 32 := Scalar.select v426 c1_i32_383 c3_i32_381
  let v428 : BitVec 32 := Scalar.remsi v425 v427
  let c0_i32_385 : BitVec 32 := 0#32
  let v430 : BitVec 1 := Scalar.cmpi .slt v428 c0_i32_385
  let c0_i32_386 : BitVec 32 := 0#32
  let v431 : BitVec 1 := Scalar.cmpi .slt v427 c0_i32_386
  let v432 : BitVec 1 := Scalar.xori v430 v431
  let c0_i32_384 : BitVec 32 := 0#32
  let v429 : BitVec 1 := Scalar.cmpi .ne v428 c0_i32_384
  let v433 : BitVec 1 := Scalar.andi v432 v429
  let v434 : BitVec 32 := Scalar.addi v428 v427
  let v435 : BitVec 32 := Scalar.select v433 v434 v428
  let c8_i32_389 : BitVec 32 := 8#32
  ![v435.toNat, 8]
def k0_off26 (i : grid0.Coords) : Fin 4 → Nat :=
  let arg0 : BitVec 32 := BitVec.ofNat 32 (i 0).val
  let c2_i32_380 : BitVec 32 := 2#32
  let v425 : BitVec 32 := Scalar.addi arg0 c2_i32_380
  let c3_i32_381 : BitVec 32 := 3#32
  let c0_i32_382 : BitVec 32 := 0#32
  let v426 : BitVec 1 := Scalar.cmpi .eq c3_i32_381 c0_i32_382
  let c1_i32_383 : BitVec 32 := 1#32
  let v427 : BitVec 32 := Scalar.select v426 c1_i32_383 c3_i32_381
  let v428 : BitVec 32 := Scalar.remsi v425 v427
  let c0_i32_385 : BitVec 32 := 0#32
  let v430 : BitVec 1 := Scalar.cmpi .slt v428 c0_i32_385
  let c0_i32_386 : BitVec 32 := 0#32
  let v431 : BitVec 1 := Scalar.cmpi .slt v427 c0_i32_386
  let v432 : BitVec 1 := Scalar.xori v430 v431
  let c0_i32_384 : BitVec 32 := 0#32
  let v429 : BitVec 1 := Scalar.cmpi .ne v428 c0_i32_384
  let v433 : BitVec 1 := Scalar.andi v432 v429
  let v434 : BitVec 32 := Scalar.addi v428 v427
  let v435 : BitVec 32 := Scalar.select v433 v434 v428
  let c8_i32_388 : BitVec 32 := 8#32
  let c0_i32_390 : BitVec 32 := 0#32
  let c0_i32_391 : BitVec 32 := 0#32
  ![v435.toNat, 8, 0, 0]
def k0_off27 (i : grid0.Coords) : Fin 4 → Nat :=
  let arg0 : BitVec 32 := BitVec.ofNat 32 (i 0).val
  let c2_i32_379 : BitVec 32 := 2#32
  let v424 : BitVec 32 := Scalar.addi arg0 c2_i32_379
  let c0_i32_392 : BitVec 32 := 0#32
  let c8_i32_387 : BitVec 32 := 8#32
  let c0_i32_393 : BitVec 32 := 0#32
  ![v424.toNat, 0, 8, 0]
def k0_off28 (i : grid0.Coords) : Fin 2 → Nat :=
  let arg0 : BitVec 32 := BitVec.ofNat 32 (i 0).val
  let c2_i32_395 : BitVec 32 := 2#32
  let v443 : BitVec 32 := Scalar.addi arg0 c2_i32_395
  let c3_i32_396 : BitVec 32 := 3#32
  let c0_i32_397 : BitVec 32 := 0#32
  let v444 : BitVec 1 := Scalar.cmpi .eq c3_i32_396 c0_i32_397
  let c1_i32_398 : BitVec 32 := 1#32
  let v445 : BitVec 32 := Scalar.select v444 c1_i32_398 c3_i32_396
  let v446 : BitVec 32 := Scalar.remsi v443 v445
  let c0_i32_400 : BitVec 32 := 0#32
  let v448 : BitVec 1 := Scalar.cmpi .slt v446 c0_i32_400
  let c0_i32_401 : BitVec 32 := 0#32
  let v449 : BitVec 1 := Scalar.cmpi .slt v445 c0_i32_401
  let v450 : BitVec 1 := Scalar.xori v448 v449
  let c0_i32_399 : BitVec 32 := 0#32
  let v447 : BitVec 1 := Scalar.cmpi .ne v446 c0_i32_399
  let v451 : BitVec 1 := Scalar.andi v450 v447
  let v452 : BitVec 32 := Scalar.addi v446 v445
  let v453 : BitVec 32 := Scalar.select v451 v452 v446
  let c9_i32_404 : BitVec 32 := 9#32
  ![v453.toNat, 9]
def k0_off29 (i : grid0.Coords) : Fin 4 → Nat :=
  let arg0 : BitVec 32 := BitVec.ofNat 32 (i 0).val
  let c2_i32_395 : BitVec 32 := 2#32
  let v443 : BitVec 32 := Scalar.addi arg0 c2_i32_395
  let c3_i32_396 : BitVec 32 := 3#32
  let c0_i32_397 : BitVec 32 := 0#32
  let v444 : BitVec 1 := Scalar.cmpi .eq c3_i32_396 c0_i32_397
  let c1_i32_398 : BitVec 32 := 1#32
  let v445 : BitVec 32 := Scalar.select v444 c1_i32_398 c3_i32_396
  let v446 : BitVec 32 := Scalar.remsi v443 v445
  let c0_i32_400 : BitVec 32 := 0#32
  let v448 : BitVec 1 := Scalar.cmpi .slt v446 c0_i32_400
  let c0_i32_401 : BitVec 32 := 0#32
  let v449 : BitVec 1 := Scalar.cmpi .slt v445 c0_i32_401
  let v450 : BitVec 1 := Scalar.xori v448 v449
  let c0_i32_399 : BitVec 32 := 0#32
  let v447 : BitVec 1 := Scalar.cmpi .ne v446 c0_i32_399
  let v451 : BitVec 1 := Scalar.andi v450 v447
  let v452 : BitVec 32 := Scalar.addi v446 v445
  let v453 : BitVec 32 := Scalar.select v451 v452 v446
  let c9_i32_403 : BitVec 32 := 9#32
  let c0_i32_405 : BitVec 32 := 0#32
  let c0_i32_406 : BitVec 32 := 0#32
  ![v453.toNat, 9, 0, 0]
def k0_off30 (i : grid0.Coords) : Fin 4 → Nat :=
  let arg0 : BitVec 32 := BitVec.ofNat 32 (i 0).val
  let c2_i32_394 : BitVec 32 := 2#32
  let v442 : BitVec 32 := Scalar.addi arg0 c2_i32_394
  let c0_i32_407 : BitVec 32 := 0#32
  let c9_i32_402 : BitVec 32 := 9#32
  let c0_i32_408 : BitVec 32 := 0#32
  ![v442.toNat, 0, 9, 0]
def k0_off31 (i : grid0.Coords) : Fin 2 → Nat :=
  let arg0 : BitVec 32 := BitVec.ofNat 32 (i 0).val
  let c2_i32_410 : BitVec 32 := 2#32
  let v461 : BitVec 32 := Scalar.addi arg0 c2_i32_410
  let c3_i32_411 : BitVec 32 := 3#32
  let c0_i32_412 : BitVec 32 := 0#32
  let v462 : BitVec 1 := Scalar.cmpi .eq c3_i32_411 c0_i32_412
  let c1_i32_413 : BitVec 32 := 1#32
  let v463 : BitVec 32 := Scalar.select v462 c1_i32_413 c3_i32_411
  let v464 : BitVec 32 := Scalar.remsi v461 v463
  let c0_i32_415 : BitVec 32 := 0#32
  let v466 : BitVec 1 := Scalar.cmpi .slt v464 c0_i32_415
  let c0_i32_416 : BitVec 32 := 0#32
  let v467 : BitVec 1 := Scalar.cmpi .slt v463 c0_i32_416
  let v468 : BitVec 1 := Scalar.xori v466 v467
  let c0_i32_414 : BitVec 32 := 0#32
  let v465 : BitVec 1 := Scalar.cmpi .ne v464 c0_i32_414
  let v469 : BitVec 1 := Scalar.andi v468 v465
  let v470 : BitVec 32 := Scalar.addi v464 v463
  let v471 : BitVec 32 := Scalar.select v469 v470 v464
  let c10_i32_419 : BitVec 32 := 10#32
  ![v471.toNat, 10]
def k0_off32 (i : grid0.Coords) : Fin 4 → Nat :=
  let arg0 : BitVec 32 := BitVec.ofNat 32 (i 0).val
  let c2_i32_410 : BitVec 32 := 2#32
  let v461 : BitVec 32 := Scalar.addi arg0 c2_i32_410
  let c3_i32_411 : BitVec 32 := 3#32
  let c0_i32_412 : BitVec 32 := 0#32
  let v462 : BitVec 1 := Scalar.cmpi .eq c3_i32_411 c0_i32_412
  let c1_i32_413 : BitVec 32 := 1#32
  let v463 : BitVec 32 := Scalar.select v462 c1_i32_413 c3_i32_411
  let v464 : BitVec 32 := Scalar.remsi v461 v463
  let c0_i32_415 : BitVec 32 := 0#32
  let v466 : BitVec 1 := Scalar.cmpi .slt v464 c0_i32_415
  let c0_i32_416 : BitVec 32 := 0#32
  let v467 : BitVec 1 := Scalar.cmpi .slt v463 c0_i32_416
  let v468 : BitVec 1 := Scalar.xori v466 v467
  let c0_i32_414 : BitVec 32 := 0#32
  let v465 : BitVec 1 := Scalar.cmpi .ne v464 c0_i32_414
  let v469 : BitVec 1 := Scalar.andi v468 v465
  let v470 : BitVec 32 := Scalar.addi v464 v463
  let v471 : BitVec 32 := Scalar.select v469 v470 v464
  let c10_i32_418 : BitVec 32 := 10#32
  let c0_i32_420 : BitVec 32 := 0#32
  let c0_i32_421 : BitVec 32 := 0#32
  ![v471.toNat, 10, 0, 0]
def k0_off33 (i : grid0.Coords) : Fin 4 → Nat :=
  let arg0 : BitVec 32 := BitVec.ofNat 32 (i 0).val
  let c2_i32_409 : BitVec 32 := 2#32
  let v460 : BitVec 32 := Scalar.addi arg0 c2_i32_409
  let c0_i32_422 : BitVec 32 := 0#32
  let c10_i32_417 : BitVec 32 := 10#32
  let c0_i32_423 : BitVec 32 := 0#32
  ![v460.toNat, 0, 10, 0]
def k0_off34 (i : grid0.Coords) : Fin 2 → Nat :=
  let arg0 : BitVec 32 := BitVec.ofNat 32 (i 0).val
  let c2_i32_425 : BitVec 32 := 2#32
  let v479 : BitVec 32 := Scalar.addi arg0 c2_i32_425
  let c3_i32_426 : BitVec 32 := 3#32
  let c0_i32_427 : BitVec 32 := 0#32
  let v480 : BitVec 1 := Scalar.cmpi .eq c3_i32_426 c0_i32_427
  let c1_i32_428 : BitVec 32 := 1#32
  let v481 : BitVec 32 := Scalar.select v480 c1_i32_428 c3_i32_426
  let v482 : BitVec 32 := Scalar.remsi v479 v481
  let c0_i32_430 : BitVec 32 := 0#32
  let v484 : BitVec 1 := Scalar.cmpi .slt v482 c0_i32_430
  let c0_i32_431 : BitVec 32 := 0#32
  let v485 : BitVec 1 := Scalar.cmpi .slt v481 c0_i32_431
  let v486 : BitVec 1 := Scalar.xori v484 v485
  let c0_i32_429 : BitVec 32 := 0#32
  let v483 : BitVec 1 := Scalar.cmpi .ne v482 c0_i32_429
  let v487 : BitVec 1 := Scalar.andi v486 v483
  let v488 : BitVec 32 := Scalar.addi v482 v481
  let v489 : BitVec 32 := Scalar.select v487 v488 v482
  let c11_i32_434 : BitVec 32 := 11#32
  ![v489.toNat, 11]
def k0_off35 (i : grid0.Coords) : Fin 4 → Nat :=
  let arg0 : BitVec 32 := BitVec.ofNat 32 (i 0).val
  let c2_i32_425 : BitVec 32 := 2#32
  let v479 : BitVec 32 := Scalar.addi arg0 c2_i32_425
  let c3_i32_426 : BitVec 32 := 3#32
  let c0_i32_427 : BitVec 32 := 0#32
  let v480 : BitVec 1 := Scalar.cmpi .eq c3_i32_426 c0_i32_427
  let c1_i32_428 : BitVec 32 := 1#32
  let v481 : BitVec 32 := Scalar.select v480 c1_i32_428 c3_i32_426
  let v482 : BitVec 32 := Scalar.remsi v479 v481
  let c0_i32_430 : BitVec 32 := 0#32
  let v484 : BitVec 1 := Scalar.cmpi .slt v482 c0_i32_430
  let c0_i32_431 : BitVec 32 := 0#32
  let v485 : BitVec 1 := Scalar.cmpi .slt v481 c0_i32_431
  let v486 : BitVec 1 := Scalar.xori v484 v485
  let c0_i32_429 : BitVec 32 := 0#32
  let v483 : BitVec 1 := Scalar.cmpi .ne v482 c0_i32_429
  let v487 : BitVec 1 := Scalar.andi v486 v483
  let v488 : BitVec 32 := Scalar.addi v482 v481
  let v489 : BitVec 32 := Scalar.select v487 v488 v482
  let c11_i32_433 : BitVec 32 := 11#32
  let c0_i32_435 : BitVec 32 := 0#32
  let c0_i32_436 : BitVec 32 := 0#32
  ![v489.toNat, 11, 0, 0]
def k0_off36 (i : grid0.Coords) : Fin 4 → Nat :=
  let arg0 : BitVec 32 := BitVec.ofNat 32 (i 0).val
  let c2_i32_424 : BitVec 32 := 2#32
  let v478 : BitVec 32 := Scalar.addi arg0 c2_i32_424
  let c0_i32_437 : BitVec 32 := 0#32
  let c11_i32_432 : BitVec 32 := 11#32
  let c0_i32_438 : BitVec 32 := 0#32
  ![v478.toNat, 0, 11, 0]
def k0_off37 (i : grid0.Coords) : Fin 2 → Nat :=
  let arg0 : BitVec 32 := BitVec.ofNat 32 (i 0).val
  let c2_i32_440 : BitVec 32 := 2#32
  let v497 : BitVec 32 := Scalar.addi arg0 c2_i32_440
  let c3_i32_441 : BitVec 32 := 3#32
  let c0_i32_442 : BitVec 32 := 0#32
  let v498 : BitVec 1 := Scalar.cmpi .eq c3_i32_441 c0_i32_442
  let c1_i32_443 : BitVec 32 := 1#32
  let v499 : BitVec 32 := Scalar.select v498 c1_i32_443 c3_i32_441
  let v500 : BitVec 32 := Scalar.remsi v497 v499
  let c0_i32_445 : BitVec 32 := 0#32
  let v502 : BitVec 1 := Scalar.cmpi .slt v500 c0_i32_445
  let c0_i32_446 : BitVec 32 := 0#32
  let v503 : BitVec 1 := Scalar.cmpi .slt v499 c0_i32_446
  let v504 : BitVec 1 := Scalar.xori v502 v503
  let c0_i32_444 : BitVec 32 := 0#32
  let v501 : BitVec 1 := Scalar.cmpi .ne v500 c0_i32_444
  let v505 : BitVec 1 := Scalar.andi v504 v501
  let v506 : BitVec 32 := Scalar.addi v500 v499
  let v507 : BitVec 32 := Scalar.select v505 v506 v500
  let c12_i32_449 : BitVec 32 := 12#32
  ![v507.toNat, 12]
def k0_off38 (i : grid0.Coords) : Fin 4 → Nat :=
  let arg0 : BitVec 32 := BitVec.ofNat 32 (i 0).val
  let c2_i32_440 : BitVec 32 := 2#32
  let v497 : BitVec 32 := Scalar.addi arg0 c2_i32_440
  let c3_i32_441 : BitVec 32 := 3#32
  let c0_i32_442 : BitVec 32 := 0#32
  let v498 : BitVec 1 := Scalar.cmpi .eq c3_i32_441 c0_i32_442
  let c1_i32_443 : BitVec 32 := 1#32
  let v499 : BitVec 32 := Scalar.select v498 c1_i32_443 c3_i32_441
  let v500 : BitVec 32 := Scalar.remsi v497 v499
  let c0_i32_445 : BitVec 32 := 0#32
  let v502 : BitVec 1 := Scalar.cmpi .slt v500 c0_i32_445
  let c0_i32_446 : BitVec 32 := 0#32
  let v503 : BitVec 1 := Scalar.cmpi .slt v499 c0_i32_446
  let v504 : BitVec 1 := Scalar.xori v502 v503
  let c0_i32_444 : BitVec 32 := 0#32
  let v501 : BitVec 1 := Scalar.cmpi .ne v500 c0_i32_444
  let v505 : BitVec 1 := Scalar.andi v504 v501
  let v506 : BitVec 32 := Scalar.addi v500 v499
  let v507 : BitVec 32 := Scalar.select v505 v506 v500
  let c12_i32_448 : BitVec 32 := 12#32
  let c0_i32_450 : BitVec 32 := 0#32
  let c0_i32_451 : BitVec 32 := 0#32
  ![v507.toNat, 12, 0, 0]
def k0_off39 (i : grid0.Coords) : Fin 4 → Nat :=
  let arg0 : BitVec 32 := BitVec.ofNat 32 (i 0).val
  let c2_i32_439 : BitVec 32 := 2#32
  let v496 : BitVec 32 := Scalar.addi arg0 c2_i32_439
  let c0_i32_452 : BitVec 32 := 0#32
  let c12_i32_447 : BitVec 32 := 12#32
  let c0_i32_453 : BitVec 32 := 0#32
  ![v496.toNat, 0, 12, 0]
def k0_off40 (i : grid0.Coords) : Fin 2 → Nat :=
  let arg0 : BitVec 32 := BitVec.ofNat 32 (i 0).val
  let c2_i32_455 : BitVec 32 := 2#32
  let v515 : BitVec 32 := Scalar.addi arg0 c2_i32_455
  let c3_i32_456 : BitVec 32 := 3#32
  let c0_i32_457 : BitVec 32 := 0#32
  let v516 : BitVec 1 := Scalar.cmpi .eq c3_i32_456 c0_i32_457
  let c1_i32_458 : BitVec 32 := 1#32
  let v517 : BitVec 32 := Scalar.select v516 c1_i32_458 c3_i32_456
  let v518 : BitVec 32 := Scalar.remsi v515 v517
  let c0_i32_460 : BitVec 32 := 0#32
  let v520 : BitVec 1 := Scalar.cmpi .slt v518 c0_i32_460
  let c0_i32_461 : BitVec 32 := 0#32
  let v521 : BitVec 1 := Scalar.cmpi .slt v517 c0_i32_461
  let v522 : BitVec 1 := Scalar.xori v520 v521
  let c0_i32_459 : BitVec 32 := 0#32
  let v519 : BitVec 1 := Scalar.cmpi .ne v518 c0_i32_459
  let v523 : BitVec 1 := Scalar.andi v522 v519
  let v524 : BitVec 32 := Scalar.addi v518 v517
  let v525 : BitVec 32 := Scalar.select v523 v524 v518
  let c13_i32_464 : BitVec 32 := 13#32
  ![v525.toNat, 13]
def k0_off41 (i : grid0.Coords) : Fin 4 → Nat :=
  let arg0 : BitVec 32 := BitVec.ofNat 32 (i 0).val
  let c2_i32_455 : BitVec 32 := 2#32
  let v515 : BitVec 32 := Scalar.addi arg0 c2_i32_455
  let c3_i32_456 : BitVec 32 := 3#32
  let c0_i32_457 : BitVec 32 := 0#32
  let v516 : BitVec 1 := Scalar.cmpi .eq c3_i32_456 c0_i32_457
  let c1_i32_458 : BitVec 32 := 1#32
  let v517 : BitVec 32 := Scalar.select v516 c1_i32_458 c3_i32_456
  let v518 : BitVec 32 := Scalar.remsi v515 v517
  let c0_i32_460 : BitVec 32 := 0#32
  let v520 : BitVec 1 := Scalar.cmpi .slt v518 c0_i32_460
  let c0_i32_461 : BitVec 32 := 0#32
  let v521 : BitVec 1 := Scalar.cmpi .slt v517 c0_i32_461
  let v522 : BitVec 1 := Scalar.xori v520 v521
  let c0_i32_459 : BitVec 32 := 0#32
  let v519 : BitVec 1 := Scalar.cmpi .ne v518 c0_i32_459
  let v523 : BitVec 1 := Scalar.andi v522 v519
  let v524 : BitVec 32 := Scalar.addi v518 v517
  let v525 : BitVec 32 := Scalar.select v523 v524 v518
  let c13_i32_463 : BitVec 32 := 13#32
  let c0_i32_465 : BitVec 32 := 0#32
  let c0_i32_466 : BitVec 32 := 0#32
  ![v525.toNat, 13, 0, 0]
def k0_off42 (i : grid0.Coords) : Fin 4 → Nat :=
  let arg0 : BitVec 32 := BitVec.ofNat 32 (i 0).val
  let c2_i32_454 : BitVec 32 := 2#32
  let v514 : BitVec 32 := Scalar.addi arg0 c2_i32_454
  let c0_i32_467 : BitVec 32 := 0#32
  let c13_i32_462 : BitVec 32 := 13#32
  let c0_i32_468 : BitVec 32 := 0#32
  ![v514.toNat, 0, 13, 0]
def k0_off43 (i : grid0.Coords) : Fin 2 → Nat :=
  let arg0 : BitVec 32 := BitVec.ofNat 32 (i 0).val
  let c2_i32_470 : BitVec 32 := 2#32
  let v533 : BitVec 32 := Scalar.addi arg0 c2_i32_470
  let c3_i32_471 : BitVec 32 := 3#32
  let c0_i32_472 : BitVec 32 := 0#32
  let v534 : BitVec 1 := Scalar.cmpi .eq c3_i32_471 c0_i32_472
  let c1_i32_473 : BitVec 32 := 1#32
  let v535 : BitVec 32 := Scalar.select v534 c1_i32_473 c3_i32_471
  let v536 : BitVec 32 := Scalar.remsi v533 v535
  let c0_i32_475 : BitVec 32 := 0#32
  let v538 : BitVec 1 := Scalar.cmpi .slt v536 c0_i32_475
  let c0_i32_476 : BitVec 32 := 0#32
  let v539 : BitVec 1 := Scalar.cmpi .slt v535 c0_i32_476
  let v540 : BitVec 1 := Scalar.xori v538 v539
  let c0_i32_474 : BitVec 32 := 0#32
  let v537 : BitVec 1 := Scalar.cmpi .ne v536 c0_i32_474
  let v541 : BitVec 1 := Scalar.andi v540 v537
  let v542 : BitVec 32 := Scalar.addi v536 v535
  let v543 : BitVec 32 := Scalar.select v541 v542 v536
  let c14_i32_479 : BitVec 32 := 14#32
  ![v543.toNat, 14]
def k0_off44 (i : grid0.Coords) : Fin 4 → Nat :=
  let arg0 : BitVec 32 := BitVec.ofNat 32 (i 0).val
  let c2_i32_470 : BitVec 32 := 2#32
  let v533 : BitVec 32 := Scalar.addi arg0 c2_i32_470
  let c3_i32_471 : BitVec 32 := 3#32
  let c0_i32_472 : BitVec 32 := 0#32
  let v534 : BitVec 1 := Scalar.cmpi .eq c3_i32_471 c0_i32_472
  let c1_i32_473 : BitVec 32 := 1#32
  let v535 : BitVec 32 := Scalar.select v534 c1_i32_473 c3_i32_471
  let v536 : BitVec 32 := Scalar.remsi v533 v535
  let c0_i32_475 : BitVec 32 := 0#32
  let v538 : BitVec 1 := Scalar.cmpi .slt v536 c0_i32_475
  let c0_i32_476 : BitVec 32 := 0#32
  let v539 : BitVec 1 := Scalar.cmpi .slt v535 c0_i32_476
  let v540 : BitVec 1 := Scalar.xori v538 v539
  let c0_i32_474 : BitVec 32 := 0#32
  let v537 : BitVec 1 := Scalar.cmpi .ne v536 c0_i32_474
  let v541 : BitVec 1 := Scalar.andi v540 v537
  let v542 : BitVec 32 := Scalar.addi v536 v535
  let v543 : BitVec 32 := Scalar.select v541 v542 v536
  let c14_i32_478 : BitVec 32 := 14#32
  let c0_i32_480 : BitVec 32 := 0#32
  let c0_i32_481 : BitVec 32 := 0#32
  ![v543.toNat, 14, 0, 0]
def k0_off45 (i : grid0.Coords) : Fin 4 → Nat :=
  let arg0 : BitVec 32 := BitVec.ofNat 32 (i 0).val
  let c2_i32_469 : BitVec 32 := 2#32
  let v532 : BitVec 32 := Scalar.addi arg0 c2_i32_469
  let c0_i32_482 : BitVec 32 := 0#32
  let c14_i32_477 : BitVec 32 := 14#32
  let c0_i32_483 : BitVec 32 := 0#32
  ![v532.toNat, 0, 14, 0]
def k0_off46 (i : grid0.Coords) : Fin 2 → Nat :=
  let arg0 : BitVec 32 := BitVec.ofNat 32 (i 0).val
  let c2_i32_485 : BitVec 32 := 2#32
  let v551 : BitVec 32 := Scalar.addi arg0 c2_i32_485
  let c3_i32_486 : BitVec 32 := 3#32
  let c0_i32_487 : BitVec 32 := 0#32
  let v552 : BitVec 1 := Scalar.cmpi .eq c3_i32_486 c0_i32_487
  let c1_i32_488 : BitVec 32 := 1#32
  let v553 : BitVec 32 := Scalar.select v552 c1_i32_488 c3_i32_486
  let v554 : BitVec 32 := Scalar.remsi v551 v553
  let c0_i32_490 : BitVec 32 := 0#32
  let v556 : BitVec 1 := Scalar.cmpi .slt v554 c0_i32_490
  let c0_i32_491 : BitVec 32 := 0#32
  let v557 : BitVec 1 := Scalar.cmpi .slt v553 c0_i32_491
  let v558 : BitVec 1 := Scalar.xori v556 v557
  let c0_i32_489 : BitVec 32 := 0#32
  let v555 : BitVec 1 := Scalar.cmpi .ne v554 c0_i32_489
  let v559 : BitVec 1 := Scalar.andi v558 v555
  let v560 : BitVec 32 := Scalar.addi v554 v553
  let v561 : BitVec 32 := Scalar.select v559 v560 v554
  let c15_i32_494 : BitVec 32 := 15#32
  ![v561.toNat, 15]
def k0_off47 (i : grid0.Coords) : Fin 4 → Nat :=
  let arg0 : BitVec 32 := BitVec.ofNat 32 (i 0).val
  let c2_i32_485 : BitVec 32 := 2#32
  let v551 : BitVec 32 := Scalar.addi arg0 c2_i32_485
  let c3_i32_486 : BitVec 32 := 3#32
  let c0_i32_487 : BitVec 32 := 0#32
  let v552 : BitVec 1 := Scalar.cmpi .eq c3_i32_486 c0_i32_487
  let c1_i32_488 : BitVec 32 := 1#32
  let v553 : BitVec 32 := Scalar.select v552 c1_i32_488 c3_i32_486
  let v554 : BitVec 32 := Scalar.remsi v551 v553
  let c0_i32_490 : BitVec 32 := 0#32
  let v556 : BitVec 1 := Scalar.cmpi .slt v554 c0_i32_490
  let c0_i32_491 : BitVec 32 := 0#32
  let v557 : BitVec 1 := Scalar.cmpi .slt v553 c0_i32_491
  let v558 : BitVec 1 := Scalar.xori v556 v557
  let c0_i32_489 : BitVec 32 := 0#32
  let v555 : BitVec 1 := Scalar.cmpi .ne v554 c0_i32_489
  let v559 : BitVec 1 := Scalar.andi v558 v555
  let v560 : BitVec 32 := Scalar.addi v554 v553
  let v561 : BitVec 32 := Scalar.select v559 v560 v554
  let c15_i32_493 : BitVec 32 := 15#32
  let c0_i32_495 : BitVec 32 := 0#32
  let c0_i32_496 : BitVec 32 := 0#32
  ![v561.toNat, 15, 0, 0]
def k0_off48 (i : grid0.Coords) : Fin 4 → Nat :=
  let arg0 : BitVec 32 := BitVec.ofNat 32 (i 0).val
  let c2_i32_484 : BitVec 32 := 2#32
  let v550 : BitVec 32 := Scalar.addi arg0 c2_i32_484
  let c0_i32_497 : BitVec 32 := 0#32
  let c15_i32_492 : BitVec 32 := 15#32
  let c0_i32_498 : BitVec 32 := 0#32
  ![v550.toNat, 0, 15, 0]
def k0_off49 (i : grid0.Coords) : Fin 2 → Nat :=
  let arg0 : BitVec 32 := BitVec.ofNat 32 (i 0).val
  let c2_i32_500 : BitVec 32 := 2#32
  let v569 : BitVec 32 := Scalar.addi arg0 c2_i32_500
  let c3_i32_501 : BitVec 32 := 3#32
  let c0_i32_502 : BitVec 32 := 0#32
  let v570 : BitVec 1 := Scalar.cmpi .eq c3_i32_501 c0_i32_502
  let c1_i32_503 : BitVec 32 := 1#32
  let v571 : BitVec 32 := Scalar.select v570 c1_i32_503 c3_i32_501
  let v572 : BitVec 32 := Scalar.remsi v569 v571
  let c0_i32_505 : BitVec 32 := 0#32
  let v574 : BitVec 1 := Scalar.cmpi .slt v572 c0_i32_505
  let c0_i32_506 : BitVec 32 := 0#32
  let v575 : BitVec 1 := Scalar.cmpi .slt v571 c0_i32_506
  let v576 : BitVec 1 := Scalar.xori v574 v575
  let c0_i32_504 : BitVec 32 := 0#32
  let v573 : BitVec 1 := Scalar.cmpi .ne v572 c0_i32_504
  let v577 : BitVec 1 := Scalar.andi v576 v573
  let v578 : BitVec 32 := Scalar.addi v572 v571
  let v579 : BitVec 32 := Scalar.select v577 v578 v572
  let c16_i32_509 : BitVec 32 := 16#32
  ![v579.toNat, 16]
def k0_off50 (i : grid0.Coords) : Fin 4 → Nat :=
  let arg0 : BitVec 32 := BitVec.ofNat 32 (i 0).val
  let c2_i32_500 : BitVec 32 := 2#32
  let v569 : BitVec 32 := Scalar.addi arg0 c2_i32_500
  let c3_i32_501 : BitVec 32 := 3#32
  let c0_i32_502 : BitVec 32 := 0#32
  let v570 : BitVec 1 := Scalar.cmpi .eq c3_i32_501 c0_i32_502
  let c1_i32_503 : BitVec 32 := 1#32
  let v571 : BitVec 32 := Scalar.select v570 c1_i32_503 c3_i32_501
  let v572 : BitVec 32 := Scalar.remsi v569 v571
  let c0_i32_505 : BitVec 32 := 0#32
  let v574 : BitVec 1 := Scalar.cmpi .slt v572 c0_i32_505
  let c0_i32_506 : BitVec 32 := 0#32
  let v575 : BitVec 1 := Scalar.cmpi .slt v571 c0_i32_506
  let v576 : BitVec 1 := Scalar.xori v574 v575
  let c0_i32_504 : BitVec 32 := 0#32
  let v573 : BitVec 1 := Scalar.cmpi .ne v572 c0_i32_504
  let v577 : BitVec 1 := Scalar.andi v576 v573
  let v578 : BitVec 32 := Scalar.addi v572 v571
  let v579 : BitVec 32 := Scalar.select v577 v578 v572
  let c16_i32_508 : BitVec 32 := 16#32
  let c0_i32_510 : BitVec 32 := 0#32
  let c0_i32_511 : BitVec 32 := 0#32
  ![v579.toNat, 16, 0, 0]
def k0_off51 (i : grid0.Coords) : Fin 4 → Nat :=
  let arg0 : BitVec 32 := BitVec.ofNat 32 (i 0).val
  let c2_i32_499 : BitVec 32 := 2#32
  let v568 : BitVec 32 := Scalar.addi arg0 c2_i32_499
  let c0_i32_512 : BitVec 32 := 0#32
  let c16_i32_507 : BitVec 32 := 16#32
  let c0_i32_513 : BitVec 32 := 0#32
  ![v568.toNat, 0, 16, 0]
def k0_off52 (i : grid0.Coords) : Fin 2 → Nat :=
  let arg0 : BitVec 32 := BitVec.ofNat 32 (i 0).val
  let c2_i32_515 : BitVec 32 := 2#32
  let v587 : BitVec 32 := Scalar.addi arg0 c2_i32_515
  let c3_i32_516 : BitVec 32 := 3#32
  let c0_i32_517 : BitVec 32 := 0#32
  let v588 : BitVec 1 := Scalar.cmpi .eq c3_i32_516 c0_i32_517
  let c1_i32_518 : BitVec 32 := 1#32
  let v589 : BitVec 32 := Scalar.select v588 c1_i32_518 c3_i32_516
  let v590 : BitVec 32 := Scalar.remsi v587 v589
  let c0_i32_520 : BitVec 32 := 0#32
  let v592 : BitVec 1 := Scalar.cmpi .slt v590 c0_i32_520
  let c0_i32_521 : BitVec 32 := 0#32
  let v593 : BitVec 1 := Scalar.cmpi .slt v589 c0_i32_521
  let v594 : BitVec 1 := Scalar.xori v592 v593
  let c0_i32_519 : BitVec 32 := 0#32
  let v591 : BitVec 1 := Scalar.cmpi .ne v590 c0_i32_519
  let v595 : BitVec 1 := Scalar.andi v594 v591
  let v596 : BitVec 32 := Scalar.addi v590 v589
  let v597 : BitVec 32 := Scalar.select v595 v596 v590
  let c17_i32_524 : BitVec 32 := 17#32
  ![v597.toNat, 17]
def k0_off53 (i : grid0.Coords) : Fin 4 → Nat :=
  let arg0 : BitVec 32 := BitVec.ofNat 32 (i 0).val
  let c2_i32_515 : BitVec 32 := 2#32
  let v587 : BitVec 32 := Scalar.addi arg0 c2_i32_515
  let c3_i32_516 : BitVec 32 := 3#32
  let c0_i32_517 : BitVec 32 := 0#32
  let v588 : BitVec 1 := Scalar.cmpi .eq c3_i32_516 c0_i32_517
  let c1_i32_518 : BitVec 32 := 1#32
  let v589 : BitVec 32 := Scalar.select v588 c1_i32_518 c3_i32_516
  let v590 : BitVec 32 := Scalar.remsi v587 v589
  let c0_i32_520 : BitVec 32 := 0#32
  let v592 : BitVec 1 := Scalar.cmpi .slt v590 c0_i32_520
  let c0_i32_521 : BitVec 32 := 0#32
  let v593 : BitVec 1 := Scalar.cmpi .slt v589 c0_i32_521
  let v594 : BitVec 1 := Scalar.xori v592 v593
  let c0_i32_519 : BitVec 32 := 0#32
  let v591 : BitVec 1 := Scalar.cmpi .ne v590 c0_i32_519
  let v595 : BitVec 1 := Scalar.andi v594 v591
  let v596 : BitVec 32 := Scalar.addi v590 v589
  let v597 : BitVec 32 := Scalar.select v595 v596 v590
  let c17_i32_523 : BitVec 32 := 17#32
  let c0_i32_525 : BitVec 32 := 0#32
  let c0_i32_526 : BitVec 32 := 0#32
  ![v597.toNat, 17, 0, 0]
def k0_off54 (i : grid0.Coords) : Fin 4 → Nat :=
  let arg0 : BitVec 32 := BitVec.ofNat 32 (i 0).val
  let c2_i32_514 : BitVec 32 := 2#32
  let v586 : BitVec 32 := Scalar.addi arg0 c2_i32_514
  let c0_i32_527 : BitVec 32 := 0#32
  let c17_i32_522 : BitVec 32 := 17#32
  let c0_i32_528 : BitVec 32 := 0#32
  ![v586.toNat, 0, 17, 0]
def k0_off55 (i : grid0.Coords) : Fin 2 → Nat :=
  let arg0 : BitVec 32 := BitVec.ofNat 32 (i 0).val
  let c2_i32_530 : BitVec 32 := 2#32
  let v605 : BitVec 32 := Scalar.addi arg0 c2_i32_530
  let c3_i32_531 : BitVec 32 := 3#32
  let c0_i32_532 : BitVec 32 := 0#32
  let v606 : BitVec 1 := Scalar.cmpi .eq c3_i32_531 c0_i32_532
  let c1_i32_533 : BitVec 32 := 1#32
  let v607 : BitVec 32 := Scalar.select v606 c1_i32_533 c3_i32_531
  let v608 : BitVec 32 := Scalar.remsi v605 v607
  let c0_i32_535 : BitVec 32 := 0#32
  let v610 : BitVec 1 := Scalar.cmpi .slt v608 c0_i32_535
  let c0_i32_536 : BitVec 32 := 0#32
  let v611 : BitVec 1 := Scalar.cmpi .slt v607 c0_i32_536
  let v612 : BitVec 1 := Scalar.xori v610 v611
  let c0_i32_534 : BitVec 32 := 0#32
  let v609 : BitVec 1 := Scalar.cmpi .ne v608 c0_i32_534
  let v613 : BitVec 1 := Scalar.andi v612 v609
  let v614 : BitVec 32 := Scalar.addi v608 v607
  let v615 : BitVec 32 := Scalar.select v613 v614 v608
  let c18_i32_539 : BitVec 32 := 18#32
  ![v615.toNat, 18]
def k0_off56 (i : grid0.Coords) : Fin 4 → Nat :=
  let arg0 : BitVec 32 := BitVec.ofNat 32 (i 0).val
  let c2_i32_530 : BitVec 32 := 2#32
  let v605 : BitVec 32 := Scalar.addi arg0 c2_i32_530
  let c3_i32_531 : BitVec 32 := 3#32
  let c0_i32_532 : BitVec 32 := 0#32
  let v606 : BitVec 1 := Scalar.cmpi .eq c3_i32_531 c0_i32_532
  let c1_i32_533 : BitVec 32 := 1#32
  let v607 : BitVec 32 := Scalar.select v606 c1_i32_533 c3_i32_531
  let v608 : BitVec 32 := Scalar.remsi v605 v607
  let c0_i32_535 : BitVec 32 := 0#32
  let v610 : BitVec 1 := Scalar.cmpi .slt v608 c0_i32_535
  let c0_i32_536 : BitVec 32 := 0#32
  let v611 : BitVec 1 := Scalar.cmpi .slt v607 c0_i32_536
  let v612 : BitVec 1 := Scalar.xori v610 v611
  let c0_i32_534 : BitVec 32 := 0#32
  let v609 : BitVec 1 := Scalar.cmpi .ne v608 c0_i32_534
  let v613 : BitVec 1 := Scalar.andi v612 v609
  let v614 : BitVec 32 := Scalar.addi v608 v607
  let v615 : BitVec 32 := Scalar.select v613 v614 v608
  let c18_i32_538 : BitVec 32 := 18#32
  let c0_i32_540 : BitVec 32 := 0#32
  let c0_i32_541 : BitVec 32 := 0#32
  ![v615.toNat, 18, 0, 0]
def k0_off57 (i : grid0.Coords) : Fin 4 → Nat :=
  let arg0 : BitVec 32 := BitVec.ofNat 32 (i 0).val
  let c2_i32_529 : BitVec 32 := 2#32
  let v604 : BitVec 32 := Scalar.addi arg0 c2_i32_529
  let c0_i32_542 : BitVec 32 := 0#32
  let c18_i32_537 : BitVec 32 := 18#32
  let c0_i32_543 : BitVec 32 := 0#32
  ![v604.toNat, 0, 18, 0]
def k0_off58 (i : grid0.Coords) : Fin 2 → Nat :=
  let arg0 : BitVec 32 := BitVec.ofNat 32 (i 0).val
  let c2_i32_545 : BitVec 32 := 2#32
  let v623 : BitVec 32 := Scalar.addi arg0 c2_i32_545
  let c3_i32_546 : BitVec 32 := 3#32
  let c0_i32_547 : BitVec 32 := 0#32
  let v624 : BitVec 1 := Scalar.cmpi .eq c3_i32_546 c0_i32_547
  let c1_i32_548 : BitVec 32 := 1#32
  let v625 : BitVec 32 := Scalar.select v624 c1_i32_548 c3_i32_546
  let v626 : BitVec 32 := Scalar.remsi v623 v625
  let c0_i32_550 : BitVec 32 := 0#32
  let v628 : BitVec 1 := Scalar.cmpi .slt v626 c0_i32_550
  let c0_i32_551 : BitVec 32 := 0#32
  let v629 : BitVec 1 := Scalar.cmpi .slt v625 c0_i32_551
  let v630 : BitVec 1 := Scalar.xori v628 v629
  let c0_i32_549 : BitVec 32 := 0#32
  let v627 : BitVec 1 := Scalar.cmpi .ne v626 c0_i32_549
  let v631 : BitVec 1 := Scalar.andi v630 v627
  let v632 : BitVec 32 := Scalar.addi v626 v625
  let v633 : BitVec 32 := Scalar.select v631 v632 v626
  let c19_i32_554 : BitVec 32 := 19#32
  ![v633.toNat, 19]
def k0_off59 (i : grid0.Coords) : Fin 4 → Nat :=
  let arg0 : BitVec 32 := BitVec.ofNat 32 (i 0).val
  let c2_i32_545 : BitVec 32 := 2#32
  let v623 : BitVec 32 := Scalar.addi arg0 c2_i32_545
  let c3_i32_546 : BitVec 32 := 3#32
  let c0_i32_547 : BitVec 32 := 0#32
  let v624 : BitVec 1 := Scalar.cmpi .eq c3_i32_546 c0_i32_547
  let c1_i32_548 : BitVec 32 := 1#32
  let v625 : BitVec 32 := Scalar.select v624 c1_i32_548 c3_i32_546
  let v626 : BitVec 32 := Scalar.remsi v623 v625
  let c0_i32_550 : BitVec 32 := 0#32
  let v628 : BitVec 1 := Scalar.cmpi .slt v626 c0_i32_550
  let c0_i32_551 : BitVec 32 := 0#32
  let v629 : BitVec 1 := Scalar.cmpi .slt v625 c0_i32_551
  let v630 : BitVec 1 := Scalar.xori v628 v629
  let c0_i32_549 : BitVec 32 := 0#32
  let v627 : BitVec 1 := Scalar.cmpi .ne v626 c0_i32_549
  let v631 : BitVec 1 := Scalar.andi v630 v627
  let v632 : BitVec 32 := Scalar.addi v626 v625
  let v633 : BitVec 32 := Scalar.select v631 v632 v626
  let c19_i32_553 : BitVec 32 := 19#32
  let c0_i32_555 : BitVec 32 := 0#32
  let c0_i32_556 : BitVec 32 := 0#32
  ![v633.toNat, 19, 0, 0]
def k0_off60 (i : grid0.Coords) : Fin 4 → Nat :=
  let arg0 : BitVec 32 := BitVec.ofNat 32 (i 0).val
  let c2_i32_544 : BitVec 32 := 2#32
  let v622 : BitVec 32 := Scalar.addi arg0 c2_i32_544
  let c0_i32_557 : BitVec 32 := 0#32
  let c19_i32_552 : BitVec 32 := 19#32
  let c0_i32_558 : BitVec 32 := 0#32
  ![v622.toNat, 0, 19, 0]
def k0_off61 (i : grid0.Coords) : Fin 2 → Nat :=
  let arg0 : BitVec 32 := BitVec.ofNat 32 (i 0).val
  let c2_i32_560 : BitVec 32 := 2#32
  let v641 : BitVec 32 := Scalar.addi arg0 c2_i32_560
  let c3_i32_561 : BitVec 32 := 3#32
  let c0_i32_562 : BitVec 32 := 0#32
  let v642 : BitVec 1 := Scalar.cmpi .eq c3_i32_561 c0_i32_562
  let c1_i32_563 : BitVec 32 := 1#32
  let v643 : BitVec 32 := Scalar.select v642 c1_i32_563 c3_i32_561
  let v644 : BitVec 32 := Scalar.remsi v641 v643
  let c0_i32_565 : BitVec 32 := 0#32
  let v646 : BitVec 1 := Scalar.cmpi .slt v644 c0_i32_565
  let c0_i32_566 : BitVec 32 := 0#32
  let v647 : BitVec 1 := Scalar.cmpi .slt v643 c0_i32_566
  let v648 : BitVec 1 := Scalar.xori v646 v647
  let c0_i32_564 : BitVec 32 := 0#32
  let v645 : BitVec 1 := Scalar.cmpi .ne v644 c0_i32_564
  let v649 : BitVec 1 := Scalar.andi v648 v645
  let v650 : BitVec 32 := Scalar.addi v644 v643
  let v651 : BitVec 32 := Scalar.select v649 v650 v644
  let c20_i32_569 : BitVec 32 := 20#32
  ![v651.toNat, 20]
def k0_off62 (i : grid0.Coords) : Fin 4 → Nat :=
  let arg0 : BitVec 32 := BitVec.ofNat 32 (i 0).val
  let c2_i32_560 : BitVec 32 := 2#32
  let v641 : BitVec 32 := Scalar.addi arg0 c2_i32_560
  let c3_i32_561 : BitVec 32 := 3#32
  let c0_i32_562 : BitVec 32 := 0#32
  let v642 : BitVec 1 := Scalar.cmpi .eq c3_i32_561 c0_i32_562
  let c1_i32_563 : BitVec 32 := 1#32
  let v643 : BitVec 32 := Scalar.select v642 c1_i32_563 c3_i32_561
  let v644 : BitVec 32 := Scalar.remsi v641 v643
  let c0_i32_565 : BitVec 32 := 0#32
  let v646 : BitVec 1 := Scalar.cmpi .slt v644 c0_i32_565
  let c0_i32_566 : BitVec 32 := 0#32
  let v647 : BitVec 1 := Scalar.cmpi .slt v643 c0_i32_566
  let v648 : BitVec 1 := Scalar.xori v646 v647
  let c0_i32_564 : BitVec 32 := 0#32
  let v645 : BitVec 1 := Scalar.cmpi .ne v644 c0_i32_564
  let v649 : BitVec 1 := Scalar.andi v648 v645
  let v650 : BitVec 32 := Scalar.addi v644 v643
  let v651 : BitVec 32 := Scalar.select v649 v650 v644
  let c20_i32_568 : BitVec 32 := 20#32
  let c0_i32_570 : BitVec 32 := 0#32
  let c0_i32_571 : BitVec 32 := 0#32
  ![v651.toNat, 20, 0, 0]
def k0_off63 (i : grid0.Coords) : Fin 4 → Nat :=
  let arg0 : BitVec 32 := BitVec.ofNat 32 (i 0).val
  let c2_i32_559 : BitVec 32 := 2#32
  let v640 : BitVec 32 := Scalar.addi arg0 c2_i32_559
  let c0_i32_572 : BitVec 32 := 0#32
  let c20_i32_567 : BitVec 32 := 20#32
  let c0_i32_573 : BitVec 32 := 0#32
  ![v640.toNat, 0, 20, 0]
def k0_off64 (i : grid0.Coords) : Fin 2 → Nat :=
  let arg0 : BitVec 32 := BitVec.ofNat 32 (i 0).val
  let c2_i32_575 : BitVec 32 := 2#32
  let v659 : BitVec 32 := Scalar.addi arg0 c2_i32_575
  let c3_i32_576 : BitVec 32 := 3#32
  let c0_i32_577 : BitVec 32 := 0#32
  let v660 : BitVec 1 := Scalar.cmpi .eq c3_i32_576 c0_i32_577
  let c1_i32_578 : BitVec 32 := 1#32
  let v661 : BitVec 32 := Scalar.select v660 c1_i32_578 c3_i32_576
  let v662 : BitVec 32 := Scalar.remsi v659 v661
  let c0_i32_580 : BitVec 32 := 0#32
  let v664 : BitVec 1 := Scalar.cmpi .slt v662 c0_i32_580
  let c0_i32_581 : BitVec 32 := 0#32
  let v665 : BitVec 1 := Scalar.cmpi .slt v661 c0_i32_581
  let v666 : BitVec 1 := Scalar.xori v664 v665
  let c0_i32_579 : BitVec 32 := 0#32
  let v663 : BitVec 1 := Scalar.cmpi .ne v662 c0_i32_579
  let v667 : BitVec 1 := Scalar.andi v666 v663
  let v668 : BitVec 32 := Scalar.addi v662 v661
  let v669 : BitVec 32 := Scalar.select v667 v668 v662
  let c21_i32_584 : BitVec 32 := 21#32
  ![v669.toNat, 21]
def k0_off65 (i : grid0.Coords) : Fin 4 → Nat :=
  let arg0 : BitVec 32 := BitVec.ofNat 32 (i 0).val
  let c2_i32_575 : BitVec 32 := 2#32
  let v659 : BitVec 32 := Scalar.addi arg0 c2_i32_575
  let c3_i32_576 : BitVec 32 := 3#32
  let c0_i32_577 : BitVec 32 := 0#32
  let v660 : BitVec 1 := Scalar.cmpi .eq c3_i32_576 c0_i32_577
  let c1_i32_578 : BitVec 32 := 1#32
  let v661 : BitVec 32 := Scalar.select v660 c1_i32_578 c3_i32_576
  let v662 : BitVec 32 := Scalar.remsi v659 v661
  let c0_i32_580 : BitVec 32 := 0#32
  let v664 : BitVec 1 := Scalar.cmpi .slt v662 c0_i32_580
  let c0_i32_581 : BitVec 32 := 0#32
  let v665 : BitVec 1 := Scalar.cmpi .slt v661 c0_i32_581
  let v666 : BitVec 1 := Scalar.xori v664 v665
  let c0_i32_579 : BitVec 32 := 0#32
  let v663 : BitVec 1 := Scalar.cmpi .ne v662 c0_i32_579
  let v667 : BitVec 1 := Scalar.andi v666 v663
  let v668 : BitVec 32 := Scalar.addi v662 v661
  let v669 : BitVec 32 := Scalar.select v667 v668 v662
  let c21_i32_583 : BitVec 32 := 21#32
  let c0_i32_585 : BitVec 32 := 0#32
  let c0_i32_586 : BitVec 32 := 0#32
  ![v669.toNat, 21, 0, 0]
def k0_off66 (i : grid0.Coords) : Fin 4 → Nat :=
  let arg0 : BitVec 32 := BitVec.ofNat 32 (i 0).val
  let c2_i32_574 : BitVec 32 := 2#32
  let v658 : BitVec 32 := Scalar.addi arg0 c2_i32_574
  let c0_i32_587 : BitVec 32 := 0#32
  let c21_i32_582 : BitVec 32 := 21#32
  let c0_i32_588 : BitVec 32 := 0#32
  ![v658.toNat, 0, 21, 0]
def k0_off67 (i : grid0.Coords) : Fin 2 → Nat :=
  let arg0 : BitVec 32 := BitVec.ofNat 32 (i 0).val
  let c2_i32_590 : BitVec 32 := 2#32
  let v677 : BitVec 32 := Scalar.addi arg0 c2_i32_590
  let c3_i32_591 : BitVec 32 := 3#32
  let c0_i32_592 : BitVec 32 := 0#32
  let v678 : BitVec 1 := Scalar.cmpi .eq c3_i32_591 c0_i32_592
  let c1_i32_593 : BitVec 32 := 1#32
  let v679 : BitVec 32 := Scalar.select v678 c1_i32_593 c3_i32_591
  let v680 : BitVec 32 := Scalar.remsi v677 v679
  let c0_i32_595 : BitVec 32 := 0#32
  let v682 : BitVec 1 := Scalar.cmpi .slt v680 c0_i32_595
  let c0_i32_596 : BitVec 32 := 0#32
  let v683 : BitVec 1 := Scalar.cmpi .slt v679 c0_i32_596
  let v684 : BitVec 1 := Scalar.xori v682 v683
  let c0_i32_594 : BitVec 32 := 0#32
  let v681 : BitVec 1 := Scalar.cmpi .ne v680 c0_i32_594
  let v685 : BitVec 1 := Scalar.andi v684 v681
  let v686 : BitVec 32 := Scalar.addi v680 v679
  let v687 : BitVec 32 := Scalar.select v685 v686 v680
  let c22_i32_599 : BitVec 32 := 22#32
  ![v687.toNat, 22]
def k0_off68 (i : grid0.Coords) : Fin 4 → Nat :=
  let arg0 : BitVec 32 := BitVec.ofNat 32 (i 0).val
  let c2_i32_590 : BitVec 32 := 2#32
  let v677 : BitVec 32 := Scalar.addi arg0 c2_i32_590
  let c3_i32_591 : BitVec 32 := 3#32
  let c0_i32_592 : BitVec 32 := 0#32
  let v678 : BitVec 1 := Scalar.cmpi .eq c3_i32_591 c0_i32_592
  let c1_i32_593 : BitVec 32 := 1#32
  let v679 : BitVec 32 := Scalar.select v678 c1_i32_593 c3_i32_591
  let v680 : BitVec 32 := Scalar.remsi v677 v679
  let c0_i32_595 : BitVec 32 := 0#32
  let v682 : BitVec 1 := Scalar.cmpi .slt v680 c0_i32_595
  let c0_i32_596 : BitVec 32 := 0#32
  let v683 : BitVec 1 := Scalar.cmpi .slt v679 c0_i32_596
  let v684 : BitVec 1 := Scalar.xori v682 v683
  let c0_i32_594 : BitVec 32 := 0#32
  let v681 : BitVec 1 := Scalar.cmpi .ne v680 c0_i32_594
  let v685 : BitVec 1 := Scalar.andi v684 v681
  let v686 : BitVec 32 := Scalar.addi v680 v679
  let v687 : BitVec 32 := Scalar.select v685 v686 v680
  let c22_i32_598 : BitVec 32 := 22#32
  let c0_i32_600 : BitVec 32 := 0#32
  let c0_i32_601 : BitVec 32 := 0#32
  ![v687.toNat, 22, 0, 0]
def k0_off69 (i : grid0.Coords) : Fin 4 → Nat :=
  let arg0 : BitVec 32 := BitVec.ofNat 32 (i 0).val
  let c2_i32_589 : BitVec 32 := 2#32
  let v676 : BitVec 32 := Scalar.addi arg0 c2_i32_589
  let c0_i32_602 : BitVec 32 := 0#32
  let c22_i32_597 : BitVec 32 := 22#32
  let c0_i32_603 : BitVec 32 := 0#32
  ![v676.toNat, 0, 22, 0]
def k0_off70 (i : grid0.Coords) : Fin 2 → Nat :=
  let arg0 : BitVec 32 := BitVec.ofNat 32 (i 0).val
  let c2_i32_605 : BitVec 32 := 2#32
  let v695 : BitVec 32 := Scalar.addi arg0 c2_i32_605
  let c3_i32_606 : BitVec 32 := 3#32
  let c0_i32_607 : BitVec 32 := 0#32
  let v696 : BitVec 1 := Scalar.cmpi .eq c3_i32_606 c0_i32_607
  let c1_i32_608 : BitVec 32 := 1#32
  let v697 : BitVec 32 := Scalar.select v696 c1_i32_608 c3_i32_606
  let v698 : BitVec 32 := Scalar.remsi v695 v697
  let c0_i32_610 : BitVec 32 := 0#32
  let v700 : BitVec 1 := Scalar.cmpi .slt v698 c0_i32_610
  let c0_i32_611 : BitVec 32 := 0#32
  let v701 : BitVec 1 := Scalar.cmpi .slt v697 c0_i32_611
  let v702 : BitVec 1 := Scalar.xori v700 v701
  let c0_i32_609 : BitVec 32 := 0#32
  let v699 : BitVec 1 := Scalar.cmpi .ne v698 c0_i32_609
  let v703 : BitVec 1 := Scalar.andi v702 v699
  let v704 : BitVec 32 := Scalar.addi v698 v697
  let v705 : BitVec 32 := Scalar.select v703 v704 v698
  let c23_i32_614 : BitVec 32 := 23#32
  ![v705.toNat, 23]
def k0_off71 (i : grid0.Coords) : Fin 4 → Nat :=
  let arg0 : BitVec 32 := BitVec.ofNat 32 (i 0).val
  let c2_i32_605 : BitVec 32 := 2#32
  let v695 : BitVec 32 := Scalar.addi arg0 c2_i32_605
  let c3_i32_606 : BitVec 32 := 3#32
  let c0_i32_607 : BitVec 32 := 0#32
  let v696 : BitVec 1 := Scalar.cmpi .eq c3_i32_606 c0_i32_607
  let c1_i32_608 : BitVec 32 := 1#32
  let v697 : BitVec 32 := Scalar.select v696 c1_i32_608 c3_i32_606
  let v698 : BitVec 32 := Scalar.remsi v695 v697
  let c0_i32_610 : BitVec 32 := 0#32
  let v700 : BitVec 1 := Scalar.cmpi .slt v698 c0_i32_610
  let c0_i32_611 : BitVec 32 := 0#32
  let v701 : BitVec 1 := Scalar.cmpi .slt v697 c0_i32_611
  let v702 : BitVec 1 := Scalar.xori v700 v701
  let c0_i32_609 : BitVec 32 := 0#32
  let v699 : BitVec 1 := Scalar.cmpi .ne v698 c0_i32_609
  let v703 : BitVec 1 := Scalar.andi v702 v699
  let v704 : BitVec 32 := Scalar.addi v698 v697
  let v705 : BitVec 32 := Scalar.select v703 v704 v698
  let c23_i32_613 : BitVec 32 := 23#32
  let c0_i32_615 : BitVec 32 := 0#32
  let c0_i32_616 : BitVec 32 := 0#32
  ![v705.toNat, 23, 0, 0]
def k0_off72 (i : grid0.Coords) : Fin 4 → Nat :=
  let arg0 : BitVec 32 := BitVec.ofNat 32 (i 0).val
  let c2_i32_604 : BitVec 32 := 2#32
  let v694 : BitVec 32 := Scalar.addi arg0 c2_i32_604
  let c0_i32_617 : BitVec 32 := 0#32
  let c23_i32_612 : BitVec 32 := 23#32
  let c0_i32_618 : BitVec 32 := 0#32
  ![v694.toNat, 0, 23, 0]
def k0_off73 (i : grid0.Coords) : Fin 2 → Nat :=
  let arg0 : BitVec 32 := BitVec.ofNat 32 (i 0).val
  let c2_i32_620 : BitVec 32 := 2#32
  let v713 : BitVec 32 := Scalar.addi arg0 c2_i32_620
  let c3_i32_621 : BitVec 32 := 3#32
  let c0_i32_622 : BitVec 32 := 0#32
  let v714 : BitVec 1 := Scalar.cmpi .eq c3_i32_621 c0_i32_622
  let c1_i32_623 : BitVec 32 := 1#32
  let v715 : BitVec 32 := Scalar.select v714 c1_i32_623 c3_i32_621
  let v716 : BitVec 32 := Scalar.remsi v713 v715
  let c0_i32_625 : BitVec 32 := 0#32
  let v718 : BitVec 1 := Scalar.cmpi .slt v716 c0_i32_625
  let c0_i32_626 : BitVec 32 := 0#32
  let v719 : BitVec 1 := Scalar.cmpi .slt v715 c0_i32_626
  let v720 : BitVec 1 := Scalar.xori v718 v719
  let c0_i32_624 : BitVec 32 := 0#32
  let v717 : BitVec 1 := Scalar.cmpi .ne v716 c0_i32_624
  let v721 : BitVec 1 := Scalar.andi v720 v717
  let v722 : BitVec 32 := Scalar.addi v716 v715
  let v723 : BitVec 32 := Scalar.select v721 v722 v716
  let c24_i32_629 : BitVec 32 := 24#32
  ![v723.toNat, 24]
def k0_off74 (i : grid0.Coords) : Fin 4 → Nat :=
  let arg0 : BitVec 32 := BitVec.ofNat 32 (i 0).val
  let c2_i32_620 : BitVec 32 := 2#32
  let v713 : BitVec 32 := Scalar.addi arg0 c2_i32_620
  let c3_i32_621 : BitVec 32 := 3#32
  let c0_i32_622 : BitVec 32 := 0#32
  let v714 : BitVec 1 := Scalar.cmpi .eq c3_i32_621 c0_i32_622
  let c1_i32_623 : BitVec 32 := 1#32
  let v715 : BitVec 32 := Scalar.select v714 c1_i32_623 c3_i32_621
  let v716 : BitVec 32 := Scalar.remsi v713 v715
  let c0_i32_625 : BitVec 32 := 0#32
  let v718 : BitVec 1 := Scalar.cmpi .slt v716 c0_i32_625
  let c0_i32_626 : BitVec 32 := 0#32
  let v719 : BitVec 1 := Scalar.cmpi .slt v715 c0_i32_626
  let v720 : BitVec 1 := Scalar.xori v718 v719
  let c0_i32_624 : BitVec 32 := 0#32
  let v717 : BitVec 1 := Scalar.cmpi .ne v716 c0_i32_624
  let v721 : BitVec 1 := Scalar.andi v720 v717
  let v722 : BitVec 32 := Scalar.addi v716 v715
  let v723 : BitVec 32 := Scalar.select v721 v722 v716
  let c24_i32_628 : BitVec 32 := 24#32
  let c0_i32_630 : BitVec 32 := 0#32
  let c0_i32_631 : BitVec 32 := 0#32
  ![v723.toNat, 24, 0, 0]
def k0_off75 (i : grid0.Coords) : Fin 4 → Nat :=
  let arg0 : BitVec 32 := BitVec.ofNat 32 (i 0).val
  let c2_i32_619 : BitVec 32 := 2#32
  let v712 : BitVec 32 := Scalar.addi arg0 c2_i32_619
  let c0_i32_632 : BitVec 32 := 0#32
  let c24_i32_627 : BitVec 32 := 24#32
  let c0_i32_633 : BitVec 32 := 0#32
  ![v712.toNat, 0, 24, 0]
def k0_off76 (i : grid0.Coords) : Fin 2 → Nat :=
  let arg0 : BitVec 32 := BitVec.ofNat 32 (i 0).val
  let c2_i32_635 : BitVec 32 := 2#32
  let v731 : BitVec 32 := Scalar.addi arg0 c2_i32_635
  let c3_i32_636 : BitVec 32 := 3#32
  let c0_i32_637 : BitVec 32 := 0#32
  let v732 : BitVec 1 := Scalar.cmpi .eq c3_i32_636 c0_i32_637
  let c1_i32_638 : BitVec 32 := 1#32
  let v733 : BitVec 32 := Scalar.select v732 c1_i32_638 c3_i32_636
  let v734 : BitVec 32 := Scalar.remsi v731 v733
  let c0_i32_640 : BitVec 32 := 0#32
  let v736 : BitVec 1 := Scalar.cmpi .slt v734 c0_i32_640
  let c0_i32_641 : BitVec 32 := 0#32
  let v737 : BitVec 1 := Scalar.cmpi .slt v733 c0_i32_641
  let v738 : BitVec 1 := Scalar.xori v736 v737
  let c0_i32_639 : BitVec 32 := 0#32
  let v735 : BitVec 1 := Scalar.cmpi .ne v734 c0_i32_639
  let v739 : BitVec 1 := Scalar.andi v738 v735
  let v740 : BitVec 32 := Scalar.addi v734 v733
  let v741 : BitVec 32 := Scalar.select v739 v740 v734
  let c25_i32_644 : BitVec 32 := 25#32
  ![v741.toNat, 25]
def k0_off77 (i : grid0.Coords) : Fin 4 → Nat :=
  let arg0 : BitVec 32 := BitVec.ofNat 32 (i 0).val
  let c2_i32_635 : BitVec 32 := 2#32
  let v731 : BitVec 32 := Scalar.addi arg0 c2_i32_635
  let c3_i32_636 : BitVec 32 := 3#32
  let c0_i32_637 : BitVec 32 := 0#32
  let v732 : BitVec 1 := Scalar.cmpi .eq c3_i32_636 c0_i32_637
  let c1_i32_638 : BitVec 32 := 1#32
  let v733 : BitVec 32 := Scalar.select v732 c1_i32_638 c3_i32_636
  let v734 : BitVec 32 := Scalar.remsi v731 v733
  let c0_i32_640 : BitVec 32 := 0#32
  let v736 : BitVec 1 := Scalar.cmpi .slt v734 c0_i32_640
  let c0_i32_641 : BitVec 32 := 0#32
  let v737 : BitVec 1 := Scalar.cmpi .slt v733 c0_i32_641
  let v738 : BitVec 1 := Scalar.xori v736 v737
  let c0_i32_639 : BitVec 32 := 0#32
  let v735 : BitVec 1 := Scalar.cmpi .ne v734 c0_i32_639
  let v739 : BitVec 1 := Scalar.andi v738 v735
  let v740 : BitVec 32 := Scalar.addi v734 v733
  let v741 : BitVec 32 := Scalar.select v739 v740 v734
  let c25_i32_643 : BitVec 32 := 25#32
  let c0_i32_645 : BitVec 32 := 0#32
  let c0_i32_646 : BitVec 32 := 0#32
  ![v741.toNat, 25, 0, 0]
def k0_off78 (i : grid0.Coords) : Fin 4 → Nat :=
  let arg0 : BitVec 32 := BitVec.ofNat 32 (i 0).val
  let c2_i32_634 : BitVec 32 := 2#32
  let v730 : BitVec 32 := Scalar.addi arg0 c2_i32_634
  let c0_i32_647 : BitVec 32 := 0#32
  let c25_i32_642 : BitVec 32 := 25#32
  let c0_i32_648 : BitVec 32 := 0#32
  ![v730.toNat, 0, 25, 0]
def k0_off79 (i : grid0.Coords) : Fin 2 → Nat :=
  let arg0 : BitVec 32 := BitVec.ofNat 32 (i 0).val
  let c2_i32_650 : BitVec 32 := 2#32
  let v749 : BitVec 32 := Scalar.addi arg0 c2_i32_650
  let c3_i32_651 : BitVec 32 := 3#32
  let c0_i32_652 : BitVec 32 := 0#32
  let v750 : BitVec 1 := Scalar.cmpi .eq c3_i32_651 c0_i32_652
  let c1_i32_653 : BitVec 32 := 1#32
  let v751 : BitVec 32 := Scalar.select v750 c1_i32_653 c3_i32_651
  let v752 : BitVec 32 := Scalar.remsi v749 v751
  let c0_i32_655 : BitVec 32 := 0#32
  let v754 : BitVec 1 := Scalar.cmpi .slt v752 c0_i32_655
  let c0_i32_656 : BitVec 32 := 0#32
  let v755 : BitVec 1 := Scalar.cmpi .slt v751 c0_i32_656
  let v756 : BitVec 1 := Scalar.xori v754 v755
  let c0_i32_654 : BitVec 32 := 0#32
  let v753 : BitVec 1 := Scalar.cmpi .ne v752 c0_i32_654
  let v757 : BitVec 1 := Scalar.andi v756 v753
  let v758 : BitVec 32 := Scalar.addi v752 v751
  let v759 : BitVec 32 := Scalar.select v757 v758 v752
  let c26_i32_659 : BitVec 32 := 26#32
  ![v759.toNat, 26]
def k0_off80 (i : grid0.Coords) : Fin 4 → Nat :=
  let arg0 : BitVec 32 := BitVec.ofNat 32 (i 0).val
  let c2_i32_650 : BitVec 32 := 2#32
  let v749 : BitVec 32 := Scalar.addi arg0 c2_i32_650
  let c3_i32_651 : BitVec 32 := 3#32
  let c0_i32_652 : BitVec 32 := 0#32
  let v750 : BitVec 1 := Scalar.cmpi .eq c3_i32_651 c0_i32_652
  let c1_i32_653 : BitVec 32 := 1#32
  let v751 : BitVec 32 := Scalar.select v750 c1_i32_653 c3_i32_651
  let v752 : BitVec 32 := Scalar.remsi v749 v751
  let c0_i32_655 : BitVec 32 := 0#32
  let v754 : BitVec 1 := Scalar.cmpi .slt v752 c0_i32_655
  let c0_i32_656 : BitVec 32 := 0#32
  let v755 : BitVec 1 := Scalar.cmpi .slt v751 c0_i32_656
  let v756 : BitVec 1 := Scalar.xori v754 v755
  let c0_i32_654 : BitVec 32 := 0#32
  let v753 : BitVec 1 := Scalar.cmpi .ne v752 c0_i32_654
  let v757 : BitVec 1 := Scalar.andi v756 v753
  let v758 : BitVec 32 := Scalar.addi v752 v751
  let v759 : BitVec 32 := Scalar.select v757 v758 v752
  let c26_i32_658 : BitVec 32 := 26#32
  let c0_i32_660 : BitVec 32 := 0#32
  let c0_i32_661 : BitVec 32 := 0#32
  ![v759.toNat, 26, 0, 0]
def k0_off81 (i : grid0.Coords) : Fin 4 → Nat :=
  let arg0 : BitVec 32 := BitVec.ofNat 32 (i 0).val
  let c2_i32_649 : BitVec 32 := 2#32
  let v748 : BitVec 32 := Scalar.addi arg0 c2_i32_649
  let c0_i32_662 : BitVec 32 := 0#32
  let c26_i32_657 : BitVec 32 := 26#32
  let c0_i32_663 : BitVec 32 := 0#32
  ![v748.toNat, 0, 26, 0]
def k0_off82 (i : grid0.Coords) : Fin 2 → Nat :=
  let arg0 : BitVec 32 := BitVec.ofNat 32 (i 0).val
  let c2_i32_665 : BitVec 32 := 2#32
  let v767 : BitVec 32 := Scalar.addi arg0 c2_i32_665
  let c3_i32_666 : BitVec 32 := 3#32
  let c0_i32_667 : BitVec 32 := 0#32
  let v768 : BitVec 1 := Scalar.cmpi .eq c3_i32_666 c0_i32_667
  let c1_i32_668 : BitVec 32 := 1#32
  let v769 : BitVec 32 := Scalar.select v768 c1_i32_668 c3_i32_666
  let v770 : BitVec 32 := Scalar.remsi v767 v769
  let c0_i32_670 : BitVec 32 := 0#32
  let v772 : BitVec 1 := Scalar.cmpi .slt v770 c0_i32_670
  let c0_i32_671 : BitVec 32 := 0#32
  let v773 : BitVec 1 := Scalar.cmpi .slt v769 c0_i32_671
  let v774 : BitVec 1 := Scalar.xori v772 v773
  let c0_i32_669 : BitVec 32 := 0#32
  let v771 : BitVec 1 := Scalar.cmpi .ne v770 c0_i32_669
  let v775 : BitVec 1 := Scalar.andi v774 v771
  let v776 : BitVec 32 := Scalar.addi v770 v769
  let v777 : BitVec 32 := Scalar.select v775 v776 v770
  let c27_i32_674 : BitVec 32 := 27#32
  ![v777.toNat, 27]
def k0_off83 (i : grid0.Coords) : Fin 4 → Nat :=
  let arg0 : BitVec 32 := BitVec.ofNat 32 (i 0).val
  let c2_i32_665 : BitVec 32 := 2#32
  let v767 : BitVec 32 := Scalar.addi arg0 c2_i32_665
  let c3_i32_666 : BitVec 32 := 3#32
  let c0_i32_667 : BitVec 32 := 0#32
  let v768 : BitVec 1 := Scalar.cmpi .eq c3_i32_666 c0_i32_667
  let c1_i32_668 : BitVec 32 := 1#32
  let v769 : BitVec 32 := Scalar.select v768 c1_i32_668 c3_i32_666
  let v770 : BitVec 32 := Scalar.remsi v767 v769
  let c0_i32_670 : BitVec 32 := 0#32
  let v772 : BitVec 1 := Scalar.cmpi .slt v770 c0_i32_670
  let c0_i32_671 : BitVec 32 := 0#32
  let v773 : BitVec 1 := Scalar.cmpi .slt v769 c0_i32_671
  let v774 : BitVec 1 := Scalar.xori v772 v773
  let c0_i32_669 : BitVec 32 := 0#32
  let v771 : BitVec 1 := Scalar.cmpi .ne v770 c0_i32_669
  let v775 : BitVec 1 := Scalar.andi v774 v771
  let v776 : BitVec 32 := Scalar.addi v770 v769
  let v777 : BitVec 32 := Scalar.select v775 v776 v770
  let c27_i32_673 : BitVec 32 := 27#32
  let c0_i32_675 : BitVec 32 := 0#32
  let c0_i32_676 : BitVec 32 := 0#32
  ![v777.toNat, 27, 0, 0]
def k0_off84 (i : grid0.Coords) : Fin 4 → Nat :=
  let arg0 : BitVec 32 := BitVec.ofNat 32 (i 0).val
  let c2_i32_664 : BitVec 32 := 2#32
  let v766 : BitVec 32 := Scalar.addi arg0 c2_i32_664
  let c0_i32_677 : BitVec 32 := 0#32
  let c27_i32_672 : BitVec 32 := 27#32
  let c0_i32_678 : BitVec 32 := 0#32
  ![v766.toNat, 0, 27, 0]
def k0_off85 (i : grid0.Coords) : Fin 2 → Nat :=
  let arg0 : BitVec 32 := BitVec.ofNat 32 (i 0).val
  let c2_i32_680 : BitVec 32 := 2#32
  let v785 : BitVec 32 := Scalar.addi arg0 c2_i32_680
  let c3_i32_681 : BitVec 32 := 3#32
  let c0_i32_682 : BitVec 32 := 0#32
  let v786 : BitVec 1 := Scalar.cmpi .eq c3_i32_681 c0_i32_682
  let c1_i32_683 : BitVec 32 := 1#32
  let v787 : BitVec 32 := Scalar.select v786 c1_i32_683 c3_i32_681
  let v788 : BitVec 32 := Scalar.remsi v785 v787
  let c0_i32_685 : BitVec 32 := 0#32
  let v790 : BitVec 1 := Scalar.cmpi .slt v788 c0_i32_685
  let c0_i32_686 : BitVec 32 := 0#32
  let v791 : BitVec 1 := Scalar.cmpi .slt v787 c0_i32_686
  let v792 : BitVec 1 := Scalar.xori v790 v791
  let c0_i32_684 : BitVec 32 := 0#32
  let v789 : BitVec 1 := Scalar.cmpi .ne v788 c0_i32_684
  let v793 : BitVec 1 := Scalar.andi v792 v789
  let v794 : BitVec 32 := Scalar.addi v788 v787
  let v795 : BitVec 32 := Scalar.select v793 v794 v788
  let c28_i32_689 : BitVec 32 := 28#32
  ![v795.toNat, 28]
def k0_off86 (i : grid0.Coords) : Fin 4 → Nat :=
  let arg0 : BitVec 32 := BitVec.ofNat 32 (i 0).val
  let c2_i32_680 : BitVec 32 := 2#32
  let v785 : BitVec 32 := Scalar.addi arg0 c2_i32_680
  let c3_i32_681 : BitVec 32 := 3#32
  let c0_i32_682 : BitVec 32 := 0#32
  let v786 : BitVec 1 := Scalar.cmpi .eq c3_i32_681 c0_i32_682
  let c1_i32_683 : BitVec 32 := 1#32
  let v787 : BitVec 32 := Scalar.select v786 c1_i32_683 c3_i32_681
  let v788 : BitVec 32 := Scalar.remsi v785 v787
  let c0_i32_685 : BitVec 32 := 0#32
  let v790 : BitVec 1 := Scalar.cmpi .slt v788 c0_i32_685
  let c0_i32_686 : BitVec 32 := 0#32
  let v791 : BitVec 1 := Scalar.cmpi .slt v787 c0_i32_686
  let v792 : BitVec 1 := Scalar.xori v790 v791
  let c0_i32_684 : BitVec 32 := 0#32
  let v789 : BitVec 1 := Scalar.cmpi .ne v788 c0_i32_684
  let v793 : BitVec 1 := Scalar.andi v792 v789
  let v794 : BitVec 32 := Scalar.addi v788 v787
  let v795 : BitVec 32 := Scalar.select v793 v794 v788
  let c28_i32_688 : BitVec 32 := 28#32
  let c0_i32_690 : BitVec 32 := 0#32
  let c0_i32_691 : BitVec 32 := 0#32
  ![v795.toNat, 28, 0, 0]
def k0_off87 (i : grid0.Coords) : Fin 4 → Nat :=
  let arg0 : BitVec 32 := BitVec.ofNat 32 (i 0).val
  let c2_i32_679 : BitVec 32 := 2#32
  let v784 : BitVec 32 := Scalar.addi arg0 c2_i32_679
  let c0_i32_692 : BitVec 32 := 0#32
  let c28_i32_687 : BitVec 32 := 28#32
  let c0_i32_693 : BitVec 32 := 0#32
  ![v784.toNat, 0, 28, 0]
def k0_off88 (i : grid0.Coords) : Fin 2 → Nat :=
  let arg0 : BitVec 32 := BitVec.ofNat 32 (i 0).val
  let c2_i32_695 : BitVec 32 := 2#32
  let v803 : BitVec 32 := Scalar.addi arg0 c2_i32_695
  let c3_i32_696 : BitVec 32 := 3#32
  let c0_i32_697 : BitVec 32 := 0#32
  let v804 : BitVec 1 := Scalar.cmpi .eq c3_i32_696 c0_i32_697
  let c1_i32_698 : BitVec 32 := 1#32
  let v805 : BitVec 32 := Scalar.select v804 c1_i32_698 c3_i32_696
  let v806 : BitVec 32 := Scalar.remsi v803 v805
  let c0_i32_700 : BitVec 32 := 0#32
  let v808 : BitVec 1 := Scalar.cmpi .slt v806 c0_i32_700
  let c0_i32_701 : BitVec 32 := 0#32
  let v809 : BitVec 1 := Scalar.cmpi .slt v805 c0_i32_701
  let v810 : BitVec 1 := Scalar.xori v808 v809
  let c0_i32_699 : BitVec 32 := 0#32
  let v807 : BitVec 1 := Scalar.cmpi .ne v806 c0_i32_699
  let v811 : BitVec 1 := Scalar.andi v810 v807
  let v812 : BitVec 32 := Scalar.addi v806 v805
  let v813 : BitVec 32 := Scalar.select v811 v812 v806
  let c29_i32_704 : BitVec 32 := 29#32
  ![v813.toNat, 29]
def k0_off89 (i : grid0.Coords) : Fin 4 → Nat :=
  let arg0 : BitVec 32 := BitVec.ofNat 32 (i 0).val
  let c2_i32_695 : BitVec 32 := 2#32
  let v803 : BitVec 32 := Scalar.addi arg0 c2_i32_695
  let c3_i32_696 : BitVec 32 := 3#32
  let c0_i32_697 : BitVec 32 := 0#32
  let v804 : BitVec 1 := Scalar.cmpi .eq c3_i32_696 c0_i32_697
  let c1_i32_698 : BitVec 32 := 1#32
  let v805 : BitVec 32 := Scalar.select v804 c1_i32_698 c3_i32_696
  let v806 : BitVec 32 := Scalar.remsi v803 v805
  let c0_i32_700 : BitVec 32 := 0#32
  let v808 : BitVec 1 := Scalar.cmpi .slt v806 c0_i32_700
  let c0_i32_701 : BitVec 32 := 0#32
  let v809 : BitVec 1 := Scalar.cmpi .slt v805 c0_i32_701
  let v810 : BitVec 1 := Scalar.xori v808 v809
  let c0_i32_699 : BitVec 32 := 0#32
  let v807 : BitVec 1 := Scalar.cmpi .ne v806 c0_i32_699
  let v811 : BitVec 1 := Scalar.andi v810 v807
  let v812 : BitVec 32 := Scalar.addi v806 v805
  let v813 : BitVec 32 := Scalar.select v811 v812 v806
  let c29_i32_703 : BitVec 32 := 29#32
  let c0_i32_705 : BitVec 32 := 0#32
  let c0_i32_706 : BitVec 32 := 0#32
  ![v813.toNat, 29, 0, 0]
def k0_off90 (i : grid0.Coords) : Fin 4 → Nat :=
  let arg0 : BitVec 32 := BitVec.ofNat 32 (i 0).val
  let c2_i32_694 : BitVec 32 := 2#32
  let v802 : BitVec 32 := Scalar.addi arg0 c2_i32_694
  let c0_i32_707 : BitVec 32 := 0#32
  let c29_i32_702 : BitVec 32 := 29#32
  let c0_i32_708 : BitVec 32 := 0#32
  ![v802.toNat, 0, 29, 0]
def k0_off91 (i : grid0.Coords) : Fin 2 → Nat :=
  let arg0 : BitVec 32 := BitVec.ofNat 32 (i 0).val
  let c2_i32_710 : BitVec 32 := 2#32
  let v821 : BitVec 32 := Scalar.addi arg0 c2_i32_710
  let c3_i32_711 : BitVec 32 := 3#32
  let c0_i32_712 : BitVec 32 := 0#32
  let v822 : BitVec 1 := Scalar.cmpi .eq c3_i32_711 c0_i32_712
  let c1_i32_713 : BitVec 32 := 1#32
  let v823 : BitVec 32 := Scalar.select v822 c1_i32_713 c3_i32_711
  let v824 : BitVec 32 := Scalar.remsi v821 v823
  let c0_i32_715 : BitVec 32 := 0#32
  let v826 : BitVec 1 := Scalar.cmpi .slt v824 c0_i32_715
  let c0_i32_716 : BitVec 32 := 0#32
  let v827 : BitVec 1 := Scalar.cmpi .slt v823 c0_i32_716
  let v828 : BitVec 1 := Scalar.xori v826 v827
  let c0_i32_714 : BitVec 32 := 0#32
  let v825 : BitVec 1 := Scalar.cmpi .ne v824 c0_i32_714
  let v829 : BitVec 1 := Scalar.andi v828 v825
  let v830 : BitVec 32 := Scalar.addi v824 v823
  let v831 : BitVec 32 := Scalar.select v829 v830 v824
  let c30_i32_719 : BitVec 32 := 30#32
  ![v831.toNat, 30]
def k0_off92 (i : grid0.Coords) : Fin 4 → Nat :=
  let arg0 : BitVec 32 := BitVec.ofNat 32 (i 0).val
  let c2_i32_710 : BitVec 32 := 2#32
  let v821 : BitVec 32 := Scalar.addi arg0 c2_i32_710
  let c3_i32_711 : BitVec 32 := 3#32
  let c0_i32_712 : BitVec 32 := 0#32
  let v822 : BitVec 1 := Scalar.cmpi .eq c3_i32_711 c0_i32_712
  let c1_i32_713 : BitVec 32 := 1#32
  let v823 : BitVec 32 := Scalar.select v822 c1_i32_713 c3_i32_711
  let v824 : BitVec 32 := Scalar.remsi v821 v823
  let c0_i32_715 : BitVec 32 := 0#32
  let v826 : BitVec 1 := Scalar.cmpi .slt v824 c0_i32_715
  let c0_i32_716 : BitVec 32 := 0#32
  let v827 : BitVec 1 := Scalar.cmpi .slt v823 c0_i32_716
  let v828 : BitVec 1 := Scalar.xori v826 v827
  let c0_i32_714 : BitVec 32 := 0#32
  let v825 : BitVec 1 := Scalar.cmpi .ne v824 c0_i32_714
  let v829 : BitVec 1 := Scalar.andi v828 v825
  let v830 : BitVec 32 := Scalar.addi v824 v823
  let v831 : BitVec 32 := Scalar.select v829 v830 v824
  let c30_i32_718 : BitVec 32 := 30#32
  let c0_i32_720 : BitVec 32 := 0#32
  let c0_i32_721 : BitVec 32 := 0#32
  ![v831.toNat, 30, 0, 0]
def k0_off93 (i : grid0.Coords) : Fin 4 → Nat :=
  let arg0 : BitVec 32 := BitVec.ofNat 32 (i 0).val
  let c2_i32_709 : BitVec 32 := 2#32
  let v820 : BitVec 32 := Scalar.addi arg0 c2_i32_709
  let c0_i32_722 : BitVec 32 := 0#32
  let c30_i32_717 : BitVec 32 := 30#32
  let c0_i32_723 : BitVec 32 := 0#32
  ![v820.toNat, 0, 30, 0]
def k0_off94 (i : grid0.Coords) : Fin 2 → Nat :=
  let arg0 : BitVec 32 := BitVec.ofNat 32 (i 0).val
  let c2_i32_725 : BitVec 32 := 2#32
  let v839 : BitVec 32 := Scalar.addi arg0 c2_i32_725
  let c3_i32_726 : BitVec 32 := 3#32
  let c0_i32_727 : BitVec 32 := 0#32
  let v840 : BitVec 1 := Scalar.cmpi .eq c3_i32_726 c0_i32_727
  let c1_i32_728 : BitVec 32 := 1#32
  let v841 : BitVec 32 := Scalar.select v840 c1_i32_728 c3_i32_726
  let v842 : BitVec 32 := Scalar.remsi v839 v841
  let c0_i32_730 : BitVec 32 := 0#32
  let v844 : BitVec 1 := Scalar.cmpi .slt v842 c0_i32_730
  let c0_i32_731 : BitVec 32 := 0#32
  let v845 : BitVec 1 := Scalar.cmpi .slt v841 c0_i32_731
  let v846 : BitVec 1 := Scalar.xori v844 v845
  let c0_i32_729 : BitVec 32 := 0#32
  let v843 : BitVec 1 := Scalar.cmpi .ne v842 c0_i32_729
  let v847 : BitVec 1 := Scalar.andi v846 v843
  let v848 : BitVec 32 := Scalar.addi v842 v841
  let v849 : BitVec 32 := Scalar.select v847 v848 v842
  let c31_i32_734 : BitVec 32 := 31#32
  ![v849.toNat, 31]
def k0_off95 (i : grid0.Coords) : Fin 4 → Nat :=
  let arg0 : BitVec 32 := BitVec.ofNat 32 (i 0).val
  let c2_i32_725 : BitVec 32 := 2#32
  let v839 : BitVec 32 := Scalar.addi arg0 c2_i32_725
  let c3_i32_726 : BitVec 32 := 3#32
  let c0_i32_727 : BitVec 32 := 0#32
  let v840 : BitVec 1 := Scalar.cmpi .eq c3_i32_726 c0_i32_727
  let c1_i32_728 : BitVec 32 := 1#32
  let v841 : BitVec 32 := Scalar.select v840 c1_i32_728 c3_i32_726
  let v842 : BitVec 32 := Scalar.remsi v839 v841
  let c0_i32_730 : BitVec 32 := 0#32
  let v844 : BitVec 1 := Scalar.cmpi .slt v842 c0_i32_730
  let c0_i32_731 : BitVec 32 := 0#32
  let v845 : BitVec 1 := Scalar.cmpi .slt v841 c0_i32_731
  let v846 : BitVec 1 := Scalar.xori v844 v845
  let c0_i32_729 : BitVec 32 := 0#32
  let v843 : BitVec 1 := Scalar.cmpi .ne v842 c0_i32_729
  let v847 : BitVec 1 := Scalar.andi v846 v843
  let v848 : BitVec 32 := Scalar.addi v842 v841
  let v849 : BitVec 32 := Scalar.select v847 v848 v842
  let c31_i32_733 : BitVec 32 := 31#32
  let c0_i32_735 : BitVec 32 := 0#32
  let c0_i32_736 : BitVec 32 := 0#32
  ![v849.toNat, 31, 0, 0]
def k0_off96 (i : grid0.Coords) : Fin 4 → Nat :=
  let arg0 : BitVec 32 := BitVec.ofNat 32 (i 0).val
  let c2_i32_724 : BitVec 32 := 2#32
  let v838 : BitVec 32 := Scalar.addi arg0 c2_i32_724
  let c0_i32_737 : BitVec 32 := 0#32
  let c31_i32_732 : BitVec 32 := 31#32
  let c0_i32_738 : BitVec 32 := 0#32
  ![v838.toNat, 0, 31, 0]
def k0_off97 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_8 : BitVec 32 := 0#32
  ![v9.toNat, 0]
def k0_off98 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_7 : BitVec 32 := 0#32
  let c0_i32_9 : BitVec 32 := 0#32
  let c0_i32_10 : BitVec 32 := 0#32
  ![v9.toNat, 0, 0, 0]
def k0_off99 (i : grid0.Coords) : Fin 4 → Nat :=
  let arg0 : BitVec 32 := BitVec.ofNat 32 (i 0).val
  let c0_i32_11 : BitVec 32 := 0#32
  let c0_i32_6 : BitVec 32 := 0#32
  let c0_i32_12 : BitVec 32 := 0#32
  ![arg0.toNat, 0, 0, 0]
def k0_off100 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_15 : BitVec 32 := 1#32
  ![v9.toNat, 1]
def k0_off101 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c1_i32_14 : BitVec 32 := 1#32
  let c0_i32_16 : BitVec 32 := 0#32
  let c0_i32_17 : BitVec 32 := 0#32
  ![v9.toNat, 1, 0, 0]
def k0_off102 (i : grid0.Coords) : Fin 4 → Nat :=
  let arg0 : BitVec 32 := BitVec.ofNat 32 (i 0).val
  let c0_i32_18 : BitVec 32 := 0#32
  let c1_i32_13 : BitVec 32 := 1#32
  let c0_i32_19 : BitVec 32 := 0#32
  ![arg0.toNat, 0, 1, 0]
def k0_off103 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_22 : BitVec 32 := 2#32
  ![v9.toNat, 2]
def k0_off104 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c2_i32_21 : BitVec 32 := 2#32
  let c0_i32_23 : BitVec 32 := 0#32
  let c0_i32_24 : BitVec 32 := 0#32
  ![v9.toNat, 2, 0, 0]
def k0_off105 (i : grid0.Coords) : Fin 4 → Nat :=
  let arg0 : BitVec 32 := BitVec.ofNat 32 (i 0).val
  let c0_i32_25 : BitVec 32 := 0#32
  let c2_i32_20 : BitVec 32 := 2#32
  let c0_i32_26 : BitVec 32 := 0#32
  ![arg0.toNat, 0, 2, 0]
def k0_off106 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32_29 : BitVec 32 := 3#32
  ![v9.toNat, 3]
def k0_off107 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c3_i32_28 : BitVec 32 := 3#32
  let c0_i32_30 : BitVec 32 := 0#32
  let c0_i32_31 : BitVec 32 := 0#32
  ![v9.toNat, 3, 0, 0]
def k0_off108 (i : grid0.Coords) : Fin 4 → Nat :=
  let arg0 : BitVec 32 := BitVec.ofNat 32 (i 0).val
  let c0_i32_32 : BitVec 32 := 0#32
  let c3_i32_27 : BitVec 32 := 3#32
  let c0_i32_33 : BitVec 32 := 0#32
  ![arg0.toNat, 0, 3, 0]
def k0_off109 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_35 : BitVec 32 := 4#32
  ![v9.toNat, 4]
def k0_off110 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c4_i32_34 : BitVec 32 := 4#32
  let c0_i32_36 : BitVec 32 := 0#32
  let c0_i32_37 : BitVec 32 := 0#32
  ![v9.toNat, 4, 0, 0]
def k0_off111 (i : grid0.Coords) : Fin 4 → Nat :=
  let arg0 : BitVec 32 := BitVec.ofNat 32 (i 0).val
  let c0_i32_38 : BitVec 32 := 0#32
  let c4_i32 : BitVec 32 := 4#32
  let c0_i32_39 : BitVec 32 := 0#32
  ![arg0.toNat, 0, 4, 0]
def k0_off112 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c5_i32_41 : BitVec 32 := 5#32
  ![v9.toNat, 5]
def k0_off113 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c5_i32_40 : BitVec 32 := 5#32
  let c0_i32_42 : BitVec 32 := 0#32
  let c0_i32_43 : BitVec 32 := 0#32
  ![v9.toNat, 5, 0, 0]
def k0_off114 (i : grid0.Coords) : Fin 4 → Nat :=
  let arg0 : BitVec 32 := BitVec.ofNat 32 (i 0).val
  let c0_i32_44 : BitVec 32 := 0#32
  let c5_i32 : BitVec 32 := 5#32
  let c0_i32_45 : BitVec 32 := 0#32
  ![arg0.toNat, 0, 5, 0]
def k0_off115 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c6_i32_47 : BitVec 32 := 6#32
  ![v9.toNat, 6]
def k0_off116 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c6_i32_46 : BitVec 32 := 6#32
  let c0_i32_48 : BitVec 32 := 0#32
  let c0_i32_49 : BitVec 32 := 0#32
  ![v9.toNat, 6, 0, 0]
def k0_off117 (i : grid0.Coords) : Fin 4 → Nat :=
  let arg0 : BitVec 32 := BitVec.ofNat 32 (i 0).val
  let c0_i32_50 : BitVec 32 := 0#32
  let c6_i32 : BitVec 32 := 6#32
  let c0_i32_51 : BitVec 32 := 0#32
  ![arg0.toNat, 0, 6, 0]
def k0_off118 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c7_i32_53 : BitVec 32 := 7#32
  ![v9.toNat, 7]
def k0_off119 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c7_i32_52 : BitVec 32 := 7#32
  let c0_i32_54 : BitVec 32 := 0#32
  let c0_i32_55 : BitVec 32 := 0#32
  ![v9.toNat, 7, 0, 0]
def k0_off120 (i : grid0.Coords) : Fin 4 → Nat :=
  let arg0 : BitVec 32 := BitVec.ofNat 32 (i 0).val
  let c0_i32_56 : BitVec 32 := 0#32
  let c7_i32 : BitVec 32 := 7#32
  let c0_i32_57 : BitVec 32 := 0#32
  ![arg0.toNat, 0, 7, 0]
def k0_off121 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_59 : BitVec 32 := 8#32
  ![v9.toNat, 8]
def k0_off122 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c8_i32_58 : BitVec 32 := 8#32
  let c0_i32_60 : BitVec 32 := 0#32
  let c0_i32_61 : BitVec 32 := 0#32
  ![v9.toNat, 8, 0, 0]
def k0_off123 (i : grid0.Coords) : Fin 4 → Nat :=
  let arg0 : BitVec 32 := BitVec.ofNat 32 (i 0).val
  let c0_i32_62 : BitVec 32 := 0#32
  let c8_i32 : BitVec 32 := 8#32
  let c0_i32_63 : BitVec 32 := 0#32
  ![arg0.toNat, 0, 8, 0]
def k0_off124 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c9_i32_65 : BitVec 32 := 9#32
  ![v9.toNat, 9]
def k0_off125 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c9_i32_64 : BitVec 32 := 9#32
  let c0_i32_66 : BitVec 32 := 0#32
  let c0_i32_67 : BitVec 32 := 0#32
  ![v9.toNat, 9, 0, 0]
def k0_off126 (i : grid0.Coords) : Fin 4 → Nat :=
  let arg0 : BitVec 32 := BitVec.ofNat 32 (i 0).val
  let c0_i32_68 : BitVec 32 := 0#32
  let c9_i32 : BitVec 32 := 9#32
  let c0_i32_69 : BitVec 32 := 0#32
  ![arg0.toNat, 0, 9, 0]
def k0_off127 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c10_i32_71 : BitVec 32 := 10#32
  ![v9.toNat, 10]
def k0_off128 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c10_i32_70 : BitVec 32 := 10#32
  let c0_i32_72 : BitVec 32 := 0#32
  let c0_i32_73 : BitVec 32 := 0#32
  ![v9.toNat, 10, 0, 0]
def k0_off129 (i : grid0.Coords) : Fin 4 → Nat :=
  let arg0 : BitVec 32 := BitVec.ofNat 32 (i 0).val
  let c0_i32_74 : BitVec 32 := 0#32
  let c10_i32 : BitVec 32 := 10#32
  let c0_i32_75 : BitVec 32 := 0#32
  ![arg0.toNat, 0, 10, 0]
def k0_off130 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c11_i32_77 : BitVec 32 := 11#32
  ![v9.toNat, 11]
def k0_off131 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c11_i32_76 : BitVec 32 := 11#32
  let c0_i32_78 : BitVec 32 := 0#32
  let c0_i32_79 : BitVec 32 := 0#32
  ![v9.toNat, 11, 0, 0]
def k0_off132 (i : grid0.Coords) : Fin 4 → Nat :=
  let arg0 : BitVec 32 := BitVec.ofNat 32 (i 0).val
  let c0_i32_80 : BitVec 32 := 0#32
  let c11_i32 : BitVec 32 := 11#32
  let c0_i32_81 : BitVec 32 := 0#32
  ![arg0.toNat, 0, 11, 0]
def k0_off133 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c12_i32_83 : BitVec 32 := 12#32
  ![v9.toNat, 12]
def k0_off134 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c12_i32_82 : BitVec 32 := 12#32
  let c0_i32_84 : BitVec 32 := 0#32
  let c0_i32_85 : BitVec 32 := 0#32
  ![v9.toNat, 12, 0, 0]
def k0_off135 (i : grid0.Coords) : Fin 4 → Nat :=
  let arg0 : BitVec 32 := BitVec.ofNat 32 (i 0).val
  let c0_i32_86 : BitVec 32 := 0#32
  let c12_i32 : BitVec 32 := 12#32
  let c0_i32_87 : BitVec 32 := 0#32
  ![arg0.toNat, 0, 12, 0]
def k0_off136 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c13_i32_89 : BitVec 32 := 13#32
  ![v9.toNat, 13]
def k0_off137 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c13_i32_88 : BitVec 32 := 13#32
  let c0_i32_90 : BitVec 32 := 0#32
  let c0_i32_91 : BitVec 32 := 0#32
  ![v9.toNat, 13, 0, 0]
def k0_off138 (i : grid0.Coords) : Fin 4 → Nat :=
  let arg0 : BitVec 32 := BitVec.ofNat 32 (i 0).val
  let c0_i32_92 : BitVec 32 := 0#32
  let c13_i32 : BitVec 32 := 13#32
  let c0_i32_93 : BitVec 32 := 0#32
  ![arg0.toNat, 0, 13, 0]
def k0_off139 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c14_i32_95 : BitVec 32 := 14#32
  ![v9.toNat, 14]
def k0_off140 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c14_i32_94 : BitVec 32 := 14#32
  let c0_i32_96 : BitVec 32 := 0#32
  let c0_i32_97 : BitVec 32 := 0#32
  ![v9.toNat, 14, 0, 0]
def k0_off141 (i : grid0.Coords) : Fin 4 → Nat :=
  let arg0 : BitVec 32 := BitVec.ofNat 32 (i 0).val
  let c0_i32_98 : BitVec 32 := 0#32
  let c14_i32 : BitVec 32 := 14#32
  let c0_i32_99 : BitVec 32 := 0#32
  ![arg0.toNat, 0, 14, 0]
def k0_off142 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c15_i32_101 : BitVec 32 := 15#32
  ![v9.toNat, 15]
def k0_off143 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c15_i32_100 : BitVec 32 := 15#32
  let c0_i32_102 : BitVec 32 := 0#32
  let c0_i32_103 : BitVec 32 := 0#32
  ![v9.toNat, 15, 0, 0]
def k0_off144 (i : grid0.Coords) : Fin 4 → Nat :=
  let arg0 : BitVec 32 := BitVec.ofNat 32 (i 0).val
  let c0_i32_104 : BitVec 32 := 0#32
  let c15_i32 : BitVec 32 := 15#32
  let c0_i32_105 : BitVec 32 := 0#32
  ![arg0.toNat, 0, 15, 0]
def k0_off145 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32_107 : BitVec 32 := 16#32
  ![v9.toNat, 16]
def k0_off146 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c16_i32_106 : BitVec 32 := 16#32
  let c0_i32_108 : BitVec 32 := 0#32
  let c0_i32_109 : BitVec 32 := 0#32
  ![v9.toNat, 16, 0, 0]
def k0_off147 (i : grid0.Coords) : Fin 4 → Nat :=
  let arg0 : BitVec 32 := BitVec.ofNat 32 (i 0).val
  let c0_i32_110 : BitVec 32 := 0#32
  let c16_i32 : BitVec 32 := 16#32
  let c0_i32_111 : BitVec 32 := 0#32
  ![arg0.toNat, 0, 16, 0]
def k0_off148 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c17_i32_113 : BitVec 32 := 17#32
  ![v9.toNat, 17]
def k0_off149 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c17_i32_112 : BitVec 32 := 17#32
  let c0_i32_114 : BitVec 32 := 0#32
  let c0_i32_115 : BitVec 32 := 0#32
  ![v9.toNat, 17, 0, 0]
def k0_off150 (i : grid0.Coords) : Fin 4 → Nat :=
  let arg0 : BitVec 32 := BitVec.ofNat 32 (i 0).val
  let c0_i32_116 : BitVec 32 := 0#32
  let c17_i32 : BitVec 32 := 17#32
  let c0_i32_117 : BitVec 32 := 0#32
  ![arg0.toNat, 0, 17, 0]
def k0_off151 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c18_i32_119 : BitVec 32 := 18#32
  ![v9.toNat, 18]
def k0_off152 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c18_i32_118 : BitVec 32 := 18#32
  let c0_i32_120 : BitVec 32 := 0#32
  let c0_i32_121 : BitVec 32 := 0#32
  ![v9.toNat, 18, 0, 0]
def k0_off153 (i : grid0.Coords) : Fin 4 → Nat :=
  let arg0 : BitVec 32 := BitVec.ofNat 32 (i 0).val
  let c0_i32_122 : BitVec 32 := 0#32
  let c18_i32 : BitVec 32 := 18#32
  let c0_i32_123 : BitVec 32 := 0#32
  ![arg0.toNat, 0, 18, 0]
def k0_off154 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c19_i32_125 : BitVec 32 := 19#32
  ![v9.toNat, 19]
def k0_off155 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c19_i32_124 : BitVec 32 := 19#32
  let c0_i32_126 : BitVec 32 := 0#32
  let c0_i32_127 : BitVec 32 := 0#32
  ![v9.toNat, 19, 0, 0]
def k0_off156 (i : grid0.Coords) : Fin 4 → Nat :=
  let arg0 : BitVec 32 := BitVec.ofNat 32 (i 0).val
  let c0_i32_128 : BitVec 32 := 0#32
  let c19_i32 : BitVec 32 := 19#32
  let c0_i32_129 : BitVec 32 := 0#32
  ![arg0.toNat, 0, 19, 0]
def k0_off157 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c20_i32_131 : BitVec 32 := 20#32
  ![v9.toNat, 20]
def k0_off158 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c20_i32_130 : BitVec 32 := 20#32
  let c0_i32_132 : BitVec 32 := 0#32
  let c0_i32_133 : BitVec 32 := 0#32
  ![v9.toNat, 20, 0, 0]
def k0_off159 (i : grid0.Coords) : Fin 4 → Nat :=
  let arg0 : BitVec 32 := BitVec.ofNat 32 (i 0).val
  let c0_i32_134 : BitVec 32 := 0#32
  let c20_i32 : BitVec 32 := 20#32
  let c0_i32_135 : BitVec 32 := 0#32
  ![arg0.toNat, 0, 20, 0]
def k0_off160 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c21_i32_137 : BitVec 32 := 21#32
  ![v9.toNat, 21]
def k0_off161 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c21_i32_136 : BitVec 32 := 21#32
  let c0_i32_138 : BitVec 32 := 0#32
  let c0_i32_139 : BitVec 32 := 0#32
  ![v9.toNat, 21, 0, 0]
def k0_off162 (i : grid0.Coords) : Fin 4 → Nat :=
  let arg0 : BitVec 32 := BitVec.ofNat 32 (i 0).val
  let c0_i32_140 : BitVec 32 := 0#32
  let c21_i32 : BitVec 32 := 21#32
  let c0_i32_141 : BitVec 32 := 0#32
  ![arg0.toNat, 0, 21, 0]
def k0_off163 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c22_i32_143 : BitVec 32 := 22#32
  ![v9.toNat, 22]
def k0_off164 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c22_i32_142 : BitVec 32 := 22#32
  let c0_i32_144 : BitVec 32 := 0#32
  let c0_i32_145 : BitVec 32 := 0#32
  ![v9.toNat, 22, 0, 0]
def k0_off165 (i : grid0.Coords) : Fin 4 → Nat :=
  let arg0 : BitVec 32 := BitVec.ofNat 32 (i 0).val
  let c0_i32_146 : BitVec 32 := 0#32
  let c22_i32 : BitVec 32 := 22#32
  let c0_i32_147 : BitVec 32 := 0#32
  ![arg0.toNat, 0, 22, 0]
def k0_off166 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c23_i32_149 : BitVec 32 := 23#32
  ![v9.toNat, 23]
def k0_off167 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c23_i32_148 : BitVec 32 := 23#32
  let c0_i32_150 : BitVec 32 := 0#32
  let c0_i32_151 : BitVec 32 := 0#32
  ![v9.toNat, 23, 0, 0]
def k0_off168 (i : grid0.Coords) : Fin 4 → Nat :=
  let arg0 : BitVec 32 := BitVec.ofNat 32 (i 0).val
  let c0_i32_152 : BitVec 32 := 0#32
  let c23_i32 : BitVec 32 := 23#32
  let c0_i32_153 : BitVec 32 := 0#32
  ![arg0.toNat, 0, 23, 0]
def k0_off169 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c24_i32_156 : BitVec 32 := 24#32
  ![v9.toNat, 24]
def k0_off170 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c24_i32_155 : BitVec 32 := 24#32
  let c0_i32_157 : BitVec 32 := 0#32
  let c0_i32_158 : BitVec 32 := 0#32
  ![v9.toNat, 24, 0, 0]
def k0_off171 (i : grid0.Coords) : Fin 4 → Nat :=
  let arg0 : BitVec 32 := BitVec.ofNat 32 (i 0).val
  let c0_i32_159 : BitVec 32 := 0#32
  let c24_i32_154 : BitVec 32 := 24#32
  let c0_i32_160 : BitVec 32 := 0#32
  ![arg0.toNat, 0, 24, 0]
def k0_off172 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c25_i32_162 : BitVec 32 := 25#32
  ![v9.toNat, 25]
def k0_off173 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c25_i32_161 : BitVec 32 := 25#32
  let c0_i32_163 : BitVec 32 := 0#32
  let c0_i32_164 : BitVec 32 := 0#32
  ![v9.toNat, 25, 0, 0]
def k0_off174 (i : grid0.Coords) : Fin 4 → Nat :=
  let arg0 : BitVec 32 := BitVec.ofNat 32 (i 0).val
  let c0_i32_165 : BitVec 32 := 0#32
  let c25_i32 : BitVec 32 := 25#32
  let c0_i32_166 : BitVec 32 := 0#32
  ![arg0.toNat, 0, 25, 0]
def k0_off175 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c26_i32_168 : BitVec 32 := 26#32
  ![v9.toNat, 26]
def k0_off176 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c26_i32_167 : BitVec 32 := 26#32
  let c0_i32_169 : BitVec 32 := 0#32
  let c0_i32_170 : BitVec 32 := 0#32
  ![v9.toNat, 26, 0, 0]
def k0_off177 (i : grid0.Coords) : Fin 4 → Nat :=
  let arg0 : BitVec 32 := BitVec.ofNat 32 (i 0).val
  let c0_i32_171 : BitVec 32 := 0#32
  let c26_i32 : BitVec 32 := 26#32
  let c0_i32_172 : BitVec 32 := 0#32
  ![arg0.toNat, 0, 26, 0]
def k0_off178 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c27_i32_174 : BitVec 32 := 27#32
  ![v9.toNat, 27]
def k0_off179 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c27_i32_173 : BitVec 32 := 27#32
  let c0_i32_175 : BitVec 32 := 0#32
  let c0_i32_176 : BitVec 32 := 0#32
  ![v9.toNat, 27, 0, 0]
def k0_off180 (i : grid0.Coords) : Fin 4 → Nat :=
  let arg0 : BitVec 32 := BitVec.ofNat 32 (i 0).val
  let c0_i32_177 : BitVec 32 := 0#32
  let c27_i32 : BitVec 32 := 27#32
  let c0_i32_178 : BitVec 32 := 0#32
  ![arg0.toNat, 0, 27, 0]
def k0_off181 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c28_i32_180 : BitVec 32 := 28#32
  ![v9.toNat, 28]
def k0_off182 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c28_i32_179 : BitVec 32 := 28#32
  let c0_i32_181 : BitVec 32 := 0#32
  let c0_i32_182 : BitVec 32 := 0#32
  ![v9.toNat, 28, 0, 0]
def k0_off183 (i : grid0.Coords) : Fin 4 → Nat :=
  let arg0 : BitVec 32 := BitVec.ofNat 32 (i 0).val
  let c0_i32_183 : BitVec 32 := 0#32
  let c28_i32 : BitVec 32 := 28#32
  let c0_i32_184 : BitVec 32 := 0#32
  ![arg0.toNat, 0, 28, 0]
def k0_off184 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c29_i32_186 : BitVec 32 := 29#32
  ![v9.toNat, 29]
def k0_off185 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c29_i32_185 : BitVec 32 := 29#32
  let c0_i32_187 : BitVec 32 := 0#32
  let c0_i32_188 : BitVec 32 := 0#32
  ![v9.toNat, 29, 0, 0]
def k0_off186 (i : grid0.Coords) : Fin 4 → Nat :=
  let arg0 : BitVec 32 := BitVec.ofNat 32 (i 0).val
  let c0_i32_189 : BitVec 32 := 0#32
  let c29_i32 : BitVec 32 := 29#32
  let c0_i32_190 : BitVec 32 := 0#32
  ![arg0.toNat, 0, 29, 0]
def k0_off187 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c30_i32_192 : BitVec 32 := 30#32
  ![v9.toNat, 30]
def k0_off188 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c30_i32_191 : BitVec 32 := 30#32
  let c0_i32_193 : BitVec 32 := 0#32
  let c0_i32_194 : BitVec 32 := 0#32
  ![v9.toNat, 30, 0, 0]
def k0_off189 (i : grid0.Coords) : Fin 4 → Nat :=
  let arg0 : BitVec 32 := BitVec.ofNat 32 (i 0).val
  let c0_i32_195 : BitVec 32 := 0#32
  let c30_i32 : BitVec 32 := 30#32
  let c0_i32_196 : BitVec 32 := 0#32
  ![arg0.toNat, 0, 30, 0]
def k0_off190 (i : grid0.Coords) : Fin 2 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c31_i32_198 : BitVec 32 := 31#32
  ![v9.toNat, 31]
def k0_off191 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c31_i32_197 : BitVec 32 := 31#32
  let c0_i32_199 : BitVec 32 := 0#32
  let c0_i32_200 : BitVec 32 := 0#32
  ![v9.toNat, 31, 0, 0]
def k0_off192 (i : grid0.Coords) : Fin 4 → Nat :=
  let arg0 : BitVec 32 := BitVec.ofNat 32 (i 0).val
  let c0_i32_201 : BitVec 32 := 0#32
  let c31_i32 : BitVec 32 := 31#32
  let c0_i32_202 : BitVec 32 := 0#32
  ![arg0.toNat, 0, 31, 0]
def k0_off193 (i : grid0.Coords) : Fin 4 → Nat :=
  let arg0 : BitVec 32 := BitVec.ofNat 32 (i 0).val
  let c3_i32 : BitVec 32 := 3#32
  let c0_i32 : BitVec 32 := 0#32
  let v0 : BitVec 1 := Scalar.cmpi .eq c3_i32 c0_i32
  let c1_i32 : BitVec 32 := 1#32
  let v1 : BitVec 32 := Scalar.select v0 c1_i32 c3_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v212 : Index := Scalar.indexCast v9
  let c0 : Index := 0#32
  let c0_205 : Index := 0#32
  let c0_206 : Index := 0#32
  ![v212.toNat, 0, 0, 0]
def k0_cond11 (i : grid0.Coords) : BitVec 1 :=
  let arg0 : BitVec 32 := BitVec.ofNat 32 (i 0).val
  let c23_i32_257 : BitVec 32 := 23#32
  let v277 : BitVec 1 := Scalar.cmpi .eq arg0 c23_i32_257
  let v278 : BitVec 32 := Scalar.extui v277
  let c0_i32_258 : BitVec 32 := 0#32
  let v279 : BitVec 1 := Scalar.cmpi .ne v278 c0_i32_258
  v279

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S1x1x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x8x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x25 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x64x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x32x32 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S128x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S1x257x32x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S24x256x32x256 : Shape := ⟨4, ![24, 256, 32, 256]⟩
abbrev S256x1x1 : Shape := ⟨3, ![256, 1, 1]⟩
abbrev S256x8x1 : Shape := ⟨3, ![256, 8, 1]⟩
abbrev S1000x16 : Shape := ⟨2, ![1000, 16]⟩
abbrev S32x25 : Shape := ⟨2, ![32, 25]⟩
abbrev S32 : Shape := ⟨1, ![32]⟩
abbrev S24x64x32x2 : Shape := ⟨4, ![24, 64, 32, 2]⟩
abbrev S24x64 : Shape := ⟨2, ![24, 64]⟩
abbrev S24x32x32 : Shape := ⟨3, ![24, 32, 32]⟩
abbrev S24x32 : Shape := ⟨2, ![24, 32]⟩
abbrev S128x768 : Shape := ⟨2, ![128, 768]⟩
abbrev S128 : Shape := ⟨1, ![128]⟩
abbrev S1x128 : Shape := ⟨2, ![1, 128]⟩
abbrev S1 : Shape := ⟨1, ![1]⟩
abbrev S24 : Shape := ⟨1, ![24]⟩
abbrev S256 : Shape := ⟨1, ![256]⟩
abbrev S_ : Shape := ⟨0, ![]⟩
abbrev S256x1 : Shape := ⟨2, ![256, 1]⟩
abbrev S256x16 : Shape := ⟨2, ![256, 16]⟩
abbrev S256x16x1 : Shape := ⟨3, ![256, 16, 1]⟩
abbrev S256x25x1 : Shape := ⟨3, ![256, 25, 1]⟩
abbrev S256x1x32 : Shape := ⟨3, ![256, 1, 32]⟩
abbrev S256x32x1 : Shape := ⟨3, ![256, 32, 1]⟩
abbrev S1x32x1 : Shape := ⟨3, ![1, 32, 1]⟩
abbrev S24x256x32x257 : Shape := ⟨4, ![24, 256, 32, 257]⟩
abbrev S24x256x32 : Shape := ⟨3, ![24, 256, 32]⟩
abbrev S1x256x32x256 : Shape := ⟨4, ![1, 256, 32, 256]⟩
abbrev S256x32x256 : Shape := ⟨3, ![256, 32, 256]⟩
abbrev S1x64x32x2 : Shape := ⟨4, ![1, 64, 32, 2]⟩
abbrev S64x32x2 : Shape := ⟨3, ![64, 32, 2]⟩
abbrev S1x64 : Shape := ⟨2, ![1, 64]⟩
abbrev S64 : Shape := ⟨1, ![64]⟩
abbrev S1x32x32 : Shape := ⟨3, ![1, 32, 32]⟩
abbrev S32x32 : Shape := ⟨2, ![32, 32]⟩
abbrev S1x32 : Shape := ⟨2, ![1, 32]⟩
abbrev S256x32x257 : Shape := ⟨3, ![256, 32, 257]⟩
abbrev S256x32 : Shape := ⟨2, ![256, 32]⟩
abbrev S64x32x1 : Shape := ⟨3, ![64, 32, 1]⟩
abbrev S64x32 : Shape := ⟨2, ![64, 32]⟩
abbrev S32x64 : Shape := ⟨2, ![32, 64]⟩
abbrev S256x64 : Shape := ⟨2, ![256, 64]⟩
abbrev S1x256x32x257 : Shape := ⟨4, ![1, 256, 32, 257]⟩
abbrev S1x256x32 : Shape := ⟨3, ![1, 256, 32]⟩
abbrev S256x24x32 : Shape := ⟨3, ![256, 24, 32]⟩
abbrev S256x768 : Shape := ⟨2, ![256, 768]⟩
abbrev S768x128 : Shape := ⟨2, ![768, 128]⟩
abbrev S256x128 : Shape := ⟨2, ![256, 128]⟩
abbrev S128x1 : Shape := ⟨2, ![128, 1]⟩
abbrev S1x1 : Shape := ⟨2, ![1, 1]⟩

abbrev nBuf : Space → Nat
  | .hbm => 177
  | .vmem => 0
  | .smem => 0
  | _ => 0

abbrev hbmTy0_0 (i : Nat) : BufTy := match i % 128 with
  | 0 => ⟨S24x256x32x256, .f32⟩
  | 1 => ⟨S256x1x1, .f32⟩
  | 2 => ⟨S256x8x1, .f32⟩
  | 3 => ⟨S256x1x1, .i32⟩
  | 4 => ⟨S1000x16, .f32⟩
  | 5 => ⟨S32x25, .f32⟩
  | 6 => ⟨S32, .f32⟩
  | 7 => ⟨S24x64x32x2, .f32⟩
  | 8 => ⟨S24x64, .f32⟩
  | 9 => ⟨S24x32x32, .f32⟩
  | 10 => ⟨S24x32, .f32⟩
  | 11 => ⟨S24x32x32, .f32⟩
  | 12 => ⟨S24x32, .f32⟩
  | 13 => ⟨S128x768, .f32⟩
  | 14 => ⟨S128, .f32⟩
  | 15 => ⟨S1x128, .f32⟩
  | 16 => ⟨S1, .f32⟩
  | 17 => ⟨S24, .i32⟩
  | 18 => ⟨S256, .i32⟩
  | 19 => ⟨S_, .i32⟩
  | 20 => ⟨S256, .i32⟩
  | 21 => ⟨S256, .i1⟩
  | 22 => ⟨S_, .i32⟩
  | 23 => ⟨S256, .i32⟩
  | 24 => ⟨S256, .i32⟩
  | 25 => ⟨S256, .i32⟩
  | 26 => ⟨S256x1, .i32⟩
  | 27 => ⟨S256x16, .f32⟩
  | 28 => ⟨S256x16x1, .f32⟩
  | 29 => ⟨S256x25x1, .f32⟩
  | 30 => ⟨S256x1x32, .f32⟩
  | 31 => ⟨S256x32x1, .f32⟩
  | 32 => ⟨S1x32x1, .f32⟩
  | 33 => ⟨S256x32x1, .f32⟩
  | 34 => ⟨S256x32x1, .f32⟩
  | 35 => ⟨S_, .f32⟩
  | 36 => ⟨S24x256x32x257, .f32⟩
  | 37 => ⟨S_, .f32⟩
  | 38 => ⟨S24x256x32, .f32⟩
  | 39 => ⟨S_, .i32⟩
  | 40 => ⟨S24x256x32x256, .f32⟩
  | 41 => ⟨S24, .i32⟩
  | 42 => ⟨S24x64x32x2, .f32⟩
  | 43 => ⟨S24x64, .f32⟩
  | 44 => ⟨S24x32x32, .f32⟩
  | 45 => ⟨S24x32, .f32⟩
  | 46 => ⟨S24x32x32, .f32⟩
  | 47 => ⟨S24x32, .f32⟩
  | 48 => ⟨S_, .i32⟩
  | 49 => ⟨S256x32x1, .f32⟩
  | 50 => ⟨S24x256x32x257, .f32⟩
  | 51 => ⟨S24x256x32, .f32⟩
  | 52 => ⟨S_, .i32⟩
  | 53 => ⟨S_, .i1⟩
  | 54 => ⟨S_, .i32⟩
  | 55 => ⟨S_, .i32⟩
  | 56 => ⟨S_, .i32⟩
  | 57 => ⟨S1x256x32x256, .f32⟩
  | 58 => ⟨S256x32x256, .f32⟩
  | 59 => ⟨S1, .i32⟩
  | 60 => ⟨S_, .i32⟩
  | 61 => ⟨S_, .i32⟩
  | 62 => ⟨S_, .i32⟩
  | 63 => ⟨S_, .i32⟩
  | 64 => ⟨S1x64x32x2, .f32⟩
  | 65 => ⟨S64x32x2, .f32⟩
  | 66 => ⟨S_, .i32⟩
  | 67 => ⟨S1x64, .f32⟩
  | 68 => ⟨S64, .f32⟩
  | 69 => ⟨S_, .i32⟩
  | 70 => ⟨S_, .i32⟩
  | 71 => ⟨S1x32x32, .f32⟩
  | 72 => ⟨S32x32, .f32⟩
  | 73 => ⟨S_, .i32⟩
  | 74 => ⟨S1x32, .f32⟩
  | 75 => ⟨S32, .f32⟩
  | 76 => ⟨S_, .i32⟩
  | 77 => ⟨S_, .i32⟩
  | 78 => ⟨S1x32x32, .f32⟩
  | 79 => ⟨S32x32, .f32⟩
  | 80 => ⟨S_, .i32⟩
  | 81 => ⟨S1x32, .f32⟩
  | 82 => ⟨S32, .f32⟩
  | 83 => ⟨S256x32x257, .f32⟩
  | 84 => ⟨S_, .i32⟩
  | 85 => ⟨S_, .i32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S256x32x1, .f32⟩
  | 108 => ⟨S256x32, .f32⟩
  | 109 => ⟨S256x32x1, .f32⟩
  | 110 => ⟨S256x32, .f32⟩
  | 111 => ⟨S64x32x1, .f32⟩
  | 112 => ⟨S64x32, .f32⟩
  | 113 => ⟨S32x64, .f32⟩
  | 114 => ⟨S256x64, .f32⟩
  | 115 => ⟨S64x32x1, .f32⟩
  | 116 => ⟨S64x32, .f32⟩
  | 117 => ⟨S32x64, .f32⟩
  | 118 => ⟨S256x64, .f32⟩
  | 119 => ⟨S256x64, .f32⟩
  | 120 => ⟨S1x64, .f32⟩
  | 121 => ⟨S256x64, .f32⟩
  | 122 => ⟨S256x64, .f32⟩
  | 123 => ⟨S256x32, .f32⟩
  | 124 => ⟨S256x32, .f32⟩
  | 125 => ⟨S256x32, .f32⟩
  | 126 => ⟨S256x32, .f32⟩
  | 127 => ⟨S256x32, .f32⟩
  | _ => ⟨S24x256x32x256, .f32⟩

abbrev hbmTy0_1 (i : Nat) : BufTy := match i % 128 with
  | 0 => ⟨S_, .f32⟩
  | 1 => ⟨S256x32, .f32⟩
  | 2 => ⟨S256x32, .f32⟩
  | 3 => ⟨S_, .f32⟩
  | 4 => ⟨S256x32, .f32⟩
  | 5 => ⟨S256x32, .f32⟩
  | 6 => ⟨S256x32, .f32⟩
  | 7 => ⟨S32x32, .f32⟩
  | 8 => ⟨S256x32, .f32⟩
  | 9 => ⟨S1x32, .f32⟩
  | 10 => ⟨S256x32, .f32⟩
  | 11 => ⟨S256x32, .f32⟩
  | 12 => ⟨S32x32, .f32⟩
  | 13 => ⟨S256x32, .f32⟩
  | 14 => ⟨S1x32, .f32⟩
  | 15 => ⟨S256x32, .f32⟩
  | 16 => ⟨S256x32, .f32⟩
  | 17 => ⟨S256x32, .f32⟩
  | 18 => ⟨S256x32x1, .f32⟩
  | 19 => ⟨S1x256x32x257, .f32⟩
  | 20 => ⟨S_, .i32⟩
  | 21 => ⟨S_, .i32⟩
  | 22 => ⟨S_, .i32⟩
  | 23 => ⟨S24x256x32x257, .f32⟩
  | 24 => ⟨S1x256x32, .f32⟩
  | 25 => ⟨S_, .i32⟩
  | 26 => ⟨S_, .i32⟩
  | 27 => ⟨S24x256x32, .f32⟩
  | 28 => ⟨S_, .i32⟩
  | 29 => ⟨S_, .i32⟩
  | 30 => ⟨S256x24x32, .f32⟩
  | 31 => ⟨S256x768, .f32⟩
  | 32 => ⟨S_, .f32⟩
  | 33 => ⟨S256x768, .f32⟩
  | 34 => ⟨S256x768, .f32⟩
  | 35 => ⟨S768x128, .f32⟩
  | 36 => ⟨S256x128, .f32⟩
  | 37 => ⟨S1x128, .f32⟩
  | 38 => ⟨S256x128, .f32⟩
  | 39 => ⟨S256x128, .f32⟩
  | 40 => ⟨S_, .f32⟩
  | 41 => ⟨S256x128, .f32⟩
  | 42 => ⟨S256x128, .f32⟩
  | 43 => ⟨S128x1, .f32⟩
  | 44 => ⟨S256x1, .f32⟩
  | 45 => ⟨S1x1, .f32⟩
  | 46 => ⟨S256x1, .f32⟩
  | 47 => ⟨S256x1, .f32⟩
  | 48 => ⟨S256x1x1, .f32⟩
  | _ => ⟨S24x256x32x256, .f32⟩

abbrev hbmTy (i : Nat) : BufTy := match i / 128 with
  | 0 => hbmTy0_0 i
  | 1 => hbmTy0_1 i
  | _ => ⟨S24x256x32x256, .f32⟩

abbrev bufTy : (tb : Table) → Fin (tcTables nBuf tb) → BufTy
  | .hbm, ⟨i, _⟩ => hbmTy i
  | _, _ => ⟨S24x256x32x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_c_0 : Ref sig .tc := ⟨.hbm, 19, rfl⟩
abbrev main_v1 : Ref sig .tc := ⟨.hbm, 20, rfl⟩
abbrev main_v2 : Ref sig .tc := ⟨.hbm, 21, rfl⟩
abbrev main_c_1 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_cst_2 : Ref sig .tc := ⟨.hbm, 37, rfl⟩
abbrev main_v16 : Ref sig .tc := ⟨.hbm, 38, rfl⟩
abbrev main_c_3 : Ref sig .tc := ⟨.hbm, 39, rfl⟩
abbrev main_v17_0 : Ref sig .tc := ⟨.hbm, 40, rfl⟩
abbrev main_v17_1 : Ref sig .tc := ⟨.hbm, 41, rfl⟩
abbrev main_v17_2 : Ref sig .tc := ⟨.hbm, 42, rfl⟩
abbrev main_v17_3 : Ref sig .tc := ⟨.hbm, 43, rfl⟩
abbrev main_v17_4 : Ref sig .tc := ⟨.hbm, 44, rfl⟩
abbrev main_v17_5 : Ref sig .tc := ⟨.hbm, 45, rfl⟩
abbrev main_v17_6 : Ref sig .tc := ⟨.hbm, 46, rfl⟩
abbrev main_v17_7 : Ref sig .tc := ⟨.hbm, 47, rfl⟩
abbrev main_v17_8 : Ref sig .tc := ⟨.hbm, 48, rfl⟩
abbrev main_v17_9 : Ref sig .tc := ⟨.hbm, 49, rfl⟩
abbrev main_v17_10 : Ref sig .tc := ⟨.hbm, 50, rfl⟩
abbrev main_v17_11 : Ref sig .tc := ⟨.hbm, 51, rfl⟩
abbrev main_while0c_c_15 : Ref sig .tc := ⟨.hbm, 52, rfl⟩
abbrev main_while0c_v33 : Ref sig .tc := ⟨.hbm, 53, rfl⟩
abbrev main_while0b_call0_c : Ref sig .tc := ⟨.hbm, 54, rfl⟩
abbrev main_while0b_call0_c_0 : Ref sig .tc := ⟨.hbm, 55, rfl⟩
abbrev main_while0b_call0_c_1 : Ref sig .tc := ⟨.hbm, 56, rfl⟩
abbrev main_while0b_call0_v0 : Ref sig .tc := ⟨.hbm, 57, rfl⟩
abbrev main_while0b_v33 : Ref sig .tc := ⟨.hbm, 58, rfl⟩
abbrev main_while0b_call1_v0 : Ref sig .tc := ⟨.hbm, 59, rfl⟩
abbrev main_while0b_v34 : Ref sig .tc := ⟨.hbm, 60, rfl⟩
abbrev main_while0b_call2_c : Ref sig .tc := ⟨.hbm, 61, rfl⟩
abbrev main_while0b_call2_c_0 : Ref sig .tc := ⟨.hbm, 62, rfl⟩
abbrev main_while0b_call2_c_1 : Ref sig .tc := ⟨.hbm, 63, rfl⟩
abbrev main_while0b_call2_v0 : Ref sig .tc := ⟨.hbm, 64, rfl⟩
abbrev main_while0b_v35 : Ref sig .tc := ⟨.hbm, 65, rfl⟩
abbrev main_while0b_call3_c : Ref sig .tc := ⟨.hbm, 66, rfl⟩
abbrev main_while0b_call3_v0 : Ref sig .tc := ⟨.hbm, 67, rfl⟩
abbrev main_while0b_v36 : Ref sig .tc := ⟨.hbm, 68, rfl⟩
abbrev main_while0b_call4_c : Ref sig .tc := ⟨.hbm, 69, rfl⟩
abbrev main_while0b_call4_c_0 : Ref sig .tc := ⟨.hbm, 70, rfl⟩
abbrev main_while0b_call4_v0 : Ref sig .tc := ⟨.hbm, 71, rfl⟩
abbrev main_while0b_v37 : Ref sig .tc := ⟨.hbm, 72, rfl⟩
abbrev main_while0b_call5_c : Ref sig .tc := ⟨.hbm, 73, rfl⟩
abbrev main_while0b_call5_v0 : Ref sig .tc := ⟨.hbm, 74, rfl⟩
abbrev main_while0b_v38 : Ref sig .tc := ⟨.hbm, 75, rfl⟩
abbrev main_while0b_call6_c : Ref sig .tc := ⟨.hbm, 76, rfl⟩
abbrev main_while0b_call6_c_0 : Ref sig .tc := ⟨.hbm, 77, rfl⟩
abbrev main_while0b_call6_v0 : Ref sig .tc := ⟨.hbm, 78, rfl⟩
abbrev main_while0b_v39 : Ref sig .tc := ⟨.hbm, 79, rfl⟩
abbrev main_while0b_call7_c : Ref sig .tc := ⟨.hbm, 80, rfl⟩
abbrev main_while0b_call7_v0 : Ref sig .tc := ⟨.hbm, 81, rfl⟩
abbrev main_while0b_v40 : Ref sig .tc := ⟨.hbm, 82, rfl⟩
abbrev main_while0b_v41 : Ref sig .tc := ⟨.hbm, 83, rfl⟩
abbrev main_while0b_c_15 : Ref sig .tc := ⟨.hbm, 84, rfl⟩
abbrev main_while0b_v42 : Ref sig .tc := ⟨.hbm, 85, rfl⟩
abbrev main_while0b_c_16 : Ref sig .tc := ⟨.hbm, 86, rfl⟩
abbrev main_while0b_c_17 : Ref sig .tc := ⟨.hbm, 87, rfl⟩
abbrev main_while0b_v43 : Ref sig .tc := ⟨.hbm, 88, rfl⟩
abbrev main_while0b_c_18 : Ref sig .tc := ⟨.hbm, 89, rfl⟩
abbrev main_while0b_c_19 : Ref sig .tc := ⟨.hbm, 90, rfl⟩
abbrev main_while0b_v44 : Ref sig .tc := ⟨.hbm, 91, rfl⟩
abbrev main_while0b_c_20 : Ref sig .tc := ⟨.hbm, 92, rfl⟩
abbrev main_while0b_v45 : Ref sig .tc := ⟨.hbm, 93, rfl⟩
abbrev main_while0b_c_21 : Ref sig .tc := ⟨.hbm, 94, rfl⟩
abbrev main_while0b_c_22 : Ref sig .tc := ⟨.hbm, 95, rfl⟩
abbrev main_while0b_v46 : Ref sig .tc := ⟨.hbm, 96, rfl⟩
abbrev main_while0b_c_23 : Ref sig .tc := ⟨.hbm, 97, rfl⟩
abbrev main_while0b_c_24 : Ref sig .tc := ⟨.hbm, 98, rfl⟩
abbrev main_while0b_v47 : Ref sig .tc := ⟨.hbm, 99, rfl⟩
abbrev main_while0b_c_25 : Ref sig .tc := ⟨.hbm, 100, rfl⟩
abbrev main_while0b_v48 : Ref sig .tc := ⟨.hbm, 101, rfl⟩
abbrev main_while0b_c_26 : Ref sig .tc := ⟨.hbm, 102, rfl⟩
abbrev main_while0b_v49 : Ref sig .tc := ⟨.hbm, 103, rfl⟩
abbrev main_while0b_c_27 : Ref sig .tc := ⟨.hbm, 104, rfl⟩
abbrev main_while0b_v50 : Ref sig .tc := ⟨.hbm, 105, rfl⟩
abbrev main_while0b_v51 : Ref sig .tc := ⟨.hbm, 106, rfl⟩
abbrev main_while0b_v52 : Ref sig .tc := ⟨.hbm, 107, rfl⟩
abbrev main_while0b_v53 : Ref sig .tc := ⟨.hbm, 108, rfl⟩
abbrev main_while0b_v54 : Ref sig .tc := ⟨.hbm, 109, rfl⟩
abbrev main_while0b_v55 : Ref sig .tc := ⟨.hbm, 110, rfl⟩
abbrev main_while0b_v56 : Ref sig .tc := ⟨.hbm, 111, rfl⟩
abbrev main_while0b_v57 : Ref sig .tc := ⟨.hbm, 112, rfl⟩
abbrev main_while0b_v58 : Ref sig .tc := ⟨.hbm, 113, rfl⟩
abbrev main_while0b_v59 : Ref sig .tc := ⟨.hbm, 114, rfl⟩
abbrev main_while0b_v60 : Ref sig .tc := ⟨.hbm, 115, rfl⟩
abbrev main_while0b_v61 : Ref sig .tc := ⟨.hbm, 116, rfl⟩
abbrev main_while0b_v62 : Ref sig .tc := ⟨.hbm, 117, rfl⟩
abbrev main_while0b_v63 : Ref sig .tc := ⟨.hbm, 118, rfl⟩
abbrev main_while0b_v64 : Ref sig .tc := ⟨.hbm, 119, rfl⟩
abbrev main_while0b_v65 : Ref sig .tc := ⟨.hbm, 120, rfl⟩
abbrev main_while0b_v66 : Ref sig .tc := ⟨.hbm, 121, rfl⟩
abbrev main_while0b_v67 : Ref sig .tc := ⟨.hbm, 122, rfl⟩
abbrev main_while0b_v68 : Ref sig .tc := ⟨.hbm, 123, rfl⟩
abbrev main_while0b_v69 : Ref sig .tc := ⟨.hbm, 124, rfl⟩
abbrev main_while0b_v70 : Ref sig .tc := ⟨.hbm, 125, rfl⟩
abbrev main_while0b_v71 : Ref sig .tc := ⟨.hbm, 126, rfl⟩
abbrev main_while0b_v72 : Ref sig .tc := ⟨.hbm, 127, rfl⟩
abbrev main_while0b_cst_28 : Ref sig .tc := ⟨.hbm, 128, rfl⟩
abbrev main_while0b_v73 : Ref sig .tc := ⟨.hbm, 129, rfl⟩
abbrev main_while0b_v74 : Ref sig .tc := ⟨.hbm, 130, rfl⟩
abbrev main_while0b_cst_29 : Ref sig .tc := ⟨.hbm, 131, rfl⟩
abbrev main_while0b_v75 : Ref sig .tc := ⟨.hbm, 132, rfl⟩
abbrev main_while0b_v76 : Ref sig .tc := ⟨.hbm, 133, rfl⟩
abbrev main_while0b_v77 : Ref sig .tc := ⟨.hbm, 134, rfl⟩
abbrev main_while0b_v78 : Ref sig .tc := ⟨.hbm, 135, rfl⟩
abbrev main_while0b_v79 : Ref sig .tc := ⟨.hbm, 136, rfl⟩
abbrev main_while0b_v80 : Ref sig .tc := ⟨.hbm, 137, rfl⟩
abbrev main_while0b_v81 : Ref sig .tc := ⟨.hbm, 138, rfl⟩
abbrev main_while0b_v82 : Ref sig .tc := ⟨.hbm, 139, rfl⟩
abbrev main_while0b_v83 : Ref sig .tc := ⟨.hbm, 140, rfl⟩
abbrev main_while0b_v84 : Ref sig .tc := ⟨.hbm, 141, rfl⟩
abbrev main_while0b_v85 : Ref sig .tc := ⟨.hbm, 142, rfl⟩
abbrev main_while0b_v86 : Ref sig .tc := ⟨.hbm, 143, rfl⟩
abbrev main_while0b_v87 : Ref sig .tc := ⟨.hbm, 144, rfl⟩
abbrev main_while0b_v88 : Ref sig .tc := ⟨.hbm, 145, rfl⟩
abbrev main_while0b_v89 : Ref sig .tc := ⟨.hbm, 146, rfl⟩
abbrev main_while0b_call8_v0 : Ref sig .tc := ⟨.hbm, 147, rfl⟩
abbrev main_while0b_call8_c : Ref sig .tc := ⟨.hbm, 148, rfl⟩
abbrev main_while0b_call8_c_0 : Ref sig .tc := ⟨.hbm, 149, rfl⟩
abbrev main_while0b_call8_c_1 : Ref sig .tc := ⟨.hbm, 150, rfl⟩
abbrev main_while0b_v90 : Ref sig .tc := ⟨.hbm, 151, rfl⟩
abbrev main_while0b_call9_v0 : Ref sig .tc := ⟨.hbm, 152, rfl⟩
abbrev main_while0b_call9_c : Ref sig .tc := ⟨.hbm, 153, rfl⟩
abbrev main_while0b_call9_c_0 : Ref sig .tc := ⟨.hbm, 154, rfl⟩
abbrev main_while0b_v91 : Ref sig .tc := ⟨.hbm, 155, rfl⟩
abbrev main_while0b_c_30 : Ref sig .tc := ⟨.hbm, 156, rfl⟩
abbrev main_while0b_v92 : Ref sig .tc := ⟨.hbm, 157, rfl⟩
abbrev main_v18 : Ref sig .tc := ⟨.hbm, 158, rfl⟩
abbrev main_v19 : Ref sig .tc := ⟨.hbm, 159, rfl⟩
abbrev main_call10_cst : Ref sig .tc := ⟨.hbm, 160, rfl⟩
abbrev main_call10_v0 : Ref sig .tc := ⟨.hbm, 161, rfl⟩
abbrev main_v20 : Ref sig .tc := ⟨.hbm, 162, rfl⟩
abbrev main_v21 : Ref sig .tc := ⟨.hbm, 163, rfl⟩
abbrev main_v22 : Ref sig .tc := ⟨.hbm, 164, rfl⟩
abbrev main_v23 : Ref sig .tc := ⟨.hbm, 165, rfl⟩
abbrev main_v24 : Ref sig .tc := ⟨.hbm, 166, rfl⟩
abbrev main_v25 : Ref sig .tc := ⟨.hbm, 167, rfl⟩
abbrev main_call11_cst : Ref sig .tc := ⟨.hbm, 168, rfl⟩
abbrev main_call11_v0 : Ref sig .tc := ⟨.hbm, 169, rfl⟩
abbrev main_v26 : Ref sig .tc := ⟨.hbm, 170, rfl⟩
abbrev main_v27 : Ref sig .tc := ⟨.hbm, 171, rfl⟩
abbrev main_v28 : Ref sig .tc := ⟨.hbm, 172, rfl⟩
abbrev main_v29 : Ref sig .tc := ⟨.hbm, 173, rfl⟩
abbrev main_v30 : Ref sig .tc := ⟨.hbm, 174, rfl⟩
abbrev main_v31 : Ref sig .tc := ⟨.hbm, 175, rfl⟩
abbrev main_v32 : Ref sig .tc := ⟨.hbm, 176, rfl⟩

abbrev nD : Nat := 1
abbrev τ : Topo := Topo.v7x

variable {F : FTy → Type} [FloatOps F]

abbrev main_while0_count : Scf.Loop 32 := ⟨0#32, 24#32, 1#32⟩
-- ==== Proof.Ring.lean ====
/-
The ring of the queue blocks. The kernel copies block `n` of the queue (24 blocks, one for each layer), channel by
channel, into slot `n % 3` of a scratch array of three slots, two steps ahead of its use; every copy has a cell of
its own (3 slots times 32 channels). This module names one copy, one wait, and what a cell owns in each of its
states, and proves what a copy and a wait do to that state.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.VecWindow

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ### One copy and one wait -/

/-- The three offsets of one copy: of its cell in the array of cells, of its destination in the scratch array, of its
    source in the queue. -/
structure Offs where
  s : Fin 2 → ℕ
  d : Fin 4 → ℕ
  q : Fin 4 → ℕ
  hs : ∀ a, s a + S1x1.size a ≤ S3x32.size a
  hd : ∀ a, d a + S1x1x256x256.size a ≤ S3x32x256x256.size a
  hq : ∀ a, q a + S1x256x1x256.size a ≤ S24x256x32x256.size a

/-- The cell of a copy. -/
abbrev Offs.sem (o : Offs) (A24 : DmaSems sig S3x32) : DmaSem sig :=
  ((A24.slice (Rect.unit (s := S3x32) o.s S1x1.size o.hs)).squeeze S_ squeezes_S1x1_S_).sem

/-- The destination of a copy. -/
abbrev Offs.dst (o : Offs) (A21 : Memref sig .tc .vmem S3x32x256x256 .f32) : Memref sig .tc .vmem S256x256 .f32 :=
  (A21.slice (Rect.unit (s := S3x32x256x256) o.d S1x1x256x256.size o.hd) (fun _ => rfl)).squeeze S256x256
    squeezes_S1x1x256x256_S256x256

/-- The source of a copy. -/
abbrev Offs.src (o : Offs) (A7 : Memref sig .tc .hbm S24x256x32x256 .f32) : Memref sig .tc .hbm S256x256 .f32 :=
  (A7.slice (Rect.unit (s := S24x256x32x256) o.q S1x256x1x256.size o.hq) (fun _ => rfl)).squeeze S256x256
    squeezes_S1x256x1x256_S256x256

/-- Start one copy. -/
def issue (A7 : Memref sig .tc .hbm S24x256x32x256 .f32) (A21 : Memref sig .tc .vmem S3x32x256x256 .f32)
    (A24 : DmaSems sig S3x32) (o : Offs) : Prog (TpuEff nD τ sig (Elt F) Λ₀ .tc) PUnit :=
  Prog.lift (.enqueueDma (o.src A7) (.here (o.dst A21)) (.dma (o.sem A24)) ((View.wordExact_bits rfl).reshape _ _)
    ((View.wordExact_bits rfl).reshape _ _) ⟨Or.inl rfl, trivial⟩)

/-- Wait for one copy. -/
def await (A7 : Memref sig .tc .hbm S24x256x32x256 .f32) (A21 : Memref sig .tc .vmem S3x32x256x256 .f32)
    (A24 : DmaSems sig S3x32) (o : Offs) : Prog (TpuEff nD τ sig (Elt F) Λ₀ .tc) PUnit :=
  Prog.lift (.waitDma2 (o.sem A24) (o.src A7) (o.dst A21) ((View.wordExact_bits rfl).reshape _ _)
    ((View.wordExact_bits rfl).reshape _ _))

/-- Run one small program for each entry of a list, in order, and then `p`. -/
def each {γ : Type} {α : Type} (f : γ → Prog (TpuEff nD τ sig (Elt F) Λ₀ .tc) PUnit) :
    List γ → Prog (TpuEff nD τ sig (Elt F) Λ₀ .tc) α → Prog (TpuEff nD τ sig (Elt F) Λ₀ .tc) α
  | [], p => p
  | o :: os, p => f o >>= fun _ => each f os p

/-! ### The offsets the ring uses -/

/-- The slot of block `n`. -/
abbrev slotOf (n : ℕ) : Fin 3 := ⟨n % 3, Nat.mod_lt _ (by decide)⟩

/-- The offsets of the copy of channel `ch` of block `n` to slot `k`. -/
def offs (k : Fin 3) (n : Fin 24) (ch : Fin 32) : Offs where
  s := ![k.val, ch.val]
  d := ![k.val, ch.val, 0, 0]
  q := ![n.val, 0, ch.val, 0]
  hs := by
    intro a
    fin_cases a
    · exact k.isLt
    · exact ch.isLt
  hd := by
    intro a
    fin_cases a
    · exact k.isLt
    · exact ch.isLt
    · exact le_refl _
    · exact le_refl _
  hq := by
    intro a
    fin_cases a
    · exact n.isLt
    · exact le_refl _
    · exact ch.isLt
    · exact le_refl _

/-- The offsets of the copy of channel `ch` of block `n`. -/
abbrev std (n : Fin 24) (ch : Fin 32) : Offs := offs (slotOf n.val) n ch

/-- The queue, the scratch array and the array of cells, as the kernel is called on them. -/
abbrev mQ : Memref sig .tc .hbm S24x256x32x256 .f32 := Memref.whole main_arg0
abbrev mV : Memref sig .tc .vmem S3x32x256x256 .f32 := Memref.whole cc0_scratch0
abbrev mS : DmaSems sig S3x32 := cc0_scratch3

/-- Channel `ch` of slot `s`: its cell and its part of the scratch array; channel `ch` of block `n` in the queue. -/
abbrev cellAt (s : Fin 3) (ch : Fin 32) : DmaSem sig := (offs s 0 ch).sem mS
abbrev dstAt (s : Fin 3) (ch : Fin 32) : Memref sig .tc .vmem S256x256 .f32 := (offs s 0 ch).dst mV
abbrev srcAt (n : Fin 24) (ch : Fin 32) : Memref sig .tc .hbm S256x256 .f32 := (offs 0 n ch).src mQ

/-! ### What a cell owns -/

/-- The share of the queue that channel `ch` of slot `s` holds. -/
abbrev tok (s : Fin 3) (ch : Fin 32) : PosShare TreeShare := Transfers.shareTok fullShare 96 (finProdFinEquiv (s, ch))

variable (c : Dev nD)

abbrev QBuf : Type := Buf (Elt F) (mQ.view.loc (c : Thread nD τ))
abbrev VBuf : Type := Buf (Elt F) (mV.view.loc (c : Thread nD τ))

/-- What the copy of channel `ch` of block `n` leaves in the scratch array that held `f`. -/
abbrev land (fq : QBuf (F := F) c) (n : Fin 24) (ch : Fin 32) (f : VBuf (F := F) c) : VBuf (F := F) c :=
  (dstAt (slotOf n.val) ch).view.write (Elt F) f ((srcAt n ch).view.read (Elt F) fq) Finset.univ

/-- A channel of a slot with no copy on the way. -/
def free (fq : QBuf (F := F) c) (s : Fin 3) (ch : Fin 32) : sProp 𝕄 :=
  iprop(semVal ((c : Thread nD τ), .dma (cellAt s ch)) 0
    ∗ (∃ f : VBuf (F := F) c, mV.view.loc (c : Thread nD τ) ↦[(dstAt s ch).view.set]{fullShare} f)
    ∗ (mQ.view.loc (c : Thread nD τ) ↦{tok s ch} fq))

/-- The copy of channel `ch` of block `n` is on the way. -/
def busy (fq : QBuf (F := F) c) (n : Fin 24) (ch : Fin 32) : sProp 𝕄 :=
  iprop((∃ f : VBuf (F := F) c, Transfers.Flight (countersEmb (U := Pipeline.UD sig nD τ)) (c : Thread nD τ) (.dma (cellAt (slotOf n.val) ch)) ()
      ((dstAt (slotOf n.val) ch).view.amount (.dma (cellAt (slotOf n.val) ch)))
      iprop((mV.view.loc (c : Thread nD τ) ↦[(dstAt (slotOf n.val) ch).view.set]{fullShare} land c fq n ch f)
        ∗ (mQ.view.loc (c : Thread nD τ) ↦[(srcAt n ch).view.set]{tok (slotOf n.val) ch} fq)))
    ∗ (mQ.view.loc (c : Thread nD τ) ↦[Finset.univ \ (srcAt n ch).view.set]{tok (slotOf n.val) ch} fq))

/-- The copy of channel `ch` of block `n` has arrived. -/
def landed (fq : QBuf (F := F) c) (n : Fin 24) (ch : Fin 32) : sProp 𝕄 :=
  iprop(semVal ((c : Thread nD τ), .dma (cellAt (slotOf n.val) ch)) 0
    ∗ (∃ f : VBuf (F := F) c, mV.view.loc (c : Thread nD τ) ↦[(dstAt (slotOf n.val) ch).view.set]{fullShare} land c fq n ch f)
    ∗ (mQ.view.loc (c : Thread nD τ) ↦{tok (slotOf n.val) ch} fq))

/-- What has arrived may be overwritten. -/
theorem landed_free (fq : QBuf (F := F) c) (n : Fin 24) (ch : Fin 32) :
    landed c fq n ch ⊢ free c fq (slotOf n.val) ch := by
  unfold landed free
  iintro ⟨Hv, ⟨%f, Hd⟩, Hq⟩
  isplitl [Hv]; · iexact Hv
  isplitl [Hd]; · iexists _; iexact Hd
  iexact Hq

abbrev wpB {α : Type} (p : Prog (TpuEff nD τ sig (Elt F) Λ₀ .tc) α) (Q : α → sProp 𝕄) : sProp 𝕄 :=
  wp frame (wpE (defs₀ (F := F)) Variants.none (c : Thread nD τ) none) Set.univ p Q

/-- A program that returns at once. -/
theorem wp_done {α : Type} (a : α) (Q : α → sProp 𝕄) : Q a ⊢ wpB c (pure a) Q := fupd_intro ..

/-- A copy started on a free channel is on the way. -/
theorem wp_issue (fq : QBuf (F := F) c) (n : Fin 24) (ch : Fin 32) (Q : PUnit → sProp 𝕄) :
    iprop(free c fq (slotOf n.val) ch ∗ (busy c fq n ch -∗ Q ⟨⟩)) ⊢ wpB c (issue mQ mV mS (std n ch)) Q := by
  unfold free busy
  iintro ⟨⟨Hv, ⟨%f, Hd⟩, Hq⟩, Hk⟩
  ihave Hq2 := (pointsTo_split_subset (Finset.subset_univ (srcAt n ch).view.set)).1 $$ Hq
  icases Hq2 with ⟨Hq, Hr⟩
  iapply (Transfers.wp_dmaLocal (countersEmb (U := Pipeline.UD sig nD τ)) Variants.none (c : Thread nD τ) none
    (src := srcAt n ch) (via := .same) (dst := dstAt (slotOf n.val) ch) (sm := .dma (cellAt (slotOf n.val) ch)) () _ rfl
    (View.amount_pos _ _ (by decide)) (Finset.Subset.refl _)) $$ [Hq Hd Hv]
  · isplitl [Hq]; · iexact Hq
    isplitl [Hd]; · iexact Hd
    iexact Hv
  iintro Hf
  iapply (wp_done c)
  iapply Hk
  isplitl [Hf]
  · iexists f; iexact Hf
  iexact Hr

/-- The waits recorded so far, whichever they are. -/
abbrev owing : sProp 𝕄 := iprop(∃ W : Waits sig Unit, owes (c : Thread nD τ) 0 W)

/-- A wait for a copy on the way brings what it delivers. -/
theorem wp_await (fq : QBuf (F := F) c) (n : Fin 24) (ch : Fin 32) (Q : PUnit → sProp 𝕄) :
    iprop(busy c fq n ch ∗ owing c ∗ (landed c fq n ch ∗ owing c -∗ Q ⟨⟩)) ⊢ wpB c (await mQ mV mS (std n ch)) Q := by
  unfold busy landed
  iintro ⟨⟨⟨%f, Hf⟩, Hr⟩, ⟨%W, HW⟩, Hk⟩
  iapply (Transfers.wp_waitLocal (countersEmb (U := Pipeline.UD sig nD τ)) Variants.none (c : Thread nD τ) none
    (sem := cellAt (slotOf n.val) ch) (dstw := dstAt (slotOf n.val) ch) () rfl) $$ [Hf HW]
  · isplitl [Hf]; · iexact Hf
    iexact HW
  iintro ⟨⟨Hd, Hq⟩, Hv, HW⟩
  iapply (wp_done c)
  iapply Hk
  isplitr [HW]
  · isplitl [Hv]; · iexact Hv
    isplitl [Hd]; · iexists f; iexact Hd
    iapply (pointsTo_split_subset (Finset.subset_univ (srcAt n ch).view.set)).2
    isplitl [Hq]; · iexact Hq
    iexact Hr
  · iexists _; iexact HW

/-! ### Lists of copies and of waits -/

/-- The separating conjunction over a list. -/
def seps {γ : Type} (A : γ → sProp 𝕄) : List γ → sProp 𝕄
  | [] => iprop(emp)
  | o :: os => iprop(A o ∗ seps A os)

/-- Over the list of all channels it is the one over the finite set. -/
theorem seps_toFinset {γ : Type} [DecidableEq γ] (A : γ → sProp 𝕄) (l : List γ) (h : l.Nodup) :
    seps A l = bigSep l.toFinset A := by
  induction l with
  | nil => rfl
  | cons o os ih =>
    rw [List.nodup_cons] at h
    rw [List.toFinset_cons, bigSep_insert (by simpa using h.1), ← ih h.2]
    rfl

theorem seps_fin (A : Fin 32 → sProp 𝕄) : seps A (List.finRange 32) = bigSep Finset.univ A := by
  rw [seps_toFinset A _ (List.nodup_finRange 32)]
  exact congrArg (fun S => bigSep S A) (by ext x; simp)

/-- A program repeated over a list: each run turns `A o` into `B o`, with `R` beside it. -/
theorem wp_each {γ α : Type} (f : γ → Prog (TpuEff nD τ sig (Elt F) Λ₀ .tc) PUnit) (A B : γ → sProp 𝕄) (R : sProp 𝕄)
    (hf : ∀ o, ∀ K : PUnit → sProp 𝕄, iprop(A o ∗ R ∗ (B o ∗ R -∗ K ⟨⟩)) ⊢ wpB c (f o) K)
    (l : List γ) (p : Prog (TpuEff nD τ sig (Elt F) Λ₀ .tc) α) (Q : α → sProp 𝕄) :
    iprop(seps A l ∗ R ∗ (seps B l ∗ R -∗ wpB c p Q)) ⊢ wpB c (each f l p) Q := by
  induction l with
  | nil =>
    iintro ⟨HA, HR, Hk⟩
    iapply Hk
    isplitl [HA]; · iexact HA
    iexact HR
  | cons o os ih =>
    show _ ⊢ wpB c (f o >>= fun _ => each f os p) Q
    unfold wpB
    rw [wp_bind]
    unfold seps
    iintro ⟨⟨HA, HAs⟩, HR, Hk⟩
    iapply (hf o _)
    isplitl [HA]; · iexact HA
    isplitl [HR]; · iexact HR
    iintro ⟨HB, HR⟩
    iapply ih
    isplitl [HAs]; · iexact HAs
    isplitl [HR]; · iexact HR
    iintro ⟨HBs, HR⟩
    iapply Hk
    isplitr [HR]
    · isplitl [HB]; · iexact HB
      iexact HBs
    · iexact HR

/-- A program repeated over an image. -/
theorem each_map {γ δ α : Type} (f : δ → Prog (TpuEff nD τ sig (Elt F) Λ₀ .tc) PUnit) (g : γ → δ) (l : List γ)
    (p : Prog (TpuEff nD τ sig (Elt F) Λ₀ .tc) α) : each f (l.map g) p = each (fun o => f (g o)) l p := by
  induction l with
  | nil => rfl
  | cons o os ih => exact congrArg (fun r => f (g o) >>= fun _ => r) ih

/-- What follows a repeated program may be taken into it. -/
theorem each_bind {γ α β : Type} (f : γ → Prog (TpuEff nD τ sig (Elt F) Λ₀ .tc) PUnit) (l : List γ)
    (p : Prog (TpuEff nD τ sig (Elt F) Λ₀ .tc) α) (k : α → Prog (TpuEff nD τ sig (Elt F) Λ₀ .tc) β) :
    each f l p >>= k = each f l (p >>= k) := by
  induction l with
  | nil => rfl
  | cons o os ih =>
    show (f o >>= fun _ => each f os p) >>= k = f o >>= fun _ => each f os (p >>= k)
    rw [bind_assoc]
    exact congrArg (fun r => f o >>= r) (funext fun _ => ih)

theorem each_append {γ α : Type} (f : γ → Prog (TpuEff nD τ sig (Elt F) Λ₀ .tc) PUnit) (l l' : List γ)
    (p : Prog (TpuEff nD τ sig (Elt F) Λ₀ .tc) α) : each f (l ++ l') p = each f l (each f l' p) := by
  induction l with
  | nil => rfl
  | cons o os ih => exact congrArg (fun r => f o >>= fun _ => r) ih

/-- All copies of block `n`. -/
theorem wp_issues (fq : QBuf (F := F) c) (n : Fin 24) (Q : PUnit → sProp 𝕄) :
    iprop(bigSep Finset.univ (free c fq (slotOf n.val)) ∗ (bigSep Finset.univ (busy c fq n) -∗ Q ⟨⟩))
      ⊢ wpB c (each (fun ch => issue mQ mV mS (std n ch)) (List.finRange 32) (pure ⟨⟩)) Q := by
  refine .trans ?_ (wp_each c _ (free c fq (slotOf n.val)) (busy c fq n) iprop(emp) ?_ _ _ _)
  · rw [seps_fin, seps_fin]
    iintro ⟨HA, Hk⟩
    isplitl [HA]; · iexact HA
    isplitr; · iempintro
    iintro ⟨HB, -⟩
    iapply (wp_done c)
    iapply Hk; iexact HB
  · intro ch K
    iintro ⟨HA, -, Hk⟩
    iapply (wp_issue c fq n ch K)
    isplitl [HA]; · iexact HA
    iintro HB
    iapply Hk
    isplitl [HB]; · iexact HB
    iempintro

/-- The copies of two blocks of different slots, channel by channel. -/
theorem wp_issues2 (fq : QBuf (F := F) c) (n n' : Fin 24) (Q : PUnit → sProp 𝕄) :
    iprop(bigSep Finset.univ (free c fq (slotOf n.val)) ∗ bigSep Finset.univ (free c fq (slotOf n'.val))
        ∗ (bigSep Finset.univ (busy c fq n) ∗ bigSep Finset.univ (busy c fq n') -∗ Q ⟨⟩))
      ⊢ wpB c (each (fun ch => issue mQ mV mS (std n ch) >>= fun _ => issue mQ mV mS (std n' ch)) (List.finRange 32) (pure ⟨⟩)) Q := by
  refine .trans ?_ (wp_each c _ (fun ch => iprop(free c fq (slotOf n.val) ch ∗ free c fq (slotOf n'.val) ch))
    (fun ch => iprop(busy c fq n ch ∗ busy c fq n' ch)) iprop(emp) ?_ _ _ _)
  · rw [seps_fin, seps_fin]
    iintro ⟨HA, HA', Hk⟩
    isplitl [HA HA']
    · rw [bigSep_sep']
      isplitl [HA]; · iexact HA
      iexact HA'
    isplitr; · iempintro
    iintro ⟨HB, -⟩
    iapply (wp_done c)
    iapply Hk
    rw [← bigSep_sep']
    iexact HB
  · intro ch K
    unfold wpB
    rw [wp_bind]
    iintro ⟨⟨HA, HA'⟩, -, Hk⟩
    iapply (wp_issue c fq n ch _)
    isplitl [HA]; · iexact HA
    iintro HB
    iapply (wp_issue c fq n' ch K)
    isplitl [HA']; · iexact HA'
    iintro HB'
    iapply Hk
    isplitl [HB HB']
    · isplitl [HB]; · iexact HB
      iexact HB'
    · iempintro

/-- All waits of block `n`. -/
theorem wp_awaits {α : Type} (fq : QBuf (F := F) c) (n : Fin 24) (p : Prog (TpuEff nD τ sig (Elt F) Λ₀ .tc) α) (Q : α → sProp 𝕄) :
    iprop(bigSep Finset.univ (busy c fq n) ∗ owing c ∗ (bigSep Finset.univ (landed c fq n) ∗ owing c -∗ wpB c p Q))
      ⊢ wpB c (each (fun ch => await mQ mV mS (std n ch)) (List.finRange 32) p) Q := by
  refine .trans ?_ (wp_each c _ (busy c fq n) (landed c fq n) (owing c) ?_ _ _ _)
  · rw [seps_fin, seps_fin]
  · intro ch K
    exact wp_await c fq n ch K

end Cert.KernelIdeal.Hand

end
-- ==== Proof.Slot.lean ====
/-
The geometry of the ring: where a channel of a slot lies in the scratch array, where a channel of a block lies in the
queue, and that 32 channels of a block landed in a slot read as the block itself.
-/
module

public import proofs.«01_k».proof.Proof.Ring
public import Idealize.ShloMosaic.Lib.Pipeline.Value
public import Idealize.ShloMosaic.Lib.Pointwise.Index

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The place of position `(r, b)` of channel `ch` of slot `s` in the scratch array. -/
theorem dst_emb (s : Fin 3) (ch : Fin 32) (r b : Fin 256) :
    (dstAt s ch).view.emb (ix2 r b) = (ix4 s ch r b : S3x32x256x256.Idx) := by
  show (Rect.unit (s := S3x32x256x256) (offs s 0 ch).d S1x1x256x256.size (offs s 0 ch).hd).emb (Shape.reshapeEquiv _ (ix2 r b)) = _
  rw [Shape.reshapeEquiv_eq_of_rowMajor (y := (ix4 0 0 r b : S1x1x256x256.Idx)) _ (by
    rw [Shape.rowMajor_val_four, Shape.rowMajor_val_two]
    show ((0 * 1 + 0) * 256 + r.val) * 256 + b.val = r.val * 256 + b.val
    omega)]
  funext a
  apply Fin.ext
  rw [Rect.emb_apply]
  match a with
  | ⟨0, _⟩ => show s.val + 1 * 0 = s.val; omega
  | ⟨1, _⟩ => show ch.val + 1 * 0 = ch.val; omega
  | ⟨2, _⟩ => show 0 + 1 * r.val = r.val; omega
  | ⟨3, _⟩ => show 0 + 1 * b.val = b.val; omega

/-- The place of position `(r, b)` of channel `ch` of block `n` in the queue. -/
theorem src_emb (n : Fin 24) (ch : Fin 32) (r b : Fin 256) :
    (srcAt n ch).view.emb (ix2 r b) = (ix4 n r ch b : S24x256x32x256.Idx) := by
  show (Rect.unit (s := S24x256x32x256) (offs 0 n ch).q S1x256x1x256.size (offs 0 n ch).hq).emb (Shape.reshapeEquiv _ (ix2 r b)) = _
  rw [Shape.reshapeEquiv_eq_of_rowMajor (y := (ix4 0 r 0 b : S1x256x1x256.Idx)) _ (by
    rw [Shape.rowMajor_val_four, Shape.rowMajor_val_two]
    show ((0 * 256 + r.val) * 1 + 0) * 256 + b.val = r.val * 256 + b.val
    omega)]
  funext a
  apply Fin.ext
  rw [Rect.emb_apply]
  match a with
  | ⟨0, _⟩ => show n.val + 1 * 0 = n.val; omega
  | ⟨1, _⟩ => show 0 + 1 * r.val = r.val; omega
  | ⟨2, _⟩ => show ch.val + 1 * 0 = ch.val; omega
  | ⟨3, _⟩ => show 0 + 1 * b.val = b.val; omega

/-- The elements of a channel of a slot. -/
abbrev chanSet (s : Fin 3) (ch : Fin 32) : Finset S3x32x256x256.Idx := (dstAt s ch).view.set

theorem mem_chanSet (s : Fin 3) (ch : Fin 32) (y : S3x32x256x256.Idx) :
    y ∈ chanSet s ch ↔ (y 0).val = s.val ∧ (y 1).val = ch.val := by
  constructor
  · intro h
    obtain ⟨z, -, rfl⟩ := Finset.mem_map.1 h
    have hz : z = (ix2 (z 0 : Fin 256) (z 1 : Fin 256) : S256x256.Idx) := by funext a; fin_cases a <;> rfl
    have e := (congrArg (dstAt s ch).view.emb hz).trans (dst_emb s ch (z 0) (z 1))
    exact ⟨congrArg Fin.val (congrFun e 0), congrArg Fin.val (congrFun e 1)⟩
  · rintro ⟨h0, h1⟩
    refine Finset.mem_map.2 ⟨(ix2 (y 2 : Fin 256) (y 3 : Fin 256) : S256x256.Idx), Finset.mem_univ _, ?_⟩
    refine (dst_emb s ch (y 2) (y 3)).trans ?_
    funext a
    apply Fin.ext
    match a with
    | ⟨0, _⟩ => exact h0.symm
    | ⟨1, _⟩ => exact h1.symm
    | ⟨2, _⟩ => rfl
    | ⟨3, _⟩ => rfl

/-- Different channels of the ring are disjoint. -/
theorem chan_disjoint (p p' : Fin 3 × Fin 32) (h : p ≠ p') : Disjoint (chanSet p.1 p.2) (chanSet p'.1 p'.2) := by
  rw [Finset.disjoint_left]
  intro y hy hy'
  rw [mem_chanSet] at hy hy'
  exact h (Prod.ext (Fin.ext (hy.1.symm.trans hy'.1)) (Fin.ext (hy.2.symm.trans hy'.2)))

/-- The channels of the ring cover it. -/
theorem chan_cover : (Finset.univ : Finset (Fin 3 × Fin 32)).biUnion (fun p => chanSet p.1 p.2) = Finset.univ := by
  ext y
  simp only [Finset.mem_biUnion, Finset.mem_univ, true_and, iff_true]
  exact ⟨((y 0 : Fin 3), (y 1 : Fin 32)), (mem_chanSet _ _ _).2 ⟨rfl, rfl⟩⟩

/-- The elements of a slot. -/
def slotSet (s : Fin 3) : Finset S3x32x256x256.Idx := Finset.univ.biUnion (chanSet s)

/-- Block `n` of the queue, as the scratch array holds it: channels first. -/
def blk (fq : S24x256x32x256.Idx → Elt F .f32) (n : Fin 24) : Vec F S1x32x256x256 .f32 :=
  fun y => fq (ix4 n (y 2) (y 1) (y 3))

variable (c : Dev nD)

/-- The rectangle of a slot in the scratch array. -/
theorem slot_inb (s : Fin 3) : ∀ a, (![s.val, 0, 0, 0] : Fin 4 → ℕ) a + S1x32x256x256.size a ≤ S3x32x256x256.size a := by
  intro a
  fin_cases a
  · exact s.isLt
  · exact le_refl _
  · exact le_refl _
  · exact le_refl _

abbrev slotRect (s : Fin 3) : Rect S3x32x256x256 := Rect.unit (s := S3x32x256x256) ![s.val, 0, 0, 0] S1x32x256x256.size (slot_inb s)

theorem slotRect_emb (s : Fin 3) (y : S1x32x256x256.Idx) : (slotRect s).emb y = (ix4 s (y 1) (y 2) (y 3) : S3x32x256x256.Idx) := by
  funext a
  apply Fin.ext
  rw [Rect.emb_apply]
  match a with
  | ⟨0, _⟩ => show s.val + 1 * (y 0).val = s.val; have : (y 0).val < 1 := (y 0).isLt; omega
  | ⟨1, _⟩ => show 0 + 1 * (y 1).val = (y 1).val; omega
  | ⟨2, _⟩ => show 0 + 1 * (y 2).val = (y 2).val; omega
  | ⟨3, _⟩ => show 0 + 1 * (y 3).val = (y 3).val; omega

/-- A load of a slot stays inside it. -/
theorem slot_load_subset (s : Fin 3) : (mV.access (slotRect s)).set ⊆ slotSet s := by
  intro y hy
  obtain ⟨z, -, rfl⟩ := Finset.mem_map.1 hy
  refine Finset.mem_biUnion.2 ⟨z 1, Finset.mem_univ _, (mem_chanSet _ _ _).2 ?_⟩
  have e : (mV.access (slotRect s)).emb z = (ix4 s (z 1) (z 2) (z 3) : S3x32x256x256.Idx) := slotRect_emb s z
  rw [e]
  exact ⟨rfl, rfl⟩

/-- A slot whose 32 channels landed from block `n` reads as the block. -/
theorem read_slot (fq : QBuf (F := F) c) (n : Fin 24) (fs : Fin 32 → VBuf (F := F) c) (g : VBuf (F := F) c)
    (hg : ∀ ch, ∀ y ∈ chanSet (slotOf n.val) ch, g y = land c fq n ch (fs ch) y) :
    mV.view.readAt (Elt F) (slotRect (slotOf n.val)).toLoadRect g = blk fq n := by
  funext y
  have e : mV.view.readAt (Elt F) (slotRect (slotOf n.val)).toLoadRect g y = g ((slotRect (slotOf n.val)).emb y) := rfl
  have e1 : (dstAt (slotOf n.val) (y 1)).view.emb (ix2 (y 2) (y 3)) = (slotRect (slotOf n.val)).emb y :=
    (dst_emb _ (y 1) (y 2) (y 3)).trans (slotRect_emb _ y).symm
  rw [e, ← e1, hg (y 1) _ (Finset.mem_map_of_mem _ (Finset.mem_univ _))]
  have e2 : (dstAt (slotOf n.val) (y 1)).view.read (Elt F) (land c fq n (y 1) (fs (y 1))) (ix2 (y 2) (y 3))
      = (srcAt n (y 1)).view.read (Elt F) fq (ix2 (y 2) (y 3)) := by
    rw [View.read_write_univ]
  have e3 : (srcAt n (y 1)).view.read (Elt F) fq (ix2 (y 2) (y 3)) = fq (ix4 n (y 2) (y 1) (y 3)) :=
    congrArg fq (src_emb n (y 1) (y 2) (y 3))
  exact e2.trans e3

end Cert.KernelIdeal.Hand

end
-- ==== Proof.Steps.lean ====
/-
The kernel's body as copies, waits and the computation: the printed program, which lists its copies and its waits one
by one, equals a program that repeats one copy and one wait over the channels.
-/
module

public import proofs.«01_k».proof.Proof.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The offsets the body computes for the copies it starts two steps ahead. -/
def ahead (i : grid0.Coords) (h : k0_cond2 i = 1#1) : List Offs :=
  [ ⟨k0_off1 i, k0_off2 i, k0_off3 i, k0_off1_inb i h, k0_off2_inb i h, k0_off3_inb i h⟩,
    ⟨k0_off4 i, k0_off5 i, k0_off6 i, k0_off4_inb i h, k0_off5_inb i h, k0_off6_inb i h⟩,
    ⟨k0_off7 i, k0_off8 i, k0_off9 i, k0_off7_inb i h, k0_off8_inb i h, k0_off9_inb i h⟩,
    ⟨k0_off10 i, k0_off11 i, k0_off12 i, k0_off10_inb i h, k0_off11_inb i h, k0_off12_inb i h⟩,
    ⟨k0_off13 i, k0_off14 i, k0_off15 i, k0_off13_inb i h, k0_off14_inb i h, k0_off15_inb i h⟩,
    ⟨k0_off16 i, k0_off17 i, k0_off18 i, k0_off16_inb i h, k0_off17_inb i h, k0_off18_inb i h⟩,
    ⟨k0_off19 i, k0_off20 i, k0_off21 i, k0_off19_inb i h, k0_off20_inb i h, k0_off21_inb i h⟩,
    ⟨k0_off22 i, k0_off23 i, k0_off24 i, k0_off22_inb i h, k0_off23_inb i h, k0_off24_inb i h⟩,
    ⟨k0_off25 i, k0_off26 i, k0_off27 i, k0_off25_inb i h, k0_off26_inb i h, k0_off27_inb i h⟩,
    ⟨k0_off28 i, k0_off29 i, k0_off30 i, k0_off28_inb i h, k0_off29_inb i h, k0_off30_inb i h⟩,
    ⟨k0_off31 i, k0_off32 i, k0_off33 i, k0_off31_inb i h, k0_off32_inb i h, k0_off33_inb i h⟩,
    ⟨k0_off34 i, k0_off35 i, k0_off36 i, k0_off34_inb i h, k0_off35_inb i h, k0_off36_inb i h⟩,
    ⟨k0_off37 i, k0_off38 i, k0_off39 i, k0_off37_inb i h, k0_off38_inb i h, k0_off39_inb i h⟩,
    ⟨k0_off40 i, k0_off41 i, k0_off42 i, k0_off40_inb i h, k0_off41_inb i h, k0_off42_inb i h⟩,
    ⟨k0_off43 i, k0_off44 i, k0_off45 i, k0_off43_inb i h, k0_off44_inb i h, k0_off45_inb i h⟩,
    ⟨k0_off46 i, k0_off47 i, k0_off48 i, k0_off46_inb i h, k0_off47_inb i h, k0_off48_inb i h⟩,
    ⟨k0_off49 i, k0_off50 i, k0_off51 i, k0_off49_inb i h, k0_off50_inb i h, k0_off51_inb i h⟩,
    ⟨k0_off52 i, k0_off53 i, k0_off54 i, k0_off52_inb i h, k0_off53_inb i h, k0_off54_inb i h⟩,
    ⟨k0_off55 i, k0_off56 i, k0_off57 i, k0_off55_inb i h, k0_off56_inb i h, k0_off57_inb i h⟩,
    ⟨k0_off58 i, k0_off59 i, k0_off60 i, k0_off58_inb i h, k0_off59_inb i h, k0_off60_inb i h⟩,
    ⟨k0_off61 i, k0_off62 i, k0_off63 i, k0_off61_inb i h, k0_off62_inb i h, k0_off63_inb i h⟩,
    ⟨k0_off64 i, k0_off65 i, k0_off66 i, k0_off64_inb i h, k0_off65_inb i h, k0_off66_inb i h⟩,
    ⟨k0_off67 i, k0_off68 i, k0_off69 i, k0_off67_inb i h, k0_off68_inb i h, k0_off69_inb i h⟩,
    ⟨k0_off70 i, k0_off71 i, k0_off72 i, k0_off70_inb i h, k0_off71_inb i h, k0_off72_inb i h⟩,
    ⟨k0_off73 i, k0_off74 i, k0_off75 i, k0_off73_inb i h, k0_off74_inb i h, k0_off75_inb i h⟩,
    ⟨k0_off76 i, k0_off77 i, k0_off78 i, k0_off76_inb i h, k0_off77_inb i h, k0_off78_inb i h⟩,
    ⟨k0_off79 i, k0_off80 i, k0_off81 i, k0_off79_inb i h, k0_off80_inb i h, k0_off81_inb i h⟩,
    ⟨k0_off82 i, k0_off83 i, k0_off84 i, k0_off82_inb i h, k0_off83_inb i h, k0_off84_inb i h⟩,
    ⟨k0_off85 i, k0_off86 i, k0_off87 i, k0_off85_inb i h, k0_off86_inb i h, k0_off87_inb i h⟩,
    ⟨k0_off88 i, k0_off89 i, k0_off90 i, k0_off88_inb i h, k0_off89_inb i h, k0_off90_inb i h⟩,
    ⟨k0_off91 i, k0_off92 i, k0_off93 i, k0_off91_inb i h, k0_off92_inb i h, k0_off93_inb i h⟩,
    ⟨k0_off94 i, k0_off95 i, k0_off96 i, k0_off94_inb i h, k0_off95_inb i h, k0_off96_inb i h⟩ ]

/-- The offsets the body computes for the copies it waits for. -/
def waited (i : grid0.Coords) : List Offs :=
  [ ⟨k0_off97 i, k0_off98 i, k0_off99 i, k0_off97_inb i, k0_off98_inb i, k0_off99_inb i⟩,
    ⟨k0_off100 i, k0_off101 i, k0_off102 i, k0_off100_inb i, k0_off101_inb i, k0_off102_inb i⟩,
    ⟨k0_off103 i, k0_off104 i, k0_off105 i, k0_off103_inb i, k0_off104_inb i, k0_off105_inb i⟩,
    ⟨k0_off106 i, k0_off107 i, k0_off108 i, k0_off106_inb i, k0_off107_inb i, k0_off108_inb i⟩,
    ⟨k0_off109 i, k0_off110 i, k0_off111 i, k0_off109_inb i, k0_off110_inb i, k0_off111_inb i⟩,
    ⟨k0_off112 i, k0_off113 i, k0_off114 i, k0_off112_inb i, k0_off113_inb i, k0_off114_inb i⟩,
    ⟨k0_off115 i, k0_off116 i, k0_off117 i, k0_off115_inb i, k0_off116_inb i, k0_off117_inb i⟩,
    ⟨k0_off118 i, k0_off119 i, k0_off120 i, k0_off118_inb i, k0_off119_inb i, k0_off120_inb i⟩,
    ⟨k0_off121 i, k0_off122 i, k0_off123 i, k0_off121_inb i, k0_off122_inb i, k0_off123_inb i⟩,
    ⟨k0_off124 i, k0_off125 i, k0_off126 i, k0_off124_inb i, k0_off125_inb i, k0_off126_inb i⟩,
    ⟨k0_off127 i, k0_off128 i, k0_off129 i, k0_off127_inb i, k0_off128_inb i, k0_off129_inb i⟩,
    ⟨k0_off130 i, k0_off131 i, k0_off132 i, k0_off130_inb i, k0_off131_inb i, k0_off132_inb i⟩,
    ⟨k0_off133 i, k0_off134 i, k0_off135 i, k0_off133_inb i, k0_off134_inb i, k0_off135_inb i⟩,
    ⟨k0_off136 i, k0_off137 i, k0_off138 i, k0_off136_inb i, k0_off137_inb i, k0_off138_inb i⟩,
    ⟨k0_off139 i, k0_off140 i, k0_off141 i, k0_off139_inb i, k0_off140_inb i, k0_off141_inb i⟩,
    ⟨k0_off142 i, k0_off143 i, k0_off144 i, k0_off142_inb i, k0_off143_inb i, k0_off144_inb i⟩,
    ⟨k0_off145 i, k0_off146 i, k0_off147 i, k0_off145_inb i, k0_off146_inb i, k0_off147_inb i⟩,
    ⟨k0_off148 i, k0_off149 i, k0_off150 i, k0_off148_inb i, k0_off149_inb i, k0_off150_inb i⟩,
    ⟨k0_off151 i, k0_off152 i, k0_off153 i, k0_off151_inb i, k0_off152_inb i, k0_off153_inb i⟩,
    ⟨k0_off154 i, k0_off155 i, k0_off156 i, k0_off154_inb i, k0_off155_inb i, k0_off156_inb i⟩,
    ⟨k0_off157 i, k0_off158 i, k0_off159 i, k0_off157_inb i, k0_off158_inb i, k0_off159_inb i⟩,
    ⟨k0_off160 i, k0_off161 i, k0_off162 i, k0_off160_inb i, k0_off161_inb i, k0_off162_inb i⟩,
    ⟨k0_off163 i, k0_off164 i, k0_off165 i, k0_off163_inb i, k0_off164_inb i, k0_off165_inb i⟩,
    ⟨k0_off166 i, k0_off167 i, k0_off168 i, k0_off166_inb i, k0_off167_inb i, k0_off168_inb i⟩,
    ⟨k0_off169 i, k0_off170 i, k0_off171 i, k0_off169_inb i, k0_off170_inb i, k0_off171_inb i⟩,
    ⟨k0_off172 i, k0_off173 i, k0_off174 i, k0_off172_inb i, k0_off173_inb i, k0_off174_inb i⟩,
    ⟨k0_off175 i, k0_off176 i, k0_off177 i, k0_off175_inb i, k0_off176_inb i, k0_off177_inb i⟩,
    ⟨k0_off178 i, k0_off179 i, k0_off180 i, k0_off178_inb i, k0_off179_inb i, k0_off180_inb i⟩,
    ⟨k0_off181 i, k0_off182 i, k0_off183 i, k0_off181_inb i, k0_off182_inb i, k0_off183_inb i⟩,
    ⟨k0_off184 i, k0_off185 i, k0_off186 i, k0_off184_inb i, k0_off185_inb i, k0_off186_inb i⟩,
    ⟨k0_off187 i, k0_off188 i, k0_off189 i, k0_off187_inb i, k0_off188_inb i, k0_off189_inb i⟩,
    ⟨k0_off190 i, k0_off191 i, k0_off192 i, k0_off190_inb i, k0_off191_inb i, k0_off192_inb i⟩ ]

/-- The three offsets of a copy. -/
def Offs.key (o : Offs) : (Fin 2 → ℕ) × (Fin 4 → ℕ) × (Fin 4 → ℕ) := (o.s, o.d, o.q)

theorem Offs.key_injective : Function.Injective Offs.key := by
  rintro ⟨s, d, q, hs, hd, hq⟩ ⟨s', d', q', hs', hd', hq'⟩ h
  simp only [Offs.key, Prod.mk.injEq] at h
  obtain ⟨h1, h2, h3⟩ := h
  subst h1 h2 h3
  rfl

/-- The step a grid point stands for. -/
abbrev step (i : grid0.Coords) : Fin 24 := i 0

theorem ahead_lt : ∀ i : grid0.Coords, k0_cond2 i = 1#1 → (step i).val + 2 < 24 := by decide +kernel

theorem ahead_keys : ∀ (i : grid0.Coords) (h : k0_cond2 i = 1#1),
    (ahead i h).map Offs.key = (List.finRange 32).map fun ch => (std ⟨(step i).val + 2, ahead_lt i h⟩ ch).key := by
  decide +kernel

theorem waited_keys : ∀ i : grid0.Coords,
    (waited i).map Offs.key = (List.finRange 32).map fun ch => (std (step i) ch).key := by
  decide +kernel

/-- The copies started two steps ahead are those of block `i + 2`. -/
theorem ahead_eq (i : grid0.Coords) (h : k0_cond2 i = 1#1) :
    ahead i h = (List.finRange 32).map (std ⟨(step i).val + 2, ahead_lt i h⟩) :=
  (List.map_injective_iff.2 Offs.key_injective) (by rw [ahead_keys, List.map_map]; rfl)

/-- The copies waited for are those of block `i`. -/
theorem waited_eq (i : grid0.Coords) : waited i = (List.finRange 32).map (std (step i)) :=
  (List.map_injective_iff.2 Offs.key_injective) (by rw [waited_keys, List.map_map]; rfl)

section Program

variable (i : grid0.Coords) (arg1 : Memref sig .tc .vmem S1x1x256 .f32) (harg1 : arg1.IsWhole) (arg2 : Memref sig .tc .vmem S1x8x256 .f32) (harg2 : arg2.IsWhole) (arg3 : Memref sig .tc .vmem S1x1x256 .i32) (harg3 : arg3.IsWhole) (arg4 : Memref sig .tc .vmem S16x1000 .f32) (harg4 : arg4.IsWhole) (arg5 : Memref sig .tc .vmem S32x25 .f32) (harg5 : arg5.IsWhole) (arg6 : Memref sig .tc .vmem S32x1 .f32) (harg6 : arg6.IsWhole) (arg7 : Memref sig .tc .hbm S24x256x32x256 .f32) (harg7 : arg7.IsWhole) (arg8 : Memref sig .tc .vmem S1x64x32 .f32) (harg8 : arg8.IsWhole) (arg9 : Memref sig .tc .vmem S1x64x32 .f32) (harg9 : arg9.IsWhole) (arg10 : Memref sig .tc .vmem S1x64x1 .f32) (harg10 : arg10.IsWhole) (arg11 : Memref sig .tc .vmem S1x32x32 .f32) (harg11 : arg11.IsWhole) (arg12 : Memref sig .tc .vmem S1x32x1 .f32) (harg12 : arg12.IsWhole) (arg13 : Memref sig .tc .vmem S1x32x32 .f32) (harg13 : arg13.IsWhole) (arg14 : Memref sig .tc .vmem S1x32x1 .f32) (harg14 : arg14.IsWhole) (arg15 : Memref sig .tc .vmem S1x128x32 .f32) (harg15 : arg15.IsWhole) (arg16 : Memref sig .tc .vmem S128x1 .f32) (harg16 : arg16.IsWhole) (arg17 : Memref sig .tc .vmem S1x128 .f32) (harg17 : arg17.IsWhole) (arg18 : Memref sig .tc .vmem S1x1 .f32) (harg18 : arg18.IsWhole) (arg19 : Memref sig .tc .vmem S1x1x256 .f32) (harg19 : arg19.IsWhole) (arg20 : Memref sig .tc .vmem S1x257x32x256 .f32) (harg20 : arg20.IsWhole) (arg21 : Memref sig .tc .vmem S3x32x256x256 .f32) (harg21 : arg21.IsWhole) (arg22 : Memref sig .tc .vmem S32x256 .f32) (harg22 : arg22.IsWhole) (arg23 : Memref sig .tc .vmem S128x256 .f32) (harg23 : arg23.IsWhole) (arg24 : DmaSems sig S3x32)

/-- Whether a word is the first step's. -/
abbrev isFirst (x : BitVec 32) : BitVec 1 := Scalar.cmpi .ne (Scalar.extui (Scalar.cmpi .eq x 0#32) : BitVec 32) 0#32

/-- The remainder of the step by three, as the body computes it. -/
def rem3 (x : BitVec 32) : BitVec 32 :=
  Scalar.select (Scalar.andi (Scalar.xori (Scalar.cmpi .slt (Scalar.remsi x (Scalar.select (Scalar.cmpi .eq 3#32 0#32) 1#32 3#32)) 0#32)
      (Scalar.cmpi .slt (Scalar.select (Scalar.cmpi .eq 3#32 0#32) 1#32 3#32) 0#32))
      (Scalar.cmpi .ne (Scalar.remsi x (Scalar.select (Scalar.cmpi .eq 3#32 0#32) 1#32 3#32)) 0#32))
    (Scalar.addi (Scalar.remsi x (Scalar.select (Scalar.cmpi .eq 3#32 0#32) 1#32 3#32)) (Scalar.select (Scalar.cmpi .eq 3#32 0#32) 1#32 3#32))
    (Scalar.remsi x (Scalar.select (Scalar.cmpi .eq 3#32 0#32) 1#32 3#32))

/-- The two waits at the end of the first part. -/
abbrev waits2 : Prog (TpuEff nD τ sig (Elt F) Λ₀ .tc) (Σ' (_ : BitVec 32), BitVec 32) :=
  each (await arg7 arg21 arg24) ((waited i).take 2) (pure ⟨BitVec.ofNat 32 (i 0).val, rem3 (BitVec.ofNat 32 (i 0).val)⟩)

/-- The copies two steps ahead, where there are any, and then `p`. -/
abbrev aheadThen {α : Type} (p : Prog (TpuEff nD τ sig (Elt F) Λ₀ .tc) α) : Prog (TpuEff nD τ sig (Elt F) Λ₀ .tc) α :=
  if h : k0_cond2 i = 1#1 then each (issue arg7 arg21 arg24) (ahead i h) p else p

/-- At the first step the copies of blocks 0 and 1, and then `p`. -/
abbrev firstThen {α : Type} (p : Prog (TpuEff nD τ sig (Elt F) Λ₀ .tc) α) : Prog (TpuEff nD τ sig (Elt F) Λ₀ .tc) α :=
  if _h : isFirst (BitVec.ofNat 32 (i 0).val) = 1#1 then
    each (fun ch => issue arg7 arg21 arg24 (std 0 ch) >>= fun _ => issue arg7 arg21 arg24 (std 1 ch)) (List.finRange 32) p
  else p

set_option maxRecDepth 65536 in
set_option maxHeartbeats 4000000 in
/-- The first part of the body: at the first step the copies of blocks 0 and 1, then the copies two steps ahead where
    there are any, then the first two waits. -/
theorem part38_eq : k0_part38 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24
    = firstThen i arg7 arg21 arg24 (aheadThen i arg7 arg21 arg24 (waits2 i arg7 arg21 arg24)) := by
  rfl

end Program

end Cert.KernelIdeal.Hand

end
-- ==== Proof.RingRun.lean ====
/-
The run of the ring. Before step `t` the copies of blocks `t` and `t + 1` are on the way and the slot of block `t + 2`
is free; the step starts the copy of block `t + 2` and waits for that of block `t`.
-/
module

public import proofs.«01_k».proof.Proof.Slot
public import proofs.«01_k».proof.Proof.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ### The states of the ring -/

section States

variable (c : Dev nD) (fq : QBuf (F := F) c)

/-- A slot with no copy on the way. -/
abbrev freeSlot (s : Fin 3) : sProp 𝕄 := bigSep Finset.univ (free c fq s)

/-- Block `n` on the way to its slot; beyond the last block, the slot free. -/
def fetching (n : ℕ) : sProp 𝕄 :=
  if h : n < 24 then bigSep Finset.univ (busy c fq ⟨n, h⟩) else freeSlot c fq (slotOf n)

/-- Block `n` before step `t`: its copy has been started unless `t` is the first step. -/
def pending (t n : ℕ) : sProp 𝕄 := if t = 0 then freeSlot c fq (slotOf n) else fetching c fq n

/-- The ring before step `t`. -/
def ringAt (t : ℕ) : sProp 𝕄 :=
  iprop(pending c fq t t ∗ pending c fq t (t + 1) ∗ freeSlot c fq (slotOf (t + 2)))

/-- The ring during the computation of step `t`, beside the slot of block `t`. -/
def ringRest (t : ℕ) : sProp 𝕄 := iprop(fetching c fq (t + 1) ∗ fetching c fq (t + 2))

theorem slotOf_add (n : ℕ) : slotOf (n + 3) = slotOf n := Fin.ext (Nat.add_mod_right n 3)

/-- The computed slot is free for the block three steps on. -/
theorem ring_next (t : ℕ) : iprop(freeSlot c fq (slotOf t) ∗ ringRest c fq t) ⊢ ringAt c fq (t + 1) := by
  unfold ringAt ringRest pending
  rw [if_neg (Nat.succ_ne_zero t), if_neg (Nat.succ_ne_zero t)]
  show _ ⊢ iprop(_ ∗ _ ∗ freeSlot c fq (slotOf (t + 3)))
  rw [slotOf_add]
  iintro ⟨Hf, H1, H2⟩
  isplitl [H1]; · iexact H1
  isplitl [H2]; · iexact H2
  iexact Hf

end States

/-! ### The copies of a step -/

section Copies

variable (c : Dev nD) (fq : QBuf (F := F) c) {α : Type}

theorem each_pure {γ : Type} (f : γ → Prog (TpuEff nD τ sig (Elt F) Λ₀ .tc) PUnit) (l : List γ)
    (p : Prog (TpuEff nD τ sig (Elt F) Λ₀ .tc) α) : each f l p = each f l (pure PUnit.unit) >>= fun _ : PUnit => p := by
  rw [each_bind]
  rfl

theorem first_pos (i : grid0.Coords) (h : isFirst (BitVec.ofNat 32 (i 0).val) = 1#1) (p : Prog (TpuEff nD τ sig (Elt F) Λ₀ .tc) α) :
    firstThen i mQ mV mS p
      = each (fun ch => issue mQ mV mS (std 0 ch) >>= fun _ => issue mQ mV mS (std 1 ch)) (List.finRange 32) p := dif_pos h

theorem first_neg (i : grid0.Coords) (h : ¬ isFirst (BitVec.ofNat 32 (i 0).val) = 1#1) (p : Prog (TpuEff nD τ sig (Elt F) Λ₀ .tc) α) :
    firstThen i mQ mV mS p = p := dif_neg h

theorem ahead_pos (i : grid0.Coords) (h : k0_cond2 i = 1#1) (p : Prog (TpuEff nD τ sig (Elt F) Λ₀ .tc) α) :
    aheadThen i mQ mV mS p = each (issue mQ mV mS) (ahead i h) p := dif_pos h

theorem ahead_neg (i : grid0.Coords) (h : ¬ k0_cond2 i = 1#1) (p : Prog (TpuEff nD τ sig (Elt F) Λ₀ .tc) α) :
    aheadThen i mQ mV mS p = p := dif_neg h

theorem isFirst_iff : ∀ k : Fin 24, isFirst (BitVec.ofNat 32 k.val) = 1#1 ↔ k.val = 0 := by decide +kernel

theorem ahead_iff : ∀ i : grid0.Coords, k0_cond2 i = 1#1 ↔ (step i).val + 2 < 24 := by decide +kernel

theorem last_iff : ∀ i : grid0.Coords, k0_cond11 i = 1#1 ↔ (step i).val = 23 := by decide +kernel

theorem slot_off : ∀ i : grid0.Coords, k0_off193 i = ![(slotOf (step i).val).val, 0, 0, 0] := by decide +kernel

/-- All copies of a block, and what follows. -/
theorem wp_issues_then (n : Fin 24) (p : Prog (TpuEff nD τ sig (Elt F) Λ₀ .tc) α) (Q : α → sProp 𝕄) :
    iprop(freeSlot c fq (slotOf n.val) ∗ (bigSep Finset.univ (busy c fq n) -∗ wpB c p Q))
      ⊢ wpB c (each (fun ch => issue mQ mV mS (std n ch)) (List.finRange 32) p) Q := by
  rw [each_pure]
  unfold wpB
  rw [wp_bind]
  exact wp_issues c fq n (fun _ => wpB c p Q)

/-- All copies of two blocks, and what follows. -/
theorem wp_issues2_then (n n' : Fin 24) (p : Prog (TpuEff nD τ sig (Elt F) Λ₀ .tc) α) (Q : α → sProp 𝕄) :
    iprop(freeSlot c fq (slotOf n.val) ∗ freeSlot c fq (slotOf n'.val)
        ∗ (bigSep Finset.univ (busy c fq n) ∗ bigSep Finset.univ (busy c fq n') -∗ wpB c p Q))
      ⊢ wpB c (each (fun ch => issue mQ mV mS (std n ch) >>= fun _ => issue mQ mV mS (std n' ch)) (List.finRange 32) p) Q := by
  rw [each_pure]
  unfold wpB
  rw [wp_bind]
  exact wp_issues2 c fq n n' (fun _ => wpB c p Q)

theorem fetching_lt (n : Fin 24) : fetching c fq n.val = bigSep Finset.univ (busy c fq n) := dif_pos n.isLt
theorem fetching_ge (n : ℕ) (h : ¬ n < 24) : fetching c fq n = freeSlot c fq (slotOf n) := dif_neg h
theorem pending_zero (n : ℕ) : pending c fq 0 n = freeSlot c fq (slotOf n) := if_pos rfl
theorem pending_pos (t n : ℕ) (h : t ≠ 0) : pending c fq t n = fetching c fq n := if_neg h

/-- At the first step the copies of blocks 0 and 1 are started; at a later one they have been. -/
theorem wp_first (i : grid0.Coords) (p : Prog (TpuEff nD τ sig (Elt F) Λ₀ .tc) α) (Q : α → sProp 𝕄) :
    iprop(pending c fq (step i).val (step i).val ∗ pending c fq (step i).val ((step i).val + 1)
        ∗ (fetching c fq (step i).val ∗ fetching c fq ((step i).val + 1) -∗ wpB c p Q))
      ⊢ wpB c (firstThen i mQ mV mS p) Q := by
  by_cases h : isFirst (BitVec.ofNat 32 (i 0).val) = 1#1
  · have h0 : (step i).val = 0 := (isFirst_iff (step i)).1 h
    rw [first_pos i h, h0, pending_zero, pending_zero, show fetching c fq 0 = _ from fetching_lt c fq 0,
      show fetching c fq (0 + 1) = _ from fetching_lt c fq 1]
    exact wp_issues2_then c fq 0 1 p Q
  · have h0 : (step i).val ≠ 0 := fun e => h ((isFirst_iff (step i)).2 e)
    rw [first_neg i h]
    rw [pending_pos c fq _ _ h0, pending_pos c fq _ _ h0]
    iintro ⟨H1, H2, Hk⟩
    iapply Hk
    isplitl [H1]; · iexact H1
    iexact H2

/-- The copy of the block two steps on is started, where there is one. -/
theorem wp_ahead (i : grid0.Coords) (p : Prog (TpuEff nD τ sig (Elt F) Λ₀ .tc) α) (Q : α → sProp 𝕄) :
    iprop(freeSlot c fq (slotOf ((step i).val + 2)) ∗ (fetching c fq ((step i).val + 2) -∗ wpB c p Q))
      ⊢ wpB c (aheadThen i mQ mV mS p) Q := by
  by_cases h : k0_cond2 i = 1#1
  · rw [ahead_pos i h, ahead_eq, each_map,
      show fetching c fq ((step i).val + 2) = _ from fetching_lt c fq ⟨(step i).val + 2, ahead_lt i h⟩]
    exact wp_issues_then c fq ⟨(step i).val + 2, ahead_lt i h⟩ p Q
  · rw [ahead_neg i h]
    rw [fetching_ge c fq _ fun e => h ((ahead_iff i).2 e)]
    iintro ⟨H1, Hk⟩
    iapply Hk
    iexact H1

/-- What follows the copies may be taken into them. -/
theorem first_bind {β : Type} (i : grid0.Coords) (p : Prog (TpuEff nD τ sig (Elt F) Λ₀ .tc) α)
    (k : α → Prog (TpuEff nD τ sig (Elt F) Λ₀ .tc) β) : firstThen i mQ mV mS p >>= k = firstThen i mQ mV mS (p >>= k) := by
  by_cases h : isFirst (BitVec.ofNat 32 (i 0).val) = 1#1
  · rw [first_pos i h, each_bind, first_pos i h]
  · rw [first_neg i h, first_neg i h]

theorem ahead_bind {β : Type} (i : grid0.Coords) (p : Prog (TpuEff nD τ sig (Elt F) Λ₀ .tc) α)
    (k : α → Prog (TpuEff nD τ sig (Elt F) Λ₀ .tc) β) : aheadThen i mQ mV mS p >>= k = aheadThen i mQ mV mS (p >>= k) := by
  by_cases h : k0_cond2 i = 1#1
  · rw [ahead_pos i h, each_bind, ahead_pos i h]
  · rw [ahead_neg i h, ahead_neg i h]

/-- All copies and waits of a step: afterwards block `t` has landed. -/
theorem wp_ring (i : grid0.Coords) (K : BitVec 32 → BitVec 32 → Prog (TpuEff nD τ sig (Elt F) Λ₀ .tc) α) (Q : α → sProp 𝕄) :
    iprop(ringAt c fq (step i).val ∗ owing c
        ∗ (bigSep Finset.univ (landed c fq (step i)) ∗ ringRest c fq (step i).val ∗ owing c
            -∗ wpB c (K (BitVec.ofNat 32 (i 0).val) (rem3 (BitVec.ofNat 32 (i 0).val))) Q))
      ⊢ wpB c (firstThen i mQ mV mS (aheadThen i mQ mV mS (waits2 i mQ mV mS))
          >>= fun x => each (await mQ mV mS) ((waited i).drop 2) (K x.1 x.2)) Q := by
  have e : waits2 (F := F) i mQ mV mS >>= (fun x => each (await mQ mV mS) ((waited i).drop 2) (K x.1 x.2))
      = each (fun ch => await mQ mV mS (std (step i) ch)) (List.finRange 32)
          (K (BitVec.ofNat 32 (i 0).val) (rem3 (BitVec.ofNat 32 (i 0).val))) := by
    rw [each_bind]
    show each _ _ (each _ _ _) = _
    rw [← each_append, List.take_append_drop, waited_eq, each_map]
  rw [first_bind, ahead_bind, e]
  unfold ringAt ringRest
  iintro ⟨⟨H0, H1, H2⟩, HW, Hk⟩
  iapply (wp_first c fq i _ Q)
  isplitl [H0]; · iexact H0
  isplitl [H1]; · iexact H1
  iintro ⟨H0, H1⟩
  iapply (wp_ahead c fq i _ Q)
  isplitl [H2]; · iexact H2
  iintro H2
  iapply (wp_awaits c fq (step i) _ Q)
  isplitl [H0]
  · rw [fetching_lt]
    exact .rfl
  isplitl [HW]; · iexact HW
  iintro ⟨Hl, HW⟩
  iapply Hk
  isplitl [Hl]; · iexact Hl
  isplitr [HW]
  · isplitl [H1]; · iexact H1
    iexact H2
  · iexact HW

end Copies

end Cert.KernelIdeal.Hand

end
-- ==== Proof.RingEnds.lean ====
/-
The two ends of the ring and its opening: what the launch hands over is a ring with no copy on the way, and what is
left after the last step is that again; a slot that landed is opened for one load and freed afterwards.
-/
module

public import proofs.«01_k».proof.Proof.RingRun

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (c : Dev nD) (fq : QBuf (F := F) c)

/-! ### Opening a slot -/

/-- What a channel keeps beside its part of the scratch array. -/
def beside (s : Fin 3) (ch : Fin 32) : sProp 𝕄 :=
  iprop(semVal ((c : Thread nD τ), .dma (cellAt s ch)) 0 ∗ (mQ.view.loc (c : Thread nD τ) ↦{tok s ch} fq))

/-- The elements of a channel, as elements of the scratch array of core `c`. -/
def chanIn (p : Fin 3 × Fin 32) : Finset (Idx (mV.view.loc (c : Thread nD τ))) := chanSet p.1 p.2

/-- The elements of a slot likewise. -/
def slotIn (s : Fin 3) : Finset (Idx (mV.view.loc (c : Thread nD τ))) := slotSet s

theorem chanIn_disjoint (p p' : Fin 3 × Fin 32) (h : p ≠ p') : Disjoint (chanIn c p) (chanIn c p') :=
  chan_disjoint p p' h

theorem chanIn_slot (s : Fin 3) : Finset.univ.biUnion (fun ch : Fin 32 => chanIn c (s, ch)) = slotIn c s := by
  apply Finset.ext
  intro y
  rw [Finset.mem_biUnion]
  exact Finset.mem_biUnion.symm

theorem chanIn_cover : (Finset.univ : Finset (Fin 3 × Fin 32)).biUnion (chanIn c) = Finset.univ := by
  apply Finset.ext
  intro y
  rw [Finset.mem_biUnion]
  exact ⟨fun _ => Finset.mem_univ _, fun _ => ⟨((y 0 : Fin 3), (y 1 : Fin 32)), Finset.mem_univ _, (mem_chanSet _ _ _).2 ⟨rfl, rfl⟩⟩⟩

theorem slot_split (s : Fin 3) (g : VBuf (F := F) c) :
    (mV.view.loc (c : Thread nD τ) ↦[slotIn c s]{fullShare} g : sProp 𝕄)
      = bigSep Finset.univ fun ch => (mV.view.loc (c : Thread nD τ) ↦[chanIn c (s, ch)]{fullShare} g : sProp 𝕄) := by
  rw [← chanIn_slot]
  exact pointsTo_biUnion Finset.univ (fun ch => chanIn c (s, ch))
    (fun ch _ ch' _ h => chanIn_disjoint c _ _ fun e => h (congrArg Prod.snd e))

theorem landed_split (n : Fin 24) (ch : Fin 32) : landed c fq n ch
    ⊢ iprop(beside c fq (slotOf n.val) ch ∗ ∃ f : VBuf (F := F) c,
        mV.view.loc (c : Thread nD τ) ↦[chanIn c (slotOf n.val, ch)]{fullShare} land c fq n ch f) := by
  unfold landed beside
  iintro ⟨Hv, Hd, Hq⟩
  isplitr [Hd]
  · isplitl [Hv]; · iexact Hv
    iexact Hq
  · iexact Hd

theorem free_of (s : Fin 3) (ch : Fin 32) (g : VBuf (F := F) c) :
    iprop((mV.view.loc (c : Thread nD τ) ↦[chanIn c (s, ch)]{fullShare} g) ∗ beside c fq s ch) ⊢ free c fq s ch := by
  unfold free beside
  iintro ⟨Hd, Hv, Hq⟩
  isplitl [Hv]; · iexact Hv
  isplitl [Hd]; · iexists g; iexact Hd
  iexact Hq

/-- A slot whose 32 channels landed from block `n` is held whole, and reads as the block. -/
theorem slot_open (n : Fin 24) :
    bigSep Finset.univ (landed c fq n)
      ⊢ iprop((∃ g : VBuf (F := F) c, ⌜mV.view.readAt (Elt F) (slotRect (slotOf n.val)).toLoadRect g = blk fq n⌝
            ∗ (mV.view.loc (c : Thread nD τ) ↦[slotIn c (slotOf n.val)]{fullShare} g))
          ∗ bigSep Finset.univ (beside c fq (slotOf n.val))) := by
  have e : bigSep Finset.univ (landed c fq n)
      ⊢ iprop(bigSep Finset.univ (beside c fq (slotOf n.val))
        ∗ bigSep Finset.univ (fun ch => iprop(∃ f : VBuf (F := F) c,
            mV.view.loc (c : Thread nD τ) ↦[chanIn c (slotOf n.val, ch)]{fullShare} land c fq n ch f))) := by
    rw [← bigSep_sep']
    exact bigSep_mono fun ch _ => landed_split c fq n ch
  have hne : Nonempty (VBuf (F := F) c) := ⟨fun _ => Classical.arbitrary _⟩
  have j := bigSep_exists_pi Finset.univ (fun (ch : Fin 32) (f : VBuf (F := F) c) =>
    (mV.view.loc (c : Thread nD τ) ↦[chanIn c (slotOf n.val, ch)]{fullShare} land c fq n ch f : sProp 𝕄))
  refine e.trans ?_
  iintro ⟨Hb, Hd⟩
  ihave H := j $$ Hd
  icases H with ⟨%fs, H⟩
  ihave H := (pointsTo_biUnion_join Finset.univ (fun ch => chanIn c (slotOf n.val, ch)) (fun ch => land c fq n ch (fs ch))
    (Classical.choice hne) (fun ch _ ch' _ h => chanIn_disjoint c _ _ fun e => h (congrArg Prod.snd e))) $$ H
  icases H with ⟨%g, %hg, H⟩
  rw [chanIn_slot]
  isplitl [H]
  · iexists g
    isplitr
    · ipureintro
      exact read_slot c fq n fs g fun ch y hy => hg ch (Finset.mem_univ _) y hy
    · iexact H
  · iexact Hb

/-- A slot held whole is free. -/
theorem slot_close (s : Fin 3) (g : VBuf (F := F) c) :
    iprop((mV.view.loc (c : Thread nD τ) ↦[slotIn c s]{fullShare} g) ∗ bigSep Finset.univ (beside c fq s))
      ⊢ freeSlot c fq s := by
  rw [slot_split, ← bigSep_sep']
  exact bigSep_mono fun ch _ => free_of c fq s ch g

/-! ### The cells of the ring -/

/-- A cell of the row in the ring. -/
abbrev rowOf (j : Fin 96) : Fin 3 × Fin 32 := finProdFinEquiv.symm j

/-- The 96 cells of the ring in one row. -/
abbrev osem0 : Fin 96 → SemLoc sig := fun j => .dma (cellAt (rowOf j).1 (rowOf j).2)

set_option maxRecDepth 65536 in
set_option maxHeartbeats 4000000 in
theorem ownSemFacts0 : Pipeline.OwnSemFacts spec0 osem0 := by decide +kernel

/-- What the queue keeps of itself beside the 96 shares. -/
abbrev spare : sProp 𝕄 := mQ.view.loc (c : Thread nD τ) ↦{Transfers.shareDrop fullShare 96} fq

/-- The ring with no copy on the way. -/
abbrev idle : sProp 𝕄 := iprop(freeSlot c fq 0 ∗ freeSlot c fq 1 ∗ freeSlot c fq 2)

theorem idle_eq : idle c fq = bigSep Finset.univ (fun j : Fin 96 =>
    free c fq (rowOf j).1 (rowOf j).2) := by
  rw [bigSep_univ_equiv (finProdFinEquiv (m := 3) (n := 32))]
  simp only [Equiv.symm_apply_apply]
  rw [bigSep_univ_prod, Ring.bigSep_fin3]

theorem vin_eq (f : VBuf (F := F) c) : (mV.view.loc (c : Thread nD τ) ↦{fullShare} f : sProp 𝕄)
    = bigSep Finset.univ (fun j : Fin 96 => (mV.view.loc (c : Thread nD τ)
        ↦[chanIn c (rowOf j)]{fullShare} f)) := by
  have e : (mV.view.loc (c : Thread nD τ) ↦{fullShare} f : sProp 𝕄)
      = bigSep Finset.univ fun p : Fin 3 × Fin 32 => (mV.view.loc (c : Thread nD τ) ↦[chanIn c p]{fullShare} f : sProp 𝕄) :=
    Ring.pointsTo_blocks (chanIn c) (chanIn_disjoint c) (chanIn_cover c) f
  rw [e, bigSep_univ_equiv (finProdFinEquiv (m := 3) (n := 32)).symm]

theorem tok_row (j : Fin 96) : tok (rowOf j).1 (rowOf j).2 = Transfers.shareTok fullShare 96 j :=
  congrArg (Transfers.shareTok fullShare 96) ((finProdFinEquiv (m := 3) (n := 32)).apply_symm_apply j)

theorem idle_in (j : Fin 96) (f : VBuf (F := F) c) :
    iprop((mV.view.loc (c : Thread nD τ) ↦[chanIn c (rowOf j)]{fullShare} f)
        ∗ semVal ((c : Thread nD τ), osem0 j) 0
        ∗ (mQ.view.loc (c : Thread nD τ) ↦{Transfers.shareTok fullShare 96 j} fq))
      ⊢ free c fq (rowOf j).1 (rowOf j).2 := by
  unfold free
  rw [tok_row]
  iintro ⟨Hd, Hv, Hq⟩
  isplitl [Hv]; · iexact Hv
  isplitl [Hd]; · iexists f; iexact Hd
  iexact Hq

theorem idle_out (j : Fin 96) : free c fq (rowOf j).1 (rowOf j).2
    ⊢ iprop((∃ f : VBuf (F := F) c, mV.view.loc (c : Thread nD τ) ↦[chanIn c (rowOf j)]{fullShare} f)
        ∗ semVal ((c : Thread nD τ), osem0 j) 0
        ∗ (mQ.view.loc (c : Thread nD τ) ↦{Transfers.shareTok fullShare 96 j} fq)) := by
  unfold free
  rw [tok_row]
  iintro ⟨Hv, Hd, Hq⟩
  isplitl [Hd]; · iexact Hd
  isplitl [Hv]; · iexact Hv
  iexact Hq

/-- The scratch array, the cells at zero and the queue make an idle ring. -/
theorem idle_of : iprop((∃ f : VBuf (F := F) c, mV.view.loc (c : Thread nD τ) ↦{fullShare} f)
      ∗ Pipeline.ownSems0 (Ix := Unit) (Name := ℕ) (U := Pipeline.UD sig nD τ) (Lvl := ℕ) (Val := Elt F) (τ := τ) osem0 c
      ∗ (mQ.view.loc (c : Thread nD τ) ↦{fullShare} fq))
    ⊢ iprop(idle c fq ∗ spare c fq) := by
  rw [idle_eq]
  unfold Pipeline.ownSems0
  iintro ⟨⟨%f, Hd⟩, Hv, Hq⟩
  ihave Hq := (Transfers.pointsTo_toks_split fullShare 96) $$ Hq
  icases Hq with ⟨Hs, Hq⟩
  isplitr [Hs]
  · have e : iprop((mV.view.loc (c : Thread nD τ) ↦{fullShare} f)
        ∗ (bigSep Finset.univ fun j : Fin 96 => semVal ((c : Thread nD τ), osem0 j) 0)
        ∗ (bigSep Finset.univ fun j : Fin 96 => (mQ.view.loc (c : Thread nD τ) ↦{Transfers.shareTok fullShare 96 j} fq)))
        ⊢ (bigSep Finset.univ (fun j : Fin 96 =>
            free c fq (rowOf j).1 (rowOf j).2) : sProp 𝕄) := by
      rw [vin_eq, ← bigSep_sep', ← bigSep_sep']
      exact bigSep_mono fun j _ => idle_in c fq j f
    iapply e
    isplitl [Hd]; · iexact Hd
    isplitl [Hv]; · iexact Hv
    iexact Hq
  · iexact Hs

/-- And an idle ring gives them back. -/
theorem idle_back : iprop(idle c fq ∗ spare c fq)
    ⊢ iprop((∃ f : VBuf (F := F) c, mV.view.loc (c : Thread nD τ) ↦{fullShare} f)
      ∗ Pipeline.ownSems0 (Ix := Unit) (Name := ℕ) (U := Pipeline.UD sig nD τ) (Lvl := ℕ) (Val := Elt F) (τ := τ) osem0 c
      ∗ (mQ.view.loc (c : Thread nD τ) ↦{fullShare} fq)) := by
  rw [idle_eq]
  unfold Pipeline.ownSems0
  have e : (bigSep Finset.univ (fun j : Fin 96 =>
            free c fq (rowOf j).1 (rowOf j).2) : sProp 𝕄)
      ⊢ iprop((bigSep Finset.univ fun j : Fin 96 => iprop(∃ f : VBuf (F := F) c, mV.view.loc (c : Thread nD τ)
            ↦[chanIn c (rowOf j)]{fullShare} f))
        ∗ (bigSep Finset.univ fun j : Fin 96 => semVal ((c : Thread nD τ), osem0 j) 0)
        ∗ (bigSep Finset.univ fun j : Fin 96 => (mQ.view.loc (c : Thread nD τ) ↦{Transfers.shareTok fullShare 96 j} fq))) := by
    rw [← bigSep_sep', ← bigSep_sep']
    exact bigSep_mono fun j _ => idle_out c fq j
  have hne : Nonempty (VBuf (F := F) c) := ⟨fun _ => Classical.arbitrary _⟩
  iintro ⟨H, Hs⟩
  ihave H := e $$ H
  icases H with ⟨Hd, Hv, Hq⟩
  isplitl [Hd]
  · have d : (bigSep Finset.univ fun j : Fin 96 => iprop(∃ f : VBuf (F := F) c, mV.view.loc (c : Thread nD τ)
            ↦[chanIn c (rowOf j)]{fullShare} f))
        ⊢ (iprop(∃ f : VBuf (F := F) c, mV.view.loc (c : Thread nD τ) ↦{fullShare} f) : sProp 𝕄) := by
      rw [bigSep_univ_equiv (finProdFinEquiv (m := 3) (n := 32))]
      simp only [Equiv.symm_apply_apply]
      exact Ring.pointsTo_blocks_join_exists (chanIn c) (chanIn_disjoint c) (chanIn_cover c) (Classical.choice hne)
    iapply d
    iexact Hd
  isplitl [Hv]; · iexact Hv
  iapply (Transfers.pointsTo_toks_join fullShare 96)
  isplitl [Hs]; · iexact Hs
  iexact Hq

/-- Before the first step the ring is idle; -/
theorem ring_start : idle c fq ⊢ ringAt c fq 0 := by
  unfold ringAt
  rw [pending_zero, pending_zero]
  exact .rfl

/-- and after the last. -/
theorem ring_end : ringAt c fq 24 ⊢ idle c fq := by
  unfold ringAt
  rw [pending_pos c fq _ _ (by decide), pending_pos c fq _ _ (by decide), fetching_ge c fq _ (by decide),
    fetching_ge c fq _ (by decide)]
  exact .rfl

end Cert.KernelIdeal.Hand

end
-- ==== Proof.Tail.lean ====
/-
The computation of a step: what the body does once its block of the queue has arrived. The printed program reads the
row of the dilated tap through a chain of seven cases; at every step it is one load of one row.
-/
module

public import proofs.«01_k».proof.Proof.Steps

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The grid point of a step. -/
def pt (k : Fin 24) : grid0.Coords := fun | ⟨0, _⟩ => k

/-- The row of the new queue that the step's dilated tap reads: the dilations repeat 1, 2, 4, …, 128. -/
def tapRow (i : grid0.Coords) : ℕ := 256 - 2 ^ ((i 0).val % 8)

theorem tapRow_lt (i : grid0.Coords) : tapRow i < 256 := by
  have : 0 < 2 ^ ((i 0).val % 8) := Nat.pow_pos (by decide)
  unfold tapRow; omega

theorem tapRow_inb (i : grid0.Coords) : ∀ a, (![0, tapRow i, 0, 0] : Fin 4 → ℕ) a + S1x1x32x256.size a ≤ S1x257x32x256.size a := by
  intro a
  have := tapRow_lt i
  fin_cases a
  · exact le_refl _
  · show tapRow i + 1 ≤ 257; omega
  · exact le_refl _
  · exact le_refl _

/-- The first step's start: the current vector from the inputs, and an accumulator of zeros. -/
def initP (arg1 : Memref sig .tc .vmem S1x1x256 .f32) (arg2 : Memref sig .tc .vmem S1x8x256 .f32) (arg3 : Memref sig .tc .vmem S1x1x256 .i32) (arg4 : Memref sig .tc .vmem S16x1000 .f32) (arg5 : Memref sig .tc .vmem S32x25 .f32) (arg6 : Memref sig .tc .vmem S32x1 .f32) (arg22 : Memref sig .tc .vmem S32x256 .f32) (arg23 : Memref sig .tc .vmem S128x256 .f32) : Prog (TpuEff nD τ sig (Elt F) Λ₀ .tc) PUnit := do
  let v1 : Vec F S1x1x256 .f32 ← Prog.lift (.load arg1 (Rect.unit (s := S1x1x256) ![0, 0, 0] S1x1x256.size inb_S1x1x256_S1x1x256_0_0_0).toLoadRect (View.loadsAt_vmem h_S1x1x256))
  let v2 : Vec F S1x8x256 .f32 ← Prog.lift (.load arg2 (Rect.unit (s := S1x8x256) ![0, 0, 0] S1x8x256.size inb_S1x8x256_S1x8x256_0_0_0).toLoadRect (View.loadsAt_vmem h_S1x8x256))
  let v3 : Vec F S1x1x256 .i32 ← Prog.lift (.load arg3 (Rect.unit (s := S1x1x256) ![0, 0, 0] S1x1x256.size inb_S1x1x256_S1x1x256_0_0_0).toLoadRect (View.loadsAt_vmem h_S1x1x256))
  let v4 : Vec F S16x1000 .f32 ← Prog.lift (.load arg4 (Rect.unit (s := S16x1000) ![0, 0] S16x1000.size inb_S16x1000_S16x1000_0_0).toLoadRect (View.loadsAt_vmem h_S16x1000))
  let v5 : Vec F S32x25 .f32 ← Prog.lift (.load arg5 (Rect.unit (s := S32x25) ![0, 0] S32x25.size inb_S32x25_S32x25_0_0).toLoadRect (View.loadsAt_vmem h_S32x25))
  let v6 : Vec F S32x1 .f32 ← Prog.lift (.load arg6 (Rect.unit (s := S32x1) ![0, 0] S32x1.size inb_S32x1_S32x1_0_0).toLoadRect (View.loadsAt_vmem h_S32x1))
  let _d1 : Vec F S32x256 .f32 ← Prog.lift (.load arg22 (Rect.unit (s := S32x256) ![0, 0] S32x256.size inb_S32x256_S32x256_0_0).toLoadRect (View.loadsAt_vmem h_S32x256))
  Prog.lift (.store arg22 (Rect.unit (s := S32x256) ![0, 0] S32x256.size inb_S32x256_S32x256_0_0) (k0_pay3 v1 v2 v3 v4 v5 v6) Finset.univ (View.stores_vmem_bits_univ h_S32x256 rfl) (.inl rfl))
  let _d2 : Vec F S128x256 .f32 ← Prog.lift (.load arg23 (Rect.unit (s := S128x256) ![0, 0] S128x256.size inb_S128x256_S128x256_0_0).toLoadRect (View.loadsAt_vmem h_S128x256))
  Prog.lift (.store arg23 (Rect.unit (s := S128x256) ![0, 0] S128x256.size inb_S128x256_S128x256_0_0) (k0_pay5 (k0_pay4 (F := F))) Finset.univ (View.stores_vmem_bits_univ h_S128x256 rfl) (.inl rfl))

/-- The last step's end: the output from the accumulator. -/
def finishP (arg16 : Memref sig .tc .vmem S128x1 .f32) (arg17 : Memref sig .tc .vmem S1x128 .f32) (arg18 : Memref sig .tc .vmem S1x1 .f32) (arg19 : Memref sig .tc .vmem S1x1x256 .f32) (arg23 : Memref sig .tc .vmem S128x256 .f32) : Prog (TpuEff nD τ sig (Elt F) Λ₀ .tc) PUnit := do
  let acc : Vec F S128x256 .f32 ← Prog.lift (.load arg23 (Rect.unit (s := S128x256) ![0, 0] S128x256.size inb_S128x256_S128x256_0_0).toLoadRect (View.loadsAt_vmem h_S128x256))
  let b1 : Vec F S128x1 .f32 ← Prog.lift (.load arg16 (Rect.unit (s := S128x1) ![0, 0] S128x1.size inb_S128x1_S128x1_0_0).toLoadRect (View.loadsAt_vmem h_S128x1))
  let w2 : Vec F S1x128 .f32 ← Prog.lift (.load arg17 (Rect.unit (s := S1x128) ![0, 0] S1x128.size inb_S1x128_S1x128_0_0).toLoadRect (View.loadsAt_vmem h_S1x128))
  let b2 : Vec F S1x1 .f32 ← Prog.lift (.load arg18 (Rect.unit (s := S1x1) ![0, 0] S1x1.size inb_S1x1_S1x1_0_0).toLoadRect (View.loadsAt_vmem h_S1x1))
  let _d5 : Vec F S1x1x256 .f32 ← Prog.lift (.load arg19 (Rect.unit (s := S1x1x256) ![0, 0, 0] S1x1x256.size inb_S1x1x256_S1x1x256_0_0_0).toLoadRect (View.loadsAt_vmem h_S1x1x256))
  Prog.lift (.store arg19 (Rect.unit (s := S1x1x256) ![0, 0, 0] S1x1x256.size inb_S1x1x256_S1x1x256_0_0_0) (k0_pay2 acc b1 w2 b2) Finset.univ (View.stores_vmem_bits_univ h_S1x1x256 rfl) (.inl rfl))

/-- One step's computation. -/
def computeP (i : grid0.Coords) (arg8 : Memref sig .tc .vmem S1x64x32 .f32) (arg9 : Memref sig .tc .vmem S1x64x32 .f32) (arg10 : Memref sig .tc .vmem S1x64x1 .f32) (arg11 : Memref sig .tc .vmem S1x32x32 .f32) (arg12 : Memref sig .tc .vmem S1x32x1 .f32) (arg13 : Memref sig .tc .vmem S1x32x32 .f32) (arg14 : Memref sig .tc .vmem S1x32x1 .f32) (arg15 : Memref sig .tc .vmem S1x128x32 .f32) (arg20 : Memref sig .tc .vmem S1x257x32x256 .f32) (arg21 : Memref sig .tc .vmem S3x32x256x256 .f32) (arg22 : Memref sig .tc .vmem S32x256 .f32) (arg23 : Memref sig .tc .vmem S128x256 .f32) : Prog (TpuEff nD τ sig (Elt F) Λ₀ .tc) PUnit := do
  let vq : Vec F S1x32x256x256 .f32 ← Prog.lift (.load arg21 (Rect.unit (s := S3x32x256x256) (k0_off193 i) S1x32x256x256.size (k0_off193_inb i)).toLoadRect (View.loadsAt_vmem h_S1x32x256x256))
  let _d1 : Vec F S1x256x32x256 .f32 ← Prog.lift (.load arg20 (Rect.unit (s := S1x257x32x256) ![0, 0, 0, 0] S1x256x32x256.size inb_S1x257x32x256_S1x256x32x256_0_0_0_0).toLoadRect (View.loadsAt_vmem h_S1x256x32x256))
  Prog.lift (.store arg20 (Rect.unit (s := S1x257x32x256) ![0, 0, 0, 0] S1x256x32x256.size inb_S1x257x32x256_S1x256x32x256_0_0_0_0) (k0_pay6 vq) Finset.univ (View.stores_vmem_bits_univ h_S1x256x32x256 rfl) (.inl rfl))
  let cur : Vec F S32x256 .f32 ← Prog.lift (.load arg22 (Rect.unit (s := S32x256) ![0, 0] S32x256.size inb_S32x256_S32x256_0_0).toLoadRect (View.loadsAt_vmem h_S32x256))
  let _d2 : Vec F S1x1x32x256 .f32 ← Prog.lift (.load arg20 (Rect.unit (s := S1x257x32x256) ![0, 256, 0, 0] S1x1x32x256.size inb_S1x257x32x256_S1x1x32x256_0_256_0_0).toLoadRect (View.loadsAt_vmem h_S1x1x32x256))
  Prog.lift (.store arg20 (Rect.unit (s := S1x257x32x256) ![0, 256, 0, 0] S1x1x32x256.size inb_S1x257x32x256_S1x1x32x256_0_256_0_0) (k0_pay7 cur) Finset.univ (View.stores_vmem_bits_univ h_S1x1x32x256 rfl) (.inl rfl))
  let tap : Vec F S1x1x32x256 .f32 ← Prog.lift (.load arg20 (Rect.unit (s := S1x257x32x256) ![0, tapRow i, 0, 0] S1x1x32x256.size (tapRow_inb i)).toLoadRect (View.loadsAt_vmem h_S1x1x32x256))
  let w0 : Vec F S1x64x32 .f32 ← Prog.lift (.load arg8 (Rect.unit (s := S1x64x32) ![0, 0, 0] S1x64x32.size inb_S1x64x32_S1x64x32_0_0_0).toLoadRect (View.loadsAt_vmem h_S1x64x32))
  let w1 : Vec F S1x64x32 .f32 ← Prog.lift (.load arg9 (Rect.unit (s := S1x64x32) ![0, 0, 0] S1x64x32.size inb_S1x64x32_S1x64x32_0_0_0).toLoadRect (View.loadsAt_vmem h_S1x64x32))
  let bc : Vec F S1x64x1 .f32 ← Prog.lift (.load arg10 (Rect.unit (s := S1x64x1) ![0, 0, 0] S1x64x1.size inb_S1x64x1_S1x64x1_0_0_0).toLoadRect (View.loadsAt_vmem h_S1x64x1))
  let ws : Vec F S1x32x32 .f32 ← Prog.lift (.load arg13 (Rect.unit (s := S1x32x32) ![0, 0, 0] S1x32x32.size inb_S1x32x32_S1x32x32_0_0_0).toLoadRect (View.loadsAt_vmem h_S1x32x32))
  let bs : Vec F S1x32x1 .f32 ← Prog.lift (.load arg14 (Rect.unit (s := S1x32x1) ![0, 0, 0] S1x32x1.size inb_S1x32x1_S1x32x1_0_0_0).toLoadRect (View.loadsAt_vmem h_S1x32x1))
  let acc : Vec F S128x256 .f32 ← Prog.lift (.load arg23 (Rect.unit (s := S128x256) ![0, 0] S128x256.size inb_S128x256_S128x256_0_0).toLoadRect (View.loadsAt_vmem h_S128x256))
  let wo : Vec F S1x128x32 .f32 ← Prog.lift (.load arg15 (Rect.unit (s := S1x128x32) ![0, 0, 0] S1x128x32.size inb_S1x128x32_S1x128x32_0_0_0).toLoadRect (View.loadsAt_vmem h_S1x128x32))
  let _d3 : Vec F S128x256 .f32 ← Prog.lift (.load arg23 (Rect.unit (s := S128x256) ![0, 0] S128x256.size inb_S128x256_S128x256_0_0).toLoadRect (View.loadsAt_vmem h_S128x256))
  Prog.lift (.store arg23 (Rect.unit (s := S128x256) ![0, 0] S128x256.size inb_S128x256_S128x256_0_0) (k0_pay18 (k0_pay16 cur (k0_pay8 tap) w0 w1) bc ws bs acc wo) Finset.univ (View.stores_vmem_bits_univ h_S128x256 rfl) (.inl rfl))
  let wr : Vec F S1x32x32 .f32 ← Prog.lift (.load arg11 (Rect.unit (s := S1x32x32) ![0, 0, 0] S1x32x32.size inb_S1x32x32_S1x32x32_0_0_0).toLoadRect (View.loadsAt_vmem h_S1x32x32))
  let br : Vec F S1x32x1 .f32 ← Prog.lift (.load arg12 (Rect.unit (s := S1x32x1) ![0, 0, 0] S1x32x1.size inb_S1x32x1_S1x32x1_0_0_0).toLoadRect (View.loadsAt_vmem h_S1x32x1))
  let _d4 : Vec F S32x256 .f32 ← Prog.lift (.load arg22 (Rect.unit (s := S32x256) ![0, 0] S32x256.size inb_S32x256_S32x256_0_0).toLoadRect (View.loadsAt_vmem h_S32x256))
  Prog.lift (.store arg22 (Rect.unit (s := S32x256) ![0, 0] S32x256.size inb_S32x256_S32x256_0_0) (k0_pay1 cur (k0_pay19 (k0_pay16 cur (k0_pay8 tap) w0 w1) bc wr) (k0_pay20 br)) Finset.univ (View.stores_vmem_bits_univ h_S32x256 rfl) (.inl rfl))

section Program

variable (i : grid0.Coords) (arg1 : Memref sig .tc .vmem S1x1x256 .f32) (harg1 : arg1.IsWhole) (arg2 : Memref sig .tc .vmem S1x8x256 .f32) (harg2 : arg2.IsWhole) (arg3 : Memref sig .tc .vmem S1x1x256 .i32) (harg3 : arg3.IsWhole) (arg4 : Memref sig .tc .vmem S16x1000 .f32) (harg4 : arg4.IsWhole) (arg5 : Memref sig .tc .vmem S32x25 .f32) (harg5 : arg5.IsWhole) (arg6 : Memref sig .tc .vmem S32x1 .f32) (harg6 : arg6.IsWhole) (arg7 : Memref sig .tc .hbm S24x256x32x256 .f32) (harg7 : arg7.IsWhole) (arg8 : Memref sig .tc .vmem S1x64x32 .f32) (harg8 : arg8.IsWhole) (arg9 : Memref sig .tc .vmem S1x64x32 .f32) (harg9 : arg9.IsWhole) (arg10 : Memref sig .tc .vmem S1x64x1 .f32) (harg10 : arg10.IsWhole) (arg11 : Memref sig .tc .vmem S1x32x32 .f32) (harg11 : arg11.IsWhole) (arg12 : Memref sig .tc .vmem S1x32x1 .f32) (harg12 : arg12.IsWhole) (arg13 : Memref sig .tc .vmem S1x32x32 .f32) (harg13 : arg13.IsWhole) (arg14 : Memref sig .tc .vmem S1x32x1 .f32) (harg14 : arg14.IsWhole) (arg15 : Memref sig .tc .vmem S1x128x32 .f32) (harg15 : arg15.IsWhole) (arg16 : Memref sig .tc .vmem S128x1 .f32) (harg16 : arg16.IsWhole) (arg17 : Memref sig .tc .vmem S1x128 .f32) (harg17 : arg17.IsWhole) (arg18 : Memref sig .tc .vmem S1x1 .f32) (harg18 : arg18.IsWhole) (arg19 : Memref sig .tc .vmem S1x1x256 .f32) (harg19 : arg19.IsWhole) (arg20 : Memref sig .tc .vmem S1x257x32x256 .f32) (harg20 : arg20.IsWhole) (arg21 : Memref sig .tc .vmem S3x32x256x256 .f32) (harg21 : arg21.IsWhole) (arg22 : Memref sig .tc .vmem S32x256 .f32) (harg22 : arg22.IsWhole) (arg23 : Memref sig .tc .vmem S128x256 .f32) (harg23 : arg23.IsWhole) (arg24 : DmaSems sig S3x32)

/-- The body from the end of its waits on. -/
def tailP (arg0 v9 : BitVec 32) : Prog (TpuEff nD τ sig (Elt F) Λ₀ .tc) PUnit := do
  let ⟨v220, v235, v236⟩ : Σ' (v220 : Vec F S32x256 .f32) (v235 : FVec F S64x256 .f32), Vec F S1x64x1 .f32 ← k0_part46 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 arg0 v9 0#32
  let ⟨v268, v270⟩ : Σ' (v268 : FVec F S32x256 .f32), FVec F S32x1 .f32 ← k0_part47 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 v235 v236
  let v274 : Vec F S32x256 .f32 ← Prog.lift (.load arg22 (Rect.unit (s := S32x256) ![0, 0] S32x256.size inb_S32x256_S32x256_0_0).toLoadRect (View.loadsAt_vmem h_S32x256))
  Prog.lift (.store arg22 (Rect.unit (s := S32x256) ![0, 0] S32x256.size inb_S32x256_S32x256_0_0) (k0_pay1 v220 v268 v270) Finset.univ (View.stores_vmem_bits_univ h_S32x256 rfl) (.inl rfl))
  if k0_h11 : k0_cond11 i = 1#1 then do
    let v280 : Vec F S128x256 .f32 ← Prog.lift (.load arg23 (Rect.unit (s := S128x256) ![0, 0] S128x256.size inb_S128x256_S128x256_0_0).toLoadRect (View.loadsAt_vmem h_S128x256))
    let v281 : Vec F S128x1 .f32 ← Prog.lift (.load arg16 (Rect.unit (s := S128x1) ![0, 0] S128x1.size inb_S128x1_S128x1_0_0).toLoadRect (View.loadsAt_vmem h_S128x1))
    let v287 : Vec F S1x128 .f32 ← Prog.lift (.load arg17 (Rect.unit (s := S1x128) ![0, 0] S1x128.size inb_S1x128_S1x128_0_0).toLoadRect (View.loadsAt_vmem h_S1x128))
    let v289 : Vec F S1x1 .f32 ← Prog.lift (.load arg18 (Rect.unit (s := S1x1) ![0, 0] S1x1.size inb_S1x1_S1x1_0_0).toLoadRect (View.loadsAt_vmem h_S1x1))
    let v294 : Vec F S1x1x256 .f32 ← Prog.lift (.load arg19 (Rect.unit (s := S1x1x256) ![0, 0, 0] S1x1x256.size inb_S1x1x256_S1x1x256_0_0_0).toLoadRect (View.loadsAt_vmem h_S1x1x256))
    Prog.lift (.store arg19 (Rect.unit (s := S1x1x256) ![0, 0, 0] S1x1x256.size inb_S1x1x256_S1x1x256_0_0_0) (k0_pay2 v280 v281 v287 v289) Finset.univ (View.stores_vmem_bits_univ h_S1x1x256 rfl) (.inl rfl))
    pure ⟨⟩
  else do
    pure ⟨⟩
  pure ⟨⟩

set_option maxRecDepth 65536 in
set_option maxHeartbeats 4000000 in
/-- The body: its first part, the other thirty waits, and its tail. -/
theorem body_eq : cc0_wave_decoder_step (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24
    = k0_part38 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 >>= fun x => each (await arg7 arg21 arg24) ((waited i).drop 2) (tailP i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 x.1 x.2) := by
  rfl

set_option maxRecDepth 65536 in
set_option maxHeartbeats 16000000 in
/-- The tail at a grid point: the start where it is the first step, the computation, the end where it is the last. -/
theorem tail_eq (v9 : BitVec 32) : tailP (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 (BitVec.ofNat 32 (i 0).val) v9
    = (if isFirst (BitVec.ofNat 32 (i 0).val) = 1#1 then initP arg1 arg2 arg3 arg4 arg5 arg6 arg22 arg23 >>= fun _ => (computeP i arg8 arg9 arg10 arg11 arg12 arg13 arg14 arg15 arg20 arg21 arg22 arg23 >>= fun _ => if k0_cond11 i = 1#1 then finishP arg16 arg17 arg18 arg19 arg23 else pure ⟨⟩)
       else (computeP i arg8 arg9 arg10 arg11 arg12 arg13 arg14 arg15 arg20 arg21 arg22 arg23 >>= fun _ => if k0_cond11 i = 1#1 then finishP arg16 arg17 arg18 arg19 arg23 else pure ⟨⟩)) := by
  obtain ⟨k, rfl⟩ : ∃ k : Fin 24, i = pt k := ⟨i 0, funext fun a => by fin_cases a; rfl⟩
  fin_cases k <;> rfl

end Program

end Cert.KernelIdeal.Hand

end
-- ==== Proof.Compute.lean ====
/-
The computation of one step: what its loads read, what its stores leave. The three parts of the tail of the body are
run here, each over the buffers it touches, and their results are named as values.
-/
module

public import proofs.«01_k».proof.Proof.RingEnds
public import proofs.«01_k».proof.Proof.Tail

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ### Loads and stores of an owned buffer -/

section Access

variable (c : Dev nD) {s : Shape} {e : EltTy} {α : Type} (a : Memref sig .tc .vmem s e)

/-- A load of a window of an owned buffer. -/
theorem wp_window (X : s.Idx → Elt F e) (off size : Fin s.rank → ℕ) (inb : ∀ a, off a + size a ≤ s.size a)
    (hl : a.view.LoadsAt (Rect.unit off size inb).toLoadRect)
    (k : ((Rect.unit off size inb).shape.Idx → Elt F e) → Prog (TpuEff nD τ sig (Elt F) Λ₀ .tc) α) (Q : α → sProp 𝕄) :
    iprop(owns (c : Thread nD τ) a fullShare X
        ∗ (owns (c : Thread nD τ) a fullShare X -∗ wpB c (k (VecWindow.window X off size inb)) Q))
      ⊢ wpB c (Prog.lift (.load a (Rect.unit off size inb).toLoadRect hl) >>= k) Q := by
  unfold owns
  iintro ⟨⟨%f, %hf, H⟩, Hk⟩
  iapply (wp_load Variants.none (c : Thread nD τ) none Set.univ (m := a) (r := (Rect.unit off size inb).toLoadRect) (hl := hl)
    (S := a.view.set) (q := fullShare) (f := f) (View.setOn_subset_set _ _)) $$ H
  iintro H
  rw [View.readAt_unit a.view f inb rfl inb, hf]
  iapply Hk
  iexists f
  isplitr; · ipureintro; exact hf
  iexact H

/-- A load of an owned buffer whole. -/
theorem wp_whole (X : s.Idx → Elt F e) (off : Fin s.rank → ℕ) (inb : ∀ a, off a + s.size a ≤ s.size a)
    (hl : a.view.LoadsAt (Rect.unit off s.size inb).toLoadRect)
    (k : (s.Idx → Elt F e) → Prog (TpuEff nD τ sig (Elt F) Λ₀ .tc) α) (Q : α → sProp 𝕄) :
    iprop(owns (c : Thread nD τ) a fullShare X ∗ (owns (c : Thread nD τ) a fullShare X -∗ wpB c (k X) Q))
      ⊢ wpB c (Prog.lift (.load a (Rect.unit off s.size inb).toLoadRect hl) >>= k) Q := by
  have h := wp_window c a X off s.size inb hl k Q
  have w : VecWindow.window X off s.size inb = X := funext fun y => congrArg X (Rect.emb_unit_full inb y)
  rw [w] at h
  exact h

/-- A store over a window of an owned buffer. -/
theorem wp_put (X : s.Idx → Elt F e) (off size : Fin s.rank → ℕ) (inb : ∀ a, off a + size a ≤ s.size a)
    (w : (Rect.unit off size inb).shape.Idx → Elt F e)
    (hx : (a.access (Rect.unit off size inb)).Stores Finset.univ)
    (hm : (Finset.univ : Finset (Rect.unit off size inb).shape.Idx) = Finset.univ ∨ ∀ a, (Rect.unit off size inb).stride a = 1)
    (k : PUnit → Prog (TpuEff nD τ sig (Elt F) Λ₀ .tc) α) (Q : α → sProp 𝕄) :
    iprop(owns (c : Thread nD τ) a fullShare X
        ∗ (owns (c : Thread nD τ) a fullShare (VecWindow.put X off size w) -∗ wpB c (k ⟨⟩) Q))
      ⊢ wpB c (Prog.lift (.store a (Rect.unit off size inb) w Finset.univ hx hm) >>= k) Q := by
  unfold owns
  iintro ⟨⟨%f, %hf, H⟩, Hk⟩
  iapply (wp_store Variants.none (c : Thread nD τ) none Set.univ (m := a) (r := Rect.unit off size inb) (w := w)
    (Mk := Finset.univ) (hx := hx) (hm := hm) (S := a.view.set) (f := f) (View.set_slice_subset a.view _)) $$ H
  iintro H
  iapply Hk
  iexists ((a.access (Rect.unit off size inb)).write (Elt F) f w Finset.univ)
  isplitr
  · ipureintro
    have h := View.read_writes_cons_put a.view f inb w [] rfl
    rw [View.writes_nil, hf] at h
    exact h
  iexact H

/-- A store over an owned buffer whole. -/
theorem wp_set (X : s.Idx → Elt F e) (off : Fin s.rank → ℕ) (inb : ∀ a, off a + s.size a ≤ s.size a)
    (w : s.Idx → Elt F e)
    (hx : (a.access (Rect.unit off s.size inb)).Stores Finset.univ)
    (hm : (Finset.univ : Finset (Rect.unit off s.size inb).shape.Idx) = Finset.univ ∨ ∀ a, (Rect.unit off s.size inb).stride a = 1)
    (k : PUnit → Prog (TpuEff nD τ sig (Elt F) Λ₀ .tc) α) (Q : α → sProp 𝕄) :
    iprop(owns (c : Thread nD τ) a fullShare X ∗ (owns (c : Thread nD τ) a fullShare w -∗ wpB c (k ⟨⟩) Q))
      ⊢ wpB c (Prog.lift (.store a (Rect.unit off s.size inb) w Finset.univ hx hm) >>= k) Q := by
  have h := wp_put c a X off s.size inb w hx hm k Q
  have e : VecWindow.put X off s.size w = w := by
    have e1 := VecWindow.window_put_same X off s.size inb w
    exact (funext fun y => (congrArg (VecWindow.put X off s.size w) (Rect.emb_unit_full inb y)).symm).trans e1
  rw [e] at h
  exact h

end Access

/-! ### The values of one step -/

/-- The staged new queue block: the old block and the current vector behind it. -/
def newqV (b : Vec F S1x32x256x256 .f32) (cur : Vec F S32x256 .f32) : Vec F S1x257x32x256 .f32 := fun y =>
  if h : (y 1).val < 256 then k0_pay6 b (ix4 0 ⟨(y 1).val, h⟩ (y 2) (y 3)) else k0_pay7 cur (ix4 0 0 (y 2) (y 3))

/-- The two stores leave it whatever the buffer held. -/
theorem newq_eq (D : Vec F S1x257x32x256 .f32) (b : Vec F S1x32x256x256 .f32) (cur : Vec F S32x256 .f32) :
    VecWindow.put (VecWindow.put (s := S1x257x32x256) D ![0, 0, 0, 0] S1x256x32x256.size (k0_pay6 b)) ![0, 256, 0, 0]
      S1x1x32x256.size (k0_pay7 cur) = newqV b cur := by
  funext y
  have h0 : (y 0).val < 1 := (y 0).isLt
  have h1 : (y 1).val < 257 := (y 1).isLt
  have h2 : (y 2).val < 32 := (y 2).isLt
  have h3 : (y 3).val < 256 := (y 3).isLt
  unfold newqV VecWindow.put
  by_cases h : (y 1).val < 256
  · rw [dif_pos h, dif_neg (fun hc => by have := (hc 1).1; have e : (![0, 256, 0, 0] : Fin 4 → ℕ) 1 = 256 := rfl; omega),
      dif_pos (fun a => by
        fin_cases a
        · exact ⟨Nat.zero_le _, by show (y 0).val < 0 + 1; omega⟩
        · exact ⟨Nat.zero_le _, by show (y 1).val < 0 + 256; omega⟩
        · exact ⟨Nat.zero_le _, by show (y 2).val < 0 + 32; omega⟩
        · exact ⟨Nat.zero_le _, by show (y 3).val < 0 + 256; omega⟩)]
    refine congrArg (k0_pay6 b) (funext fun a => Fin.ext ?_)
    fin_cases a
    · show (y 0).val - 0 = 0; omega
    · rfl
    · rfl
    · rfl
  · rw [dif_neg h, dif_pos (fun a => by
        fin_cases a
        · exact ⟨Nat.zero_le _, by show (y 0).val < 0 + 1; omega⟩
        · exact ⟨by show 256 ≤ (y 1).val; omega, by show (y 1).val < 256 + 1; omega⟩
        · exact ⟨Nat.zero_le _, by show (y 2).val < 0 + 32; omega⟩
        · exact ⟨Nat.zero_le _, by show (y 3).val < 0 + 256; omega⟩)]
    refine congrArg (k0_pay7 cur) (funext fun a => Fin.ext ?_)
    fin_cases a
    · show (y 0).val - 0 = 0; omega
    · show (y 1).val - 256 = 0; omega
    · rfl
    · rfl

/-- The row of the staged block that the dilated tap reads. -/
def tapV (i : grid0.Coords) (b : Vec F S1x32x256x256 .f32) (cur : Vec F S32x256 .f32) : Vec F S1x1x32x256 .f32 :=
  VecWindow.window (s := S1x257x32x256) (newqV b cur) ![0, tapRow i, 0, 0] S1x1x32x256.size (tapRow_inb i)

/-- The convolution of the two taps. -/
def zV (i : grid0.Coords) (b : Vec F S1x32x256x256 .f32) (cur : Vec F S32x256 .f32) (w0 w1 : Vec F S1x64x32 .f32) : FVec F S64x256 .f32 :=
  k0_pay16 cur (k0_pay8 (tapV i b cur)) w0 w1

/-- The next current vector. -/
def curV (i : grid0.Coords) (b : Vec F S1x32x256x256 .f32) (cur : Vec F S32x256 .f32) (w0 w1 : Vec F S1x64x32 .f32)
    (bc : Vec F S1x64x1 .f32) (wr : Vec F S1x32x32 .f32) (br : Vec F S1x32x1 .f32) : Vec F S32x256 .f32 :=
  k0_pay1 cur (k0_pay19 (zV i b cur w0 w1) bc wr) (k0_pay20 br)

/-- The next accumulator. -/
def accV (i : grid0.Coords) (b : Vec F S1x32x256x256 .f32) (cur : Vec F S32x256 .f32) (acc : Vec F S128x256 .f32)
    (w0 w1 : Vec F S1x64x32 .f32) (bc : Vec F S1x64x1 .f32) (ws : Vec F S1x32x32 .f32) (bs : Vec F S1x32x1 .f32)
    (wo : Vec F S1x128x32 .f32) : Vec F S128x256 .f32 :=
  k0_pay18 (zV i b cur w0 w1) bc ws bs acc wo

/-! ### The three parts of the tail -/

section Parts

variable (c : Dev nD)

/-- The start: the current vector from the inputs, an accumulator of zeros. -/
theorem wp_init (arg1 : Memref sig .tc .vmem S1x1x256 .f32) (X1 : Vec F S1x1x256 .f32) (arg2 : Memref sig .tc .vmem S1x8x256 .f32) (X2 : Vec F S1x8x256 .f32) (arg3 : Memref sig .tc .vmem S1x1x256 .i32) (X3 : Vec F S1x1x256 .i32) (arg4 : Memref sig .tc .vmem S16x1000 .f32) (X4 : Vec F S16x1000 .f32) (arg5 : Memref sig .tc .vmem S32x25 .f32) (X5 : Vec F S32x25 .f32) (arg6 : Memref sig .tc .vmem S32x1 .f32) (X6 : Vec F S32x1 .f32) (arg22 : Memref sig .tc .vmem S32x256 .f32) (X22 : Vec F S32x256 .f32) (arg23 : Memref sig .tc .vmem S128x256 .f32) (X23 : Vec F S128x256 .f32) (Q : PUnit → sProp 𝕄) :
    iprop((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg22 fullShare X22 ∗ owns (c : Thread nD τ) arg23 fullShare X23)
        ∗ ((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg22 fullShare (k0_pay3 X1 X2 X3 X4 X5 X6) ∗ owns (c : Thread nD τ) arg23 fullShare (k0_pay5 (k0_pay4 (F := F)))) -∗ Q ⟨⟩))
      ⊢ wpB c (initP arg1 arg2 arg3 arg4 arg5 arg6 arg22 arg23) Q := by
  unfold initP
  iintro ⟨⟨H1, H2, H3, H4, H5, H6, H22, H23⟩, Hk⟩
  iapply (wp_whole c arg1)
  isplitl [H1]; · iexact H1
  iintro H1
  iapply (wp_whole c arg2)
  isplitl [H2]; · iexact H2
  iintro H2
  iapply (wp_whole c arg3)
  isplitl [H3]; · iexact H3
  iintro H3
  iapply (wp_whole c arg4)
  isplitl [H4]; · iexact H4
  iintro H4
  iapply (wp_whole c arg5)
  isplitl [H5]; · iexact H5
  iintro H5
  iapply (wp_whole c arg6)
  isplitl [H6]; · iexact H6
  iintro H6
  iapply (wp_whole c arg22)
  isplitl [H22]; · iexact H22
  iintro H22
  iapply (wp_set c arg22)
  isplitl [H22]; · iexact H22
  iintro H22
  iapply (wp_whole c arg23)
  isplitl [H23]; · iexact H23
  iintro H23
  iapply (wp_set c arg23)
  isplitl [H23]; · iexact H23
  iintro H23
  iapply (wp_done c)
  iapply Hk
  isplitl [H1]; · iexact H1
  isplitl [H2]; · iexact H2
  isplitl [H3]; · iexact H3
  isplitl [H4]; · iexact H4
  isplitl [H5]; · iexact H5
  isplitl [H6]; · iexact H6
  isplitl [H22]; · iexact H22
  iexact H23

/-- The end: the output from the accumulator. -/
theorem wp_finish (arg16 : Memref sig .tc .vmem S128x1 .f32) (X16 : Vec F S128x1 .f32) (arg17 : Memref sig .tc .vmem S1x128 .f32) (X17 : Vec F S1x128 .f32) (arg18 : Memref sig .tc .vmem S1x1 .f32) (X18 : Vec F S1x1 .f32) (arg19 : Memref sig .tc .vmem S1x1x256 .f32) (X19 : Vec F S1x1x256 .f32) (arg23 : Memref sig .tc .vmem S128x256 .f32) (X23 : Vec F S128x256 .f32) (Q : PUnit → sProp 𝕄) :
    iprop((owns (c : Thread nD τ) arg16 fullShare X16 ∗ owns (c : Thread nD τ) arg17 fullShare X17 ∗ owns (c : Thread nD τ) arg18 fullShare X18 ∗ owns (c : Thread nD τ) arg19 fullShare X19 ∗ owns (c : Thread nD τ) arg23 fullShare X23)
        ∗ ((owns (c : Thread nD τ) arg16 fullShare X16 ∗ owns (c : Thread nD τ) arg17 fullShare X17 ∗ owns (c : Thread nD τ) arg18 fullShare X18 ∗ owns (c : Thread nD τ) arg19 fullShare (k0_pay2 X23 X16 X17 X18) ∗ owns (c : Thread nD τ) arg23 fullShare X23) -∗ Q ⟨⟩))
      ⊢ wpB c (finishP arg16 arg17 arg18 arg19 arg23) Q := by
  unfold finishP
  iintro ⟨⟨H16, H17, H18, H19, H23⟩, Hk⟩
  iapply (wp_whole c arg23)
  isplitl [H23]; · iexact H23
  iintro H23
  iapply (wp_whole c arg16)
  isplitl [H16]; · iexact H16
  iintro H16
  iapply (wp_whole c arg17)
  isplitl [H17]; · iexact H17
  iintro H17
  iapply (wp_whole c arg18)
  isplitl [H18]; · iexact H18
  iintro H18
  iapply (wp_whole c arg19)
  isplitl [H19]; · iexact H19
  iintro H19
  iapply (wp_set c arg19)
  isplitl [H19]; · iexact H19
  iintro H19
  iapply (wp_done c)
  iapply Hk
  isplitl [H16]; · iexact H16
  isplitl [H17]; · iexact H17
  isplitl [H18]; · iexact H18
  isplitl [H19]; · iexact H19
  iexact H23

/-- The load of the slot. -/
theorem wp_slot {α : Type} (i : grid0.Coords) (b : Vec F S1x32x256x256 .f32) (g : VBuf (F := F) c)
    (hg : mV.view.readAt (Elt F) (slotRect (slotOf (step i).val)).toLoadRect g = b)
    (hl : mV.view.LoadsAt (Rect.unit (s := S3x32x256x256) (k0_off193 i) S1x32x256x256.size (k0_off193_inb i)).toLoadRect)
    (k : Vec F S1x32x256x256 .f32 → Prog (TpuEff nD τ sig (Elt F) Λ₀ .tc) α) (Q : α → sProp 𝕄) :
    iprop((mV.view.loc (c : Thread nD τ) ↦[slotIn c (slotOf (step i).val)]{fullShare} g)
        ∗ ((mV.view.loc (c : Thread nD τ) ↦[slotIn c (slotOf (step i).val)]{fullShare} g) -∗ wpB c (k b) Q))
      ⊢ wpB c (Prog.lift (.load mV (Rect.unit (s := S3x32x256x256) (k0_off193 i) S1x32x256x256.size (k0_off193_inb i)).toLoadRect hl) >>= k) Q := by
  have hs : ∀ (off : Fin 4 → ℕ) (inb : ∀ a, off a + S1x32x256x256.size a ≤ S3x32x256x256.size a)
      (e : off = ![(slotOf (step i).val).val, 0, 0, 0]),
      (mV.access (Rect.unit (s := S3x32x256x256) off S1x32x256x256.size inb)).set ⊆ slotSet (slotOf (step i).val)
      ∧ mV.view.readAt (Elt F) (Rect.unit (s := S3x32x256x256) off S1x32x256x256.size inb).toLoadRect g = b := by
    intro off inb e
    subst e
    exact ⟨slot_load_subset _, hg⟩
  obtain ⟨h1, h2⟩ := hs _ (k0_off193_inb i) (slot_off i)
  iintro ⟨H, Hk⟩
  iapply (wp_load_rect Variants.none (c : Thread nD τ) none Set.univ (m := mV) (hl := hl)
    (S := slotIn c (slotOf (step i).val)) (q := fullShare) (f := g) h1) $$ H
  iintro H
  have h3 : (mV.access (Rect.unit (s := S3x32x256x256) (k0_off193 i) S1x32x256x256.size (k0_off193_inb i))).read (Elt F) g = b := h2
  rw [h3]
  iapply Hk
  iexact H

/-- The computation: the staged new queue block, the accumulator, the current vector. -/
theorem wp_compute (i : grid0.Coords) (b : Vec F S1x32x256x256 .f32) (g : VBuf (F := F) c)
    (hg : mV.view.readAt (Elt F) (slotRect (slotOf (step i).val)).toLoadRect g = b) (arg8 : Memref sig .tc .vmem S1x64x32 .f32) (X8 : Vec F S1x64x32 .f32) (arg9 : Memref sig .tc .vmem S1x64x32 .f32) (X9 : Vec F S1x64x32 .f32) (arg10 : Memref sig .tc .vmem S1x64x1 .f32) (X10 : Vec F S1x64x1 .f32) (arg11 : Memref sig .tc .vmem S1x32x32 .f32) (X11 : Vec F S1x32x32 .f32) (arg12 : Memref sig .tc .vmem S1x32x1 .f32) (X12 : Vec F S1x32x1 .f32) (arg13 : Memref sig .tc .vmem S1x32x32 .f32) (X13 : Vec F S1x32x32 .f32) (arg14 : Memref sig .tc .vmem S1x32x1 .f32) (X14 : Vec F S1x32x1 .f32) (arg15 : Memref sig .tc .vmem S1x128x32 .f32) (X15 : Vec F S1x128x32 .f32) (arg20 : Memref sig .tc .vmem S1x257x32x256 .f32) (X20 : Vec F S1x257x32x256 .f32) (arg22 : Memref sig .tc .vmem S32x256 .f32) (X22 : Vec F S32x256 .f32) (arg23 : Memref sig .tc .vmem S128x256 .f32) (X23 : Vec F S128x256 .f32) (Q : PUnit → sProp 𝕄) :
    iprop((owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg20 fullShare X20 ∗ owns (c : Thread nD τ) arg22 fullShare X22 ∗ owns (c : Thread nD τ) arg23 fullShare X23 ∗ (mV.view.loc (c : Thread nD τ) ↦[slotIn c (slotOf (step i).val)]{fullShare} g))
        ∗ ((owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg20 fullShare (newqV b X22) ∗ owns (c : Thread nD τ) arg22 fullShare (curV i b X22 X8 X9 X10 X11 X12) ∗ owns (c : Thread nD τ) arg23 fullShare (accV i b X22 X23 X8 X9 X10 X13 X14 X15) ∗ (mV.view.loc (c : Thread nD τ) ↦[slotIn c (slotOf (step i).val)]{fullShare} g)) -∗ Q ⟨⟩))
      ⊢ wpB c (computeP i arg8 arg9 arg10 arg11 arg12 arg13 arg14 arg15 arg20 mV arg22 arg23) Q := by
  unfold computeP
  iintro ⟨⟨H8, H9, H10, H11, H12, H13, H14, H15, H20, H22, H23, Hv⟩, Hk⟩
  iapply (wp_slot c i b g hg)
  isplitl [Hv]; · iexact Hv
  iintro Hv
  iapply (wp_window c arg20)
  isplitl [H20]; · iexact H20
  iintro H20
  iapply (wp_put c arg20)
  isplitl [H20]; · iexact H20
  iintro H20
  iapply (wp_whole c arg22)
  isplitl [H22]; · iexact H22
  iintro H22
  iapply (wp_window c arg20)
  isplitl [H20]; · iexact H20
  iintro H20
  iapply (wp_put c arg20)
  isplitl [H20]; · iexact H20
  iintro H20
  rw [newq_eq]
  iapply (wp_window c arg20)
  isplitl [H20]; · iexact H20
  iintro H20
  iapply (wp_whole c arg8)
  isplitl [H8]; · iexact H8
  iintro H8
  iapply (wp_whole c arg9)
  isplitl [H9]; · iexact H9
  iintro H9
  iapply (wp_whole c arg10)
  isplitl [H10]; · iexact H10
  iintro H10
  iapply (wp_whole c arg13)
  isplitl [H13]; · iexact H13
  iintro H13
  iapply (wp_whole c arg14)
  isplitl [H14]; · iexact H14
  iintro H14
  iapply (wp_whole c arg23)
  isplitl [H23]; · iexact H23
  iintro H23
  iapply (wp_whole c arg15)
  isplitl [H15]; · iexact H15
  iintro H15
  iapply (wp_whole c arg23)
  isplitl [H23]; · iexact H23
  iintro H23
  iapply (wp_set c arg23)
  isplitl [H23]; · iexact H23
  iintro H23
  iapply (wp_whole c arg11)
  isplitl [H11]; · iexact H11
  iintro H11
  iapply (wp_whole c arg12)
  isplitl [H12]; · iexact H12
  iintro H12
  iapply (wp_whole c arg22)
  isplitl [H22]; · iexact H22
  iintro H22
  iapply (wp_set c arg22)
  isplitl [H22]; · iexact H22
  iintro H22
  iapply (wp_done c)
  iapply Hk
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H20]; · iexact H20
  isplitl [H22]; · iexact H22
  isplitl [H23]; · iexact H23
  iexact Hv

end Parts

end Cert.KernelIdeal.Hand

end
-- ==== Proof.Body.lean ====
/-
One step whole: the copies and waits of the ring, then the start (at the first step), the computation, and the end (at
the last step).
-/
module

public import proofs.«01_k».proof.Proof.Compute

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The current vector a step works on: at the first step the start's, at a later one the one carried. -/
def curIn (i : grid0.Coords) (X1 : Vec F S1x1x256 .f32) (X2 : Vec F S1x8x256 .f32) (X3 : Vec F S1x1x256 .i32) (X4 : Vec F S16x1000 .f32) (X5 : Vec F S32x25 .f32) (X6 : Vec F S32x1 .f32) (cur : Vec F S32x256 .f32) : Vec F S32x256 .f32 :=
  if (step i).val = 0 then k0_pay3 X1 X2 X3 X4 X5 X6 else cur

/-- The accumulator a step works on. -/
def accIn (i : grid0.Coords) (acc : Vec F S128x256 .f32) : Vec F S128x256 .f32 :=
  if (step i).val = 0 then k0_pay5 (k0_pay4 (F := F)) else acc

/-- The output's buffer after a step: the end's value at the last step. -/
def outV (i : grid0.Coords) (acc : Vec F S128x256 .f32) (X16 : Vec F S128x1 .f32) (X17 : Vec F S1x128 .f32)
    (X18 : Vec F S1x1 .f32) (D : Vec F S1x1x256 .f32) : Vec F S1x1x256 .f32 :=
  if (step i).val = 23 then k0_pay2 acc X16 X17 X18 else D

section Body

variable (c : Dev nD) (i : grid0.Coords)

/-- The computation and, at the last step, the end. -/
theorem wp_rest (b : Vec F S1x32x256x256 .f32) (g : VBuf (F := F) c)
    (hg : mV.view.readAt (Elt F) (slotRect (slotOf (step i).val)).toLoadRect g = b) (arg8 : Memref sig .tc .vmem S1x64x32 .f32) (arg9 : Memref sig .tc .vmem S1x64x32 .f32) (arg10 : Memref sig .tc .vmem S1x64x1 .f32) (arg11 : Memref sig .tc .vmem S1x32x32 .f32) (arg12 : Memref sig .tc .vmem S1x32x1 .f32) (arg13 : Memref sig .tc .vmem S1x32x32 .f32) (arg14 : Memref sig .tc .vmem S1x32x1 .f32) (arg15 : Memref sig .tc .vmem S1x128x32 .f32) (arg16 : Memref sig .tc .vmem S128x1 .f32) (arg17 : Memref sig .tc .vmem S1x128 .f32) (arg18 : Memref sig .tc .vmem S1x1 .f32) (arg19 : Memref sig .tc .vmem S1x1x256 .f32) (arg20 : Memref sig .tc .vmem S1x257x32x256 .f32) (arg22 : Memref sig .tc .vmem S32x256 .f32) (arg23 : Memref sig .tc .vmem S128x256 .f32) (X8 : Vec F S1x64x32 .f32) (X9 : Vec F S1x64x32 .f32) (X10 : Vec F S1x64x1 .f32) (X11 : Vec F S1x32x32 .f32) (X12 : Vec F S1x32x1 .f32) (X13 : Vec F S1x32x32 .f32) (X14 : Vec F S1x32x1 .f32) (X15 : Vec F S1x128x32 .f32) (X16 : Vec F S128x1 .f32) (X17 : Vec F S1x128 .f32) (X18 : Vec F S1x1 .f32) (X19 : Vec F S1x1x256 .f32) (X20 : Vec F S1x257x32x256 .f32) (X22 : Vec F S32x256 .f32) (X23 : Vec F S128x256 .f32) (Q : PUnit → sProp 𝕄) :
    iprop((owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare X19 ∗ owns (c : Thread nD τ) arg20 fullShare X20 ∗ owns (c : Thread nD τ) arg22 fullShare X22 ∗ owns (c : Thread nD τ) arg23 fullShare X23 ∗ (mV.view.loc (c : Thread nD τ) ↦[slotIn c (slotOf (step i).val)]{fullShare} g))
        ∗ ((owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare (outV i (accV i b X22 X23 X8 X9 X10 X13 X14 X15) X16 X17 X18 X19) ∗ owns (c : Thread nD τ) arg20 fullShare (newqV b X22) ∗ owns (c : Thread nD τ) arg22 fullShare (curV i b X22 X8 X9 X10 X11 X12) ∗ owns (c : Thread nD τ) arg23 fullShare (accV i b X22 X23 X8 X9 X10 X13 X14 X15) ∗ (mV.view.loc (c : Thread nD τ) ↦[slotIn c (slotOf (step i).val)]{fullShare} g)) -∗ Q ⟨⟩))
      ⊢ wpB c (computeP i arg8 arg9 arg10 arg11 arg12 arg13 arg14 arg15 arg20 mV arg22 arg23 >>= fun _ => (if k0_cond11 i = 1#1 then finishP arg16 arg17 arg18 arg19 arg23 else pure ⟨⟩)) Q := by
  unfold wpB
  rw [wp_bind]
  iintro ⟨⟨H8, H9, H10, H11, H12, H13, H14, H15, H16, H17, H18, H19, H20, H22, H23, Hv⟩, Hk⟩
  iapply (wp_compute c i b g hg arg8 X8 arg9 X9 arg10 X10 arg11 X11 arg12 X12 arg13 X13 arg14 X14 arg15 X15 arg20 X20 arg22 X22 arg23 X23 _)
  isplitr [H16 H17 H18 H19 Hk]
  · skip
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H20]; · iexact H20
    isplitl [H22]; · iexact H22
    isplitl [H23]; · iexact H23
    iexact Hv
  iintro ⟨H8, H9, H10, H11, H12, H13, H14, H15, H20, H22, H23, Hv⟩
  by_cases h : k0_cond11 i = 1#1
  · have e : ∀ A D, outV i A X16 X17 X18 D = k0_pay2 A X16 X17 X18 := fun A D => if_pos ((last_iff i).1 h)
    rw [if_pos h, e]
    iapply (wp_finish c arg16 X16 arg17 X17 arg18 X18 arg19 X19 arg23 (accV i b X22 X23 X8 X9 X10 X13 X14 X15) Q)
    isplitl [H16 H17 H18 H19 H23]
    · skip
      isplitl [H16]; · iexact H16
      isplitl [H17]; · iexact H17
      isplitl [H18]; · iexact H18
      isplitl [H19]; · iexact H19
      iexact H23
    iintro ⟨H16, H17, H18, H19, H23⟩
    iapply Hk
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H22]; · iexact H22
    isplitl [H23]; · iexact H23
    iexact Hv
  · have e : ∀ A D, outV i A X16 X17 X18 D = D := fun A D => if_neg fun hc => h ((last_iff i).2 hc)
    rw [if_neg h, e]
    iapply (wp_done c)
    iapply Hk
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H22]; · iexact H22
    isplitl [H23]; · iexact H23
    iexact Hv

/-- The tail of the body. -/
theorem wp_tail (v9 : BitVec 32) (b : Vec F S1x32x256x256 .f32) (g : VBuf (F := F) c)
    (hg : mV.view.readAt (Elt F) (slotRect (slotOf (step i).val)).toLoadRect g = b) (arg1 : Memref sig .tc .vmem S1x1x256 .f32) (harg1 : arg1.IsWhole) (arg2 : Memref sig .tc .vmem S1x8x256 .f32) (harg2 : arg2.IsWhole) (arg3 : Memref sig .tc .vmem S1x1x256 .i32) (harg3 : arg3.IsWhole) (arg4 : Memref sig .tc .vmem S16x1000 .f32) (harg4 : arg4.IsWhole) (arg5 : Memref sig .tc .vmem S32x25 .f32) (harg5 : arg5.IsWhole) (arg6 : Memref sig .tc .vmem S32x1 .f32) (harg6 : arg6.IsWhole) (arg8 : Memref sig .tc .vmem S1x64x32 .f32) (harg8 : arg8.IsWhole) (arg9 : Memref sig .tc .vmem S1x64x32 .f32) (harg9 : arg9.IsWhole) (arg10 : Memref sig .tc .vmem S1x64x1 .f32) (harg10 : arg10.IsWhole) (arg11 : Memref sig .tc .vmem S1x32x32 .f32) (harg11 : arg11.IsWhole) (arg12 : Memref sig .tc .vmem S1x32x1 .f32) (harg12 : arg12.IsWhole) (arg13 : Memref sig .tc .vmem S1x32x32 .f32) (harg13 : arg13.IsWhole) (arg14 : Memref sig .tc .vmem S1x32x1 .f32) (harg14 : arg14.IsWhole) (arg15 : Memref sig .tc .vmem S1x128x32 .f32) (harg15 : arg15.IsWhole) (arg16 : Memref sig .tc .vmem S128x1 .f32) (harg16 : arg16.IsWhole) (arg17 : Memref sig .tc .vmem S1x128 .f32) (harg17 : arg17.IsWhole) (arg18 : Memref sig .tc .vmem S1x1 .f32) (harg18 : arg18.IsWhole) (arg19 : Memref sig .tc .vmem S1x1x256 .f32) (harg19 : arg19.IsWhole) (arg20 : Memref sig .tc .vmem S1x257x32x256 .f32) (harg20 : arg20.IsWhole) (arg22 : Memref sig .tc .vmem S32x256 .f32) (harg22 : arg22.IsWhole) (arg23 : Memref sig .tc .vmem S128x256 .f32) (harg23 : arg23.IsWhole) (X1 : Vec F S1x1x256 .f32) (X2 : Vec F S1x8x256 .f32) (X3 : Vec F S1x1x256 .i32) (X4 : Vec F S16x1000 .f32) (X5 : Vec F S32x25 .f32) (X6 : Vec F S32x1 .f32) (X8 : Vec F S1x64x32 .f32) (X9 : Vec F S1x64x32 .f32) (X10 : Vec F S1x64x1 .f32) (X11 : Vec F S1x32x32 .f32) (X12 : Vec F S1x32x1 .f32) (X13 : Vec F S1x32x32 .f32) (X14 : Vec F S1x32x1 .f32) (X15 : Vec F S1x128x32 .f32) (X16 : Vec F S128x1 .f32) (X17 : Vec F S1x128 .f32) (X18 : Vec F S1x1 .f32) (X19 : Vec F S1x1x256 .f32) (X20 : Vec F S1x257x32x256 .f32) (X22 : Vec F S32x256 .f32) (X23 : Vec F S128x256 .f32) (Q : PUnit → sProp 𝕄) :
    iprop((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare X19 ∗ owns (c : Thread nD τ) arg20 fullShare X20 ∗ owns (c : Thread nD τ) arg22 fullShare X22 ∗ owns (c : Thread nD τ) arg23 fullShare X23 ∗ (mV.view.loc (c : Thread nD τ) ↦[slotIn c (slotOf (step i).val)]{fullShare} g))
        ∗ ((owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare (outV i (accV i b (curIn i X1 X2 X3 X4 X5 X6 X22) (accIn i X23) X8 X9 X10 X13 X14 X15) X16 X17 X18 X19) ∗ owns (c : Thread nD τ) arg20 fullShare (newqV b (curIn i X1 X2 X3 X4 X5 X6 X22)) ∗ owns (c : Thread nD τ) arg22 fullShare (curV i b (curIn i X1 X2 X3 X4 X5 X6 X22) X8 X9 X10 X11 X12) ∗ owns (c : Thread nD τ) arg23 fullShare (accV i b (curIn i X1 X2 X3 X4 X5 X6 X22) (accIn i X23) X8 X9 X10 X13 X14 X15) ∗ (mV.view.loc (c : Thread nD τ) ↦[slotIn c (slotOf (step i).val)]{fullShare} g)) -∗ Q ⟨⟩))
      ⊢ wpB c (tailP i arg1 harg1 arg2 harg2 arg3 harg3 arg4 harg4 arg5 harg5 arg6 harg6 mQ (Memref.isWhole_whole _) arg8 harg8 arg9 harg9 arg10 harg10 arg11 harg11 arg12 harg12 arg13 harg13 arg14 harg14 arg15 harg15 arg16 harg16 arg17 harg17 arg18 harg18 arg19 harg19 arg20 harg20 mV (Memref.isWhole_whole _) arg22 harg22 arg23 harg23 mS (BitVec.ofNat 32 (i 0).val) v9) Q := by
  rw [tail_eq]
  by_cases h : isFirst (BitVec.ofNat 32 (i 0).val) = 1#1
  · have h0 : (step i).val = 0 := (isFirst_iff (step i)).1 h
    have e1 : (curIn i X1 X2 X3 X4 X5 X6 X22) = k0_pay3 X1 X2 X3 X4 X5 X6 := if_pos h0
    have e2 : (accIn i X23) = k0_pay5 (k0_pay4 (F := F)) := if_pos h0
    rw [if_pos h, e1, e2]
    unfold wpB
    rw [wp_bind]
    iintro ⟨⟨H1, H2, H3, H4, H5, H6, H8, H9, H10, H11, H12, H13, H14, H15, H16, H17, H18, H19, H20, H22, H23, Hv⟩, Hk⟩
    iapply (wp_init c arg1 X1 arg2 X2 arg3 X3 arg4 X4 arg5 X5 arg6 X6 arg22 X22 arg23 X23 _)
    isplitl [H1 H2 H3 H4 H5 H6 H22 H23]
    · skip
      isplitl [H1]; · iexact H1
      isplitl [H2]; · iexact H2
      isplitl [H3]; · iexact H3
      isplitl [H4]; · iexact H4
      isplitl [H5]; · iexact H5
      isplitl [H6]; · iexact H6
      isplitl [H22]; · iexact H22
      iexact H23
    iintro ⟨H1, H2, H3, H4, H5, H6, H22, H23⟩
    iapply (wp_rest c i b g hg arg8 arg9 arg10 arg11 arg12 arg13 arg14 arg15 arg16 arg17 arg18 arg19 arg20 arg22 arg23 X8 X9 X10 X11 X12 X13 X14 X15 X16 X17 X18 X19 X20 (k0_pay3 X1 X2 X3 X4 X5 X6) (k0_pay5 (k0_pay4 (F := F))) Q)
    isplitr [H1 H2 H3 H4 H5 H6 Hk]
    · skip
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H22]; · iexact H22
      isplitl [H23]; · iexact H23
      iexact Hv
    iintro ⟨H8, H9, H10, H11, H12, H13, H14, H15, H16, H17, H18, H19, H20, H22, H23, Hv⟩
    iapply Hk
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H22]; · iexact H22
    isplitl [H23]; · iexact H23
    iexact Hv
  · have h0 : ¬ (step i).val = 0 := fun e => h ((isFirst_iff (step i)).2 e)
    have e1 : (curIn i X1 X2 X3 X4 X5 X6 X22) = X22 := if_neg h0
    have e2 : (accIn i X23) = X23 := if_neg h0
    rw [if_neg h, e1, e2]
    iintro ⟨⟨H1, H2, H3, H4, H5, H6, H8, H9, H10, H11, H12, H13, H14, H15, H16, H17, H18, H19, H20, H22, H23, Hv⟩, Hk⟩
    iapply (wp_rest c i b g hg arg8 arg9 arg10 arg11 arg12 arg13 arg14 arg15 arg16 arg17 arg18 arg19 arg20 arg22 arg23 X8 X9 X10 X11 X12 X13 X14 X15 X16 X17 X18 X19 X20 X22 X23 Q)
    isplitr [H1 H2 H3 H4 H5 H6 Hk]
    · skip
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H22]; · iexact H22
      isplitl [H23]; · iexact H23
      iexact Hv
    iintro ⟨H8, H9, H10, H11, H12, H13, H14, H15, H16, H17, H18, H19, H20, H22, H23, Hv⟩
    iapply Hk
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H22]; · iexact H22
    isplitl [H23]; · iexact H23
    iexact Hv

/-- One step: the ring moves on, the staged block, the accumulator, the current vector and, at the last step, the
    output take their values. -/
theorem wp_step (fq : QBuf (F := F) c) (arg1 : Memref sig .tc .vmem S1x1x256 .f32) (harg1 : arg1.IsWhole) (arg2 : Memref sig .tc .vmem S1x8x256 .f32) (harg2 : arg2.IsWhole) (arg3 : Memref sig .tc .vmem S1x1x256 .i32) (harg3 : arg3.IsWhole) (arg4 : Memref sig .tc .vmem S16x1000 .f32) (harg4 : arg4.IsWhole) (arg5 : Memref sig .tc .vmem S32x25 .f32) (harg5 : arg5.IsWhole) (arg6 : Memref sig .tc .vmem S32x1 .f32) (harg6 : arg6.IsWhole) (arg8 : Memref sig .tc .vmem S1x64x32 .f32) (harg8 : arg8.IsWhole) (arg9 : Memref sig .tc .vmem S1x64x32 .f32) (harg9 : arg9.IsWhole) (arg10 : Memref sig .tc .vmem S1x64x1 .f32) (harg10 : arg10.IsWhole) (arg11 : Memref sig .tc .vmem S1x32x32 .f32) (harg11 : arg11.IsWhole) (arg12 : Memref sig .tc .vmem S1x32x1 .f32) (harg12 : arg12.IsWhole) (arg13 : Memref sig .tc .vmem S1x32x32 .f32) (harg13 : arg13.IsWhole) (arg14 : Memref sig .tc .vmem S1x32x1 .f32) (harg14 : arg14.IsWhole) (arg15 : Memref sig .tc .vmem S1x128x32 .f32) (harg15 : arg15.IsWhole) (arg16 : Memref sig .tc .vmem S128x1 .f32) (harg16 : arg16.IsWhole) (arg17 : Memref sig .tc .vmem S1x128 .f32) (harg17 : arg17.IsWhole) (arg18 : Memref sig .tc .vmem S1x1 .f32) (harg18 : arg18.IsWhole) (arg19 : Memref sig .tc .vmem S1x1x256 .f32) (harg19 : arg19.IsWhole) (arg20 : Memref sig .tc .vmem S1x257x32x256 .f32) (harg20 : arg20.IsWhole) (arg22 : Memref sig .tc .vmem S32x256 .f32) (harg22 : arg22.IsWhole) (arg23 : Memref sig .tc .vmem S128x256 .f32) (harg23 : arg23.IsWhole) (X1 : Vec F S1x1x256 .f32) (X2 : Vec F S1x8x256 .f32) (X3 : Vec F S1x1x256 .i32) (X4 : Vec F S16x1000 .f32) (X5 : Vec F S32x25 .f32) (X6 : Vec F S32x1 .f32) (X8 : Vec F S1x64x32 .f32) (X9 : Vec F S1x64x32 .f32) (X10 : Vec F S1x64x1 .f32) (X11 : Vec F S1x32x32 .f32) (X12 : Vec F S1x32x1 .f32) (X13 : Vec F S1x32x32 .f32) (X14 : Vec F S1x32x1 .f32) (X15 : Vec F S1x128x32 .f32) (X16 : Vec F S128x1 .f32) (X17 : Vec F S1x128 .f32) (X18 : Vec F S1x1 .f32) (X19 : Vec F S1x1x256 .f32) (X20 : Vec F S1x257x32x256 .f32) (X22 : Vec F S32x256 .f32) (X23 : Vec F S128x256 .f32) (Q : PUnit → sProp 𝕄) :
    iprop(ringAt c fq (step i).val ∗ owing c ∗ (owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare X19 ∗ owns (c : Thread nD τ) arg20 fullShare X20 ∗ owns (c : Thread nD τ) arg22 fullShare X22 ∗ owns (c : Thread nD τ) arg23 fullShare X23)
        ∗ (ringAt c fq ((step i).val + 1) ∗ owing c ∗ (owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ owns (c : Thread nD τ) arg13 fullShare X13 ∗ owns (c : Thread nD τ) arg14 fullShare X14 ∗ owns (c : Thread nD τ) arg15 fullShare X15 ∗ owns (c : Thread nD τ) arg16 fullShare X16 ∗ owns (c : Thread nD τ) arg17 fullShare X17 ∗ owns (c : Thread nD τ) arg18 fullShare X18 ∗ owns (c : Thread nD τ) arg19 fullShare (outV i (accV i (blk fq (step i)) (curIn i X1 X2 X3 X4 X5 X6 X22) (accIn i X23) X8 X9 X10 X13 X14 X15) X16 X17 X18 X19) ∗ owns (c : Thread nD τ) arg20 fullShare (newqV (blk fq (step i)) (curIn i X1 X2 X3 X4 X5 X6 X22)) ∗ owns (c : Thread nD τ) arg22 fullShare (curV i (blk fq (step i)) (curIn i X1 X2 X3 X4 X5 X6 X22) X8 X9 X10 X11 X12) ∗ owns (c : Thread nD τ) arg23 fullShare (accV i (blk fq (step i)) (curIn i X1 X2 X3 X4 X5 X6 X22) (accIn i X23) X8 X9 X10 X13 X14 X15)) -∗ Q ⟨⟩))
      ⊢ wpB c (cc0_wave_decoder_step i arg1 harg1 arg2 harg2 arg3 harg3 arg4 harg4 arg5 harg5 arg6 harg6 mQ (Memref.isWhole_whole _) arg8 harg8 arg9 harg9 arg10 harg10 arg11 harg11 arg12 harg12 arg13 harg13 arg14 harg14 arg15 harg15 arg16 harg16 arg17 harg17 arg18 harg18 arg19 harg19 arg20 harg20 mV (Memref.isWhole_whole _) arg22 harg22 arg23 harg23 mS) Q := by
  rw [body_eq, part38_eq]
  iintro ⟨HR, HW, ⟨H1, H2, H3, H4, H5, H6, H8, H9, H10, H11, H12, H13, H14, H15, H16, H17, H18, H19, H20, H22, H23⟩, Hk⟩
  iapply (wp_ring c fq i (fun x y => tailP i arg1 harg1 arg2 harg2 arg3 harg3 arg4 harg4 arg5 harg5 arg6 harg6 mQ (Memref.isWhole_whole _) arg8 harg8 arg9 harg9 arg10 harg10 arg11 harg11 arg12 harg12 arg13 harg13 arg14 harg14 arg15 harg15 arg16 harg16 arg17 harg17 arg18 harg18 arg19 harg19 arg20 harg20 mV (Memref.isWhole_whole _) arg22 harg22 arg23 harg23 mS x y) Q)
  isplitl [HR]; · iexact HR
  isplitl [HW]; · iexact HW
  iintro ⟨Hl, Hr, HW⟩
  ihave Hl := (slot_open c fq (step i)) $$ Hl
  icases Hl with ⟨⟨%g, %hg, Hv⟩, Hb⟩
  iapply (wp_tail c i _ (blk fq (step i)) g hg arg1 harg1 arg2 harg2 arg3 harg3 arg4 harg4 arg5 harg5 arg6 harg6 arg8 harg8 arg9 harg9 arg10 harg10 arg11 harg11 arg12 harg12 arg13 harg13 arg14 harg14 arg15 harg15 arg16 harg16 arg17 harg17 arg18 harg18 arg19 harg19 arg20 harg20 arg22 harg22 arg23 harg23 X1 X2 X3 X4 X5 X6 X8 X9 X10 X11 X12 X13 X14 X15 X16 X17 X18 X19 X20 X22 X23 Q)
  isplitr [Hr HW Hb Hk]
  · skip
    isplitl [H1]; · iexact H1
    isplitl [H2]; · iexact H2
    isplitl [H3]; · iexact H3
    isplitl [H4]; · iexact H4
    isplitl [H5]; · iexact H5
    isplitl [H6]; · iexact H6
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H22]; · iexact H22
    isplitl [H23]; · iexact H23
    iexact Hv
  iintro ⟨H1, H2, H3, H4, H5, H6, H8, H9, H10, H11, H12, H13, H14, H15, H16, H17, H18, H19, H20, H22, H23, Hv⟩
  iapply Hk
  isplitl [Hr Hb Hv]
  · iapply (ring_next c fq (step i).val)
    isplitr [Hr]
    · iapply (slot_close c fq (slotOf (step i).val) g)
      isplitl [Hv]; · iexact Hv
      iexact Hb
    · iexact Hr
  isplitl [HW]; · iexact HW
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H22]; · iexact H22
  iexact H23

end Body

end Cert.KernelIdeal.Hand

end
-- ==== Proof.Run.lean ====
/-
The launch: what the body keeps from one grid point to the next, the body at a grid point, and the run of the whole
program with every argument array unchanged.
-/
module

public import proofs.«01_k».proof.Proof.Body
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-- The queue as the region finds it. -/
abbrev fqm : QBuf (F := F) c := V m c main_arg0

/-- The block of window 0 at a grid point. -/
abbrev x0 (t : Fin cfg0.N) : Vec F S1x1x256 .f32 := iblk m c 0 t
/-- The block of window 1 at a grid point. -/
abbrev x1 (t : Fin cfg0.N) : Vec F S1x8x256 .f32 := iblk m c 1 t
/-- The block of window 2 at a grid point. -/
abbrev x2 (t : Fin cfg0.N) : Vec F S1x1x256 .i32 := iblk m c 2 t
/-- The block of window 3 at a grid point. -/
abbrev x3 (t : Fin cfg0.N) : Vec F S16x1000 .f32 := iblk m c 3 t
/-- The block of window 4 at a grid point. -/
abbrev x4 (t : Fin cfg0.N) : Vec F S32x25 .f32 := iblk m c 4 t
/-- The block of window 5 at a grid point. -/
abbrev x5 (t : Fin cfg0.N) : Vec F S32x1 .f32 := iblk m c 5 t
/-- The block of window 6 at a grid point. -/
abbrev x6 (t : Fin cfg0.N) : Vec F S1x64x32 .f32 := iblk m c 6 t
/-- The block of window 7 at a grid point. -/
abbrev x7 (t : Fin cfg0.N) : Vec F S1x64x32 .f32 := iblk m c 7 t
/-- The block of window 8 at a grid point. -/
abbrev x8 (t : Fin cfg0.N) : Vec F S1x64x1 .f32 := iblk m c 8 t
/-- The block of window 9 at a grid point. -/
abbrev x9 (t : Fin cfg0.N) : Vec F S1x32x32 .f32 := iblk m c 9 t
/-- The block of window 10 at a grid point. -/
abbrev x10 (t : Fin cfg0.N) : Vec F S1x32x1 .f32 := iblk m c 10 t
/-- The block of window 11 at a grid point. -/
abbrev x11 (t : Fin cfg0.N) : Vec F S1x32x32 .f32 := iblk m c 11 t
/-- The block of window 12 at a grid point. -/
abbrev x12 (t : Fin cfg0.N) : Vec F S1x32x1 .f32 := iblk m c 12 t
/-- The block of window 13 at a grid point. -/
abbrev x13 (t : Fin cfg0.N) : Vec F S1x128x32 .f32 := iblk m c 13 t
/-- The block of window 14 at a grid point. -/
abbrev x14 (t : Fin cfg0.N) : Vec F S128x1 .f32 := iblk m c 14 t
/-- The block of window 15 at a grid point. -/
abbrev x15 (t : Fin cfg0.N) : Vec F S1x128 .f32 := iblk m c 15 t
/-- The block of window 16 at a grid point. -/
abbrev x16 (t : Fin cfg0.N) : Vec F S1x1 .f32 := iblk m c 16 t

/-- The grid point a step number stands for. -/
def tp (n : ℕ) : Fin cfg0.N := ⟨n % 24, (show grid0.N = 24 from N_0) ▸ Nat.mod_lt _ (by decide)⟩

theorem point_lt (t : Fin cfg0.N) : t.val < 24 := N_0 ▸ t.isLt

theorem tp_val (t : Fin cfg0.N) : tp t.val = t :=
  Fin.ext (Nat.mod_eq_of_lt (point_lt t))

/-- A grid point's step is its number. -/
theorem step_coords : ∀ t : Fin cfg0.N, (step (grid0.coords t)).val = t.val := by decide +kernel

/-- The current vector and the accumulator step `n` works on. -/
def carry : ℕ → Vec F S32x256 .f32 × Vec F S128x256 .f32
  | 0 => (k0_pay3 (x0 m c (tp 0)) (x1 m c (tp 0)) (x2 m c (tp 0)) (x3 m c (tp 0)) (x4 m c (tp 0)) (x5 m c (tp 0)), k0_pay5 (k0_pay4 (F := F)))
  | n + 1 =>
    (curV (grid0.coords (tp n)) (blk (fqm m c) (step (grid0.coords (tp n)))) (carry n).1 (x6 m c (tp n)) (x7 m c (tp n)) (x8 m c (tp n)) (x9 m c (tp n)) (x10 m c (tp n)),
     accV (grid0.coords (tp n)) (blk (fqm m c) (step (grid0.coords (tp n)))) (carry n).1 (carry n).2 (x6 m c (tp n)) (x7 m c (tp n)) (x8 m c (tp n)) (x11 m c (tp n)) (x12 m c (tp n)) (x13 m c (tp n)))

/-- The new queue block of a grid point. -/
def newqAt (t : Fin cfg0.N) : Vec F S1x257x32x256 .f32 :=
  newqV (blk (fqm m c) (step (grid0.coords t))) (carry m c t.val).1

/-- The output, were the accumulation to end at a grid point. -/
def outAt (t : Fin cfg0.N) : Vec F S1x1x256 .f32 := k0_pay2 (carry m c (t.val + 1)).2 (x14 m c t) (x15 m c t) (x16 m c t)

/-- What the body keeps between grid points: the two scratch vectors, the ring, what it does not use of the queue, and
    the generator's register. -/
def inv (n : ℕ) : sProp 𝕄 :=
  iprop(∃ X22 X23, ⌜n ≠ 0 → X22 = (carry m c n).1 ∧ X23 = (carry m c n).2⌝
    ∗ owns (c : Thread nD τ) (Memref.whole cc0_scratch1) fullShare X22
    ∗ owns (c : Thread nD τ) (Memref.whole cc0_scratch2) fullShare X23
    ∗ ringAt c (fqm m c) n ∗ spare c (fqm m c) ∗ (∃ r, prngReg c r))

/-- What the body leaves in each window's buffer at a point it writes it. -/
def leaves : (w : Fin 19) → (t : Fin cfg0.N) → (cfg0.win w).block.Idx → Elt F (cfg0.win w).elt
  | 0 => fun t => x0 m c t
  | 1 => fun t => x1 m c t
  | 2 => fun t => x2 m c t
  | 3 => fun t => x3 m c t
  | 4 => fun t => x4 m c t
  | 5 => fun t => x5 m c t
  | 6 => fun t => x6 m c t
  | 7 => fun t => x7 m c t
  | 8 => fun t => x8 m c t
  | 9 => fun t => x9 m c t
  | 10 => fun t => x10 m c t
  | 11 => fun t => x11 m c t
  | 12 => fun t => x12 m c t
  | 13 => fun t => x13 m c t
  | 14 => fun t => x14 m c t
  | 15 => fun t => x15 m c t
  | 16 => fun t => x16 m c t
  | 17 => fun t => outAt m c t
  | 18 => fun t => newqAt m c t
  | ⟨_ + 19, h⟩ => absurd h (by omega)

/-- The proof data of the one pipeline. -/
def dats (_ : Fin 1) (c : Dev nD) : Dat τ (Elt F) Unit ℕ (Pipeline.UD sig nD τ) ℕ cfg0 c where
  A w := V m c (Pipeline.arrRef spec0 w)
  after w t := leaves m c w t
  Φ t := inv m c t.val
  q _ := fullShare
  owed _ := 0

theorem A_eq (c : Dev nD) (w : Fin cfg0.W) : (dats m 0 c).A w = V m c (Pipeline.arrRef spec0 w) := by
  dsimp only [dats]

set_option maxHeartbeats 2000000 in
/-- An input window's buffer holds its block at every point. -/
theorem before_in : ∀ w : Fin 19, w.val < 17 → ∀ t d, (dats m 0 c).before w t d = (dats m 0 c).after w t := by
  intro w hw t d
  fin_cases w
  case «17» => exact absurd hw (by decide)
  case «18» => exact absurd hw (by decide)
  all_goals
    refine ((dats m 0 c).before_in_eq_fetched _ rfl (fun _ => rfl) (fun _ _ _ => rfl) (fun t => ?_) t d).trans ?_
    all_goals rfl

/-- At the first step the start's value, later the carried one. -/
theorem curIn_carry (t : Fin cfg0.N) (X22 : Vec F S32x256 .f32) (h : t.val ≠ 0 → X22 = (carry m c t.val).1) :
    curIn (grid0.coords t) (x0 m c t) (x1 m c t) (x2 m c t) (x3 m c t) (x4 m c t) (x5 m c t) X22 = (carry m c t.val).1 := by
  unfold curIn
  rw [step_coords]
  by_cases h0 : t.val = 0
  · rw [if_pos h0, h0]
    have e : t = tp 0 := (tp_val t).symm.trans (congrArg tp h0)
    rw [e]; rfl
  · rw [if_neg h0, h h0]

theorem accIn_carry (t : Fin cfg0.N) (X23 : Vec F S128x256 .f32) (h : t.val ≠ 0 → X23 = (carry m c t.val).2) :
    accIn (grid0.coords t) X23 = (carry m c t.val).2 := by
  unfold accIn
  rw [step_coords]
  by_cases h0 : t.val = 0
  · rw [if_pos h0, h0]; rfl
  · rw [if_neg h0, h h0]

theorem carry_cur (t : Fin cfg0.N) : curV (grid0.coords t) (blk (fqm m c) (step (grid0.coords t))) (carry m c t.val).1
    (x6 m c t) (x7 m c t) (x8 m c t) (x9 m c t) (x10 m c t) = (carry m c (t.val + 1)).1 := by
  conv_rhs => rw [carry]
  rw [tp_val]

theorem carry_acc (t : Fin cfg0.N) : accV (grid0.coords t) (blk (fqm m c) (step (grid0.coords t))) (carry m c t.val).1
    (carry m c t.val).2 (x6 m c t) (x7 m c t) (x8 m c t) (x11 m c t) (x12 m c t) (x13 m c t) = (carry m c (t.val + 1)).2 := by
  conv_rhs => rw [carry]
  rw [tp_val]

/-- What the body leaves in the output's buffer: its value at the last point, what it found elsewhere. -/
def outLeft (t : Fin cfg0.N) : sProp 𝕄 :=
  match cfg0.idle 17 (cfg0.grid.coords t) with
  | true =>
    match (cfg0.win 17).flush t with
    | false => iprop(∃ d, owns (c : Thread nD τ) (st0_17 t) fullShare ((dats m 0 c).before 17 t d))
    | true => owns (c : Thread nD τ) (st0_17 t) fullShare ((dats m 0 c).after 17 t)
  | false => owns (c : Thread nD τ) (st0_17 t) fullShare ((dats m 0 c).after 17 t)

/-- The output's buffer after a step is as promised. -/
theorem out_left (t : Fin cfg0.N) (d) :
    owns (c : Thread nD τ) (st0_17 t) fullShare
      (outV (grid0.coords t) (carry m c (t.val + 1)).2 (x14 m c t) (x15 m c t) (x16 m c t) ((dats m 0 c).before 17 t d))
    ⊢ outLeft m c t := by
  unfold outLeft outV
  rw [step_coords]
  have hl := last_iff (grid0.coords t)
  rw [step_coords] at hl
  by_cases h : t.val = 23
  · have e : cfg0.idle 17 (cfg0.grid.coords t) = false := by
      show (!(k0_cond11 (grid0.coords t) == 1#1)) = false
      rw [hl.2 h]; rfl
    rw [if_pos h, e]
    exact .rfl
  · have e : cfg0.idle 17 (cfg0.grid.coords t) = true := by
      show (!(k0_cond11 (grid0.coords t) == 1#1)) = true
      rw [Bool.not_eq_true', beq_eq_false_iff_ne]
      exact fun h' => h (hl.1 h')
    have e2 : (cfg0.win 17).flush t = false := by
      rw [Bool.eq_false_iff]
      intro h'
      have := (flush0_17 t).1 h'
      have ht := point_lt t
      omega
    rw [if_neg h, e, e2]
    iintro H
    iexists d
    iexact H

/-- What the body is called with at a point, -/
def bodyPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)))

/-- and what it leaves. -/
def bodyPost (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ outLeft m c t ∗ owns (c : Thread nD τ) (st0_18 t) fullShare ((dats m 0 c).after 18 t))

set_option maxHeartbeats 1000000 in
/-- One step at a grid point, on the blocks of that point and the carried vectors. -/
theorem wp_point (t : Fin cfg0.N) (X22 : Vec F S32x256 .f32) (X23 : Vec F S128x256 .f32)
    (hX : t.val ≠ 0 → X22 = (carry m c t.val).1 ∧ X23 = (carry m c t.val).2)
    (D17 : Vec F S1x1x256 .f32) (D18 : Vec F S1x257x32x256 .f32) (Q : PUnit → sProp 𝕄) :
    iprop(ringAt c (fqm m c) t.val ∗ owing c ∗ (owns (c : Thread nD τ) (st0_0 t) fullShare (x0 m c t) ∗ owns (c : Thread nD τ) (st0_1 t) fullShare (x1 m c t) ∗ owns (c : Thread nD τ) (st0_2 t) fullShare (x2 m c t) ∗ owns (c : Thread nD τ) (st0_3 t) fullShare (x3 m c t) ∗ owns (c : Thread nD τ) (st0_4 t) fullShare (x4 m c t) ∗ owns (c : Thread nD τ) (st0_5 t) fullShare (x5 m c t) ∗ owns (c : Thread nD τ) (st0_6 t) fullShare (x6 m c t) ∗ owns (c : Thread nD τ) (st0_7 t) fullShare (x7 m c t) ∗ owns (c : Thread nD τ) (st0_8 t) fullShare (x8 m c t) ∗ owns (c : Thread nD τ) (st0_9 t) fullShare (x9 m c t) ∗ owns (c : Thread nD τ) (st0_10 t) fullShare (x10 m c t) ∗ owns (c : Thread nD τ) (st0_11 t) fullShare (x11 m c t) ∗ owns (c : Thread nD τ) (st0_12 t) fullShare (x12 m c t) ∗ owns (c : Thread nD τ) (st0_13 t) fullShare (x13 m c t) ∗ owns (c : Thread nD τ) (st0_14 t) fullShare (x14 m c t) ∗ owns (c : Thread nD τ) (st0_15 t) fullShare (x15 m c t) ∗ owns (c : Thread nD τ) (st0_16 t) fullShare (x16 m c t) ∗ owns (c : Thread nD τ) (st0_17 t) fullShare D17 ∗ owns (c : Thread nD τ) (st0_18 t) fullShare D18 ∗ owns (c : Thread nD τ) (Memref.whole cc0_scratch1) fullShare X22 ∗ owns (c : Thread nD τ) (Memref.whole cc0_scratch2) fullShare X23)
      ∗ (ringAt c (fqm m c) (t.val + 1) ∗ owing c ∗ (owns (c : Thread nD τ) (st0_0 t) fullShare (x0 m c t) ∗ owns (c : Thread nD τ) (st0_1 t) fullShare (x1 m c t) ∗ owns (c : Thread nD τ) (st0_2 t) fullShare (x2 m c t) ∗ owns (c : Thread nD τ) (st0_3 t) fullShare (x3 m c t) ∗ owns (c : Thread nD τ) (st0_4 t) fullShare (x4 m c t) ∗ owns (c : Thread nD τ) (st0_5 t) fullShare (x5 m c t) ∗ owns (c : Thread nD τ) (st0_6 t) fullShare (x6 m c t) ∗ owns (c : Thread nD τ) (st0_7 t) fullShare (x7 m c t) ∗ owns (c : Thread nD τ) (st0_8 t) fullShare (x8 m c t) ∗ owns (c : Thread nD τ) (st0_9 t) fullShare (x9 m c t) ∗ owns (c : Thread nD τ) (st0_10 t) fullShare (x10 m c t) ∗ owns (c : Thread nD τ) (st0_11 t) fullShare (x11 m c t) ∗ owns (c : Thread nD τ) (st0_12 t) fullShare (x12 m c t) ∗ owns (c : Thread nD τ) (st0_13 t) fullShare (x13 m c t) ∗ owns (c : Thread nD τ) (st0_14 t) fullShare (x14 m c t) ∗ owns (c : Thread nD τ) (st0_15 t) fullShare (x15 m c t) ∗ owns (c : Thread nD τ) (st0_16 t) fullShare (x16 m c t) ∗ owns (c : Thread nD τ) (st0_17 t) fullShare (outV (grid0.coords t) (carry m c (t.val + 1)).2 (x14 m c t) (x15 m c t) (x16 m c t) D17) ∗ owns (c : Thread nD τ) (st0_18 t) fullShare (newqAt m c t) ∗ owns (c : Thread nD τ) (Memref.whole cc0_scratch1) fullShare (carry m c (t.val + 1)).1 ∗ owns (c : Thread nD τ) (Memref.whole cc0_scratch2) fullShare (carry m c (t.val + 1)).2) -∗ Q ⟨⟩))
    ⊢ wpB c (bodyAt0 t) Q := by
  have h := wp_step c (grid0.coords t) (fqm m c) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7)) _ (hstage0_8 ((cfg0.slots t 8).cast nbuf0_8)) _ (hstage0_9 ((cfg0.slots t 9).cast nbuf0_9)) _ (hstage0_10 ((cfg0.slots t 10).cast nbuf0_10)) _ (hstage0_11 ((cfg0.slots t 11).cast nbuf0_11)) _ (hstage0_12 ((cfg0.slots t 12).cast nbuf0_12)) _ (hstage0_13 ((cfg0.slots t 13).cast nbuf0_13)) _ (hstage0_14 ((cfg0.slots t 14).cast nbuf0_14)) _ (hstage0_15 ((cfg0.slots t 15).cast nbuf0_15)) _ (hstage0_16 ((cfg0.slots t 16).cast nbuf0_16)) _ (hstage0_17 ((cfg0.slots t 17).cast nbuf0_17)) _ (hstage0_18 ((cfg0.slots t 18).cast nbuf0_18)) _ (Memref.isWhole_whole cc0_scratch1) _ (Memref.isWhole_whole cc0_scratch2)
    (x0 m c t) (x1 m c t) (x2 m c t) (x3 m c t) (x4 m c t) (x5 m c t) (x6 m c t) (x7 m c t) (x8 m c t) (x9 m c t) (x10 m c t) (x11 m c t) (x12 m c t) (x13 m c t) (x14 m c t) (x15 m c t) (x16 m c t) D17 D18 X22 X23 Q
  rw [step_coords t, curIn_carry m c t X22 (fun h => (hX h).1), accIn_carry m c t X23 (fun h => (hX h).2), carry_cur, carry_acc] at h
  exact h

theorem owns_congr {sp : Space} {s : Shape} {e : EltTy} (a : Memref sig .tc sp s e) {X Y : s.Idx → Elt F e} (h : X = Y) :
    (owns (c : Thread nD τ) a fullShare X : sProp 𝕄) ⊢ owns (c : Thread nD τ) a fullShare Y := h ▸ .rfl

set_option maxHeartbeats 1000000 in
/-- The body at a grid point. -/
theorem sound_body (t : Fin cfg0.N) :
    bodyPre m c t ⊢ wpB c (bodyAt0 t) (fun _ => bodyPost m c t) := by
  unfold bodyPre bodyPost bodyAt0
  rw [show (dats m 0 c).Φ t.castSucc = inv m c t.val from rfl, show (dats m 0 c).Φ t.succ = inv m c (t.val + 1) from rfl]
  unfold Dat.owesAt Pipeline.owesWithin
  rw [show (dats m 0 c).owed t.castSucc = 0 from rfl, show (dats m 0 c).owed t.succ = 0 from rfl]
  unfold inv
  have hs := step_coords t
  iintro ⟨⟨%X22, %X23, %hX, S1, S2, Hr, Hs, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  ihave H0 := (owns_congr c (st0_0 t) (before_in m c 0 (by decide) t d0)) $$ H0
  ihave H1 := (owns_congr c (st0_1 t) (before_in m c 1 (by decide) t d1)) $$ H1
  ihave H2 := (owns_congr c (st0_2 t) (before_in m c 2 (by decide) t d2)) $$ H2
  ihave H3 := (owns_congr c (st0_3 t) (before_in m c 3 (by decide) t d3)) $$ H3
  ihave H4 := (owns_congr c (st0_4 t) (before_in m c 4 (by decide) t d4)) $$ H4
  ihave H5 := (owns_congr c (st0_5 t) (before_in m c 5 (by decide) t d5)) $$ H5
  ihave H6 := (owns_congr c (st0_6 t) (before_in m c 6 (by decide) t d6)) $$ H6
  ihave H7 := (owns_congr c (st0_7 t) (before_in m c 7 (by decide) t d7)) $$ H7
  ihave H8 := (owns_congr c (st0_8 t) (before_in m c 8 (by decide) t d8)) $$ H8
  ihave H9 := (owns_congr c (st0_9 t) (before_in m c 9 (by decide) t d9)) $$ H9
  ihave H10 := (owns_congr c (st0_10 t) (before_in m c 10 (by decide) t d10)) $$ H10
  ihave H11 := (owns_congr c (st0_11 t) (before_in m c 11 (by decide) t d11)) $$ H11
  ihave H12 := (owns_congr c (st0_12 t) (before_in m c 12 (by decide) t d12)) $$ H12
  ihave H13 := (owns_congr c (st0_13 t) (before_in m c 13 (by decide) t d13)) $$ H13
  ihave H14 := (owns_congr c (st0_14 t) (before_in m c 14 (by decide) t d14)) $$ H14
  ihave H15 := (owns_congr c (st0_15 t) (before_in m c 15 (by decide) t d15)) $$ H15
  ihave H16 := (owns_congr c (st0_16 t) (before_in m c 16 (by decide) t d16)) $$ H16
  iapply (wp_point m c t X22 X23 hX ((dats m 0 c).before 17 t d17) ((dats m 0 c).before 18 t d18) _)
  isplitl [Hr]; · iexact Hr
  isplitl [HW]; · iexists W; iexact HW
  isplitr [Hs Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [S1]; · iexact S1
    iexact S2
  iintro ⟨Hr, ⟨%W', HW'⟩, H0, H1, H2, H3, H4, H5, H6, H7, H8, H9, H10, H11, H12, H13, H14, H15, H16, H17, H18, S1, S2⟩
  isplitl [S1 S2 Hr Hs Hg]
  · iexists (carry m c (t.val + 1)).1
    iexists (carry m c (t.val + 1)).2
    isplitr
    · ipureintro; exact fun _ => ⟨rfl, rfl⟩
    isplitl [S1]; · iexact S1
    isplitl [S2]; · iexact S2
    isplitl [Hr]; · iexact Hr
    isplitl [Hs]; · iexact Hs
    iexact Hg
  isplitl [HW']
  · iexists W'; isplitr
    · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iapply (out_left m c t d17); iexact H17
  iexact H18

theorem defs₀_row (t : Fin cfg0.N) :
    defs₀ (F := F) .tc cfg0.body (cfg0.bodyArgs t (cfg0.slots t)) = bodyAt0 t := by
  unfold defs₀; rw [Defs.onTc_tc]

set_option maxHeartbeats 1000000 in
theorem body_obligation : BodyObligation (dats (F := F) m 0 c) (defs₀ (F := F)) Variants.none () Set.univ := fun t => by
  rw [bigSep_W0, bigSep_W0, defs₀_row]
  exact triple_restated (sound_body m c t) rfl .rfl fun _ => .rfl

/-- Scratch at any contents is owned at some value, -/
theorem owns_some (b : Ref sig .tc) :
    iprop(∃ f : Buf (Elt F) ((c : Thread nD τ).loc b), ((c : Thread nD τ).loc b) ↦{fullShare} f)
      ⊢ (iprop(∃ X : Buf (Elt F) ((c : Thread nD τ).loc b), owns (c : Thread nD τ) (Memref.whole b) fullShare X) : sProp 𝕄) := by
  iintro ⟨%f, H⟩
  iexists _
  iapply (owns_intro (c : Thread nD τ) (Memref.whole b) fullShare f)
  rw [show (Memref.whole b).view.set = Finset.univ from View.set_whole b]
  iexact H

/-- and the other way round. -/
theorem some_owns (b : Ref sig .tc) (X)
    : (owns (c : Thread nD τ) (Memref.whole b) fullShare X : sProp 𝕄)
      ⊢ iprop(∃ f : Buf (Elt F) ((c : Thread nD τ).loc b), ((c : Thread nD τ).loc b) ↦{fullShare} f) := by
  unfold owns
  rw [show (Memref.whole b).view.set = Finset.univ from View.set_whole b]
  iintro ⟨%f, -, H⟩
  iexists f
  iexact H

/-- The arrays the body reads by its own copies. -/
def H0 : Finset (Ref sig .tc) := {main_arg0}

theorem inv_in : Pipeline.ΦD (Val := Elt F) osem0 spec0 H0 (V m) c ⊢ inv m c 0 := by
  rw [Pipeline.ΦD_eq, scopedRest0_eq]
  unfold inv H0
  rw [bigSep_singleton]
  iintro ⟨⟨H0, H1, H2⟩, Hg, Hv, Hq⟩
  ihave Hi := (idle_of c (fqm m c)) $$ [H0 Hv Hq]
  · isplitl [H0]; · iexact H0
    isplitl [Hv]; · iexact Hv
    iexact Hq
  icases Hi with ⟨Hi, Hs⟩
  ihave H1 := (owns_some c cc0_scratch1) $$ H1
  ihave H2 := (owns_some c cc0_scratch2) $$ H2
  icases H1 with ⟨%X22, H1⟩
  icases H2 with ⟨%X23, H2⟩
  iexists X22
  iexists X23
  isplitr
  · ipureintro; exact fun h => absurd rfl h
  isplitl [H1]; · iexact H1
  isplitl [H2]; · iexact H2
  isplitl [Hi]; · iapply (ring_start c (fqm m c)); iexact Hi
  isplitl [Hs]; · iexact Hs
  iexact Hg

theorem inv_out : inv m c 24 ⊢ Pipeline.ΦD (Val := Elt F) osem0 spec0 H0 (V m) c := by
  rw [Pipeline.ΦD_eq, scopedRest0_eq]
  unfold inv H0
  rw [bigSep_singleton]
  iintro ⟨%X22, %X23, -, H1, H2, Hr, Hs, Hg⟩
  ihave Hi := (ring_end c (fqm m c)) $$ Hr
  ihave Hb := (idle_back c (fqm m c)) $$ [Hi Hs]
  · isplitl [Hi]; · iexact Hi
    iexact Hs
  icases Hb with ⟨H0, Hv, Hq⟩
  isplitl [H0 H1 H2]
  · isplitl [H0]; · iexact H0
    isplitl [H1]; · iapply (some_owns c cc0_scratch1 X22); iexact H1
    iapply (some_owns c cc0_scratch2 X23); iexact H2
  isplitl [Hg]; · iexact Hg
  isplitl [Hv]; · iexact Hv
  iexact Hq

set_option maxHeartbeats 800000 in
/-- @main around its region. -/
theorem main_around (𝒱₀ : Variants) : Pipeline.HMainK (Ix := Unit) (Name := ℕ) (U := Pipeline.UD sig nD τ) (Lvl := ℕ) cfgs 0
      defs₀ 𝒱₀ m (main (F := F)) (V m) (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region do not touch the queue. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  intro b hb
  rw [H0, Finset.mem_singleton] at hb
  subst hb
  simp only [hostOps1, List.mem_cons, List.mem_nil_iff, or_false] at hop
  rcases hop with rfl | rfl
  all_goals
    simp only [StableHlo.unary_bufs, StableHlo.reshape_bufs, Finset.mem_insert, Finset.mem_singleton, not_or]
    exact ⟨StableHlo.devRef_ne_of_ne (by decide), StableHlo.devRef_ne_of_ne (by decide)⟩

set_option backward.isDefEq.respectTransparency.types false in
/-- The run: the arrays as the pipeline leaves them, the lines after it run, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0
    (by decide) m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := main_around m Variants.none) (hA := A_eq m)
    (hin := fun c => inv_in m c) (hout := fun c => inv_out m c)

/-- A buffer that is no window's array and no result is, at the end, as launched up to the region. -/
theorem tail_keeps (b : Ref sig .tc) (h1 : b ≠ main_v23) (h2 : b ≠ main_v24) (hw : ∀ w, Pipeline.arrRef spec0 w ≠ b) :
    Pipeline.afterTail₀ cfgs (dats m) 0 (V0 m) [hostOps1] c b = V m c b := by
  unfold Pipeline.afterTail₀
  rw [StableHlo.after_of_forall_not_mem _ _ (List.forall_iff_forall_mem.mp (by
    simp only [hostOps1, List.flatten_cons, List.flatten_nil, List.append_nil, List.Forall, StableHlo.unary_writes,
      StableHlo.reshape_writes, Finset.mem_singleton]
    exact ⟨StableHlo.devRef_ne_of_ne h1, StableHlo.devRef_ne_of_ne h2⟩)),
    Pipeline.withArrays_of_ne _ c (V0 m c) _ b hw]

/-- An array no window stages ends as the region found it. -/
theorem kept_rest {r : PUnit × MemSt nD τ sig (Elt F)}
    (h : Pipeline.FramePost cfgs (dats m) 0 (Pipeline.afterTail₀ cfgs (dats m) 0 (V0 m) [hostOps1]) r)
    (b : Ref sig .tc) (hb : b ∈ Pipeline.restRefs sig spec0) (h1 : b ≠ main_v23) (h2 : b ≠ main_v24)
    (hw : ∀ w, Pipeline.arrRef spec0 w ≠ b) : r.2.mem ((c.tc : Thread nD τ).loc b) = V m c b :=
  ((h c).2 b hb).trans (tail_keeps m c b h1 h2 hw)

/-- An array an input window stages too. -/
theorem kept_win {r : PUnit × MemSt nD τ sig (Elt F)}
    (h : Pipeline.FramePost cfgs (dats m) 0 (Pipeline.afterTail₀ cfgs (dats m) 0 (V0 m) [hostOps1]) r)
    (w : Fin cfg0.W) (hw : (cfg0.win w).isOut = false) :
    r.2.mem ((spec0 w).arr.view.loc (c.tc : Thread nD τ)) = V m c (Pipeline.arrRef spec0 w) :=
  ((h c).1 w).trans (((dats m 0 c).arrAt_in w hw _).trans (A_eq m c w))

/-- Every argument array ends as it was launched, and every counter at zero. -/
theorem kept {r : PUnit × MemSt nD τ sig (Elt F)}
    (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16) :=
  ⟨(kept_rest m c h main_arg0 (Pipeline.mem_restRefs_of main_arg0 (by decide) (by decide)) (by decide) (by decide) (by decide)).trans (V_main_arg0 m c),
   (kept_rest m c h main_arg1 (Pipeline.mem_restRefs_of main_arg1 (by decide) (by decide)) (by decide) (by decide) (by decide)).trans (V_main_arg1 m c),
   (kept_rest m c h main_arg2 (Pipeline.mem_restRefs_of main_arg2 (by decide) (by decide)) (by decide) (by decide) (by decide)).trans (V_main_arg2 m c),
   (kept_rest m c h main_arg3 (Pipeline.mem_restRefs_of main_arg3 (by decide) (by decide)) (by decide) (by decide) (by decide)).trans (V_main_arg3 m c),
   (kept_rest m c h main_arg4 (Pipeline.mem_restRefs_of main_arg4 (by decide) (by decide)) (by decide) (by decide) (by decide)).trans (V_main_arg4 m c),
   (kept_win m c h 4 rfl).trans (V_main_arg5 m c),
   (kept_rest m c h main_arg6 (Pipeline.mem_restRefs_of main_arg6 (by decide) (by decide)) (by decide) (by decide) (by decide)).trans (V_main_arg6 m c),
   (kept_rest m c h main_arg7 (Pipeline.mem_restRefs_of main_arg7 (by decide) (by decide)) (by decide) (by decide) (by decide)).trans (V_main_arg7 m c),
   (kept_rest m c h main_arg8 (Pipeline.mem_restRefs_of main_arg8 (by decide) (by decide)) (by decide) (by decide) (by decide)).trans (V_main_arg8 m c),
   (kept_win m c h 9 rfl).trans (V_main_arg9 m c),
   (kept_rest m c h main_arg10 (Pipeline.mem_restRefs_of main_arg10 (by decide) (by decide)) (by decide) (by decide) (by decide)).trans (V_main_arg10 m c),
   (kept_win m c h 11 rfl).trans (V_main_arg11 m c),
   (kept_rest m c h main_arg12 (Pipeline.mem_restRefs_of main_arg12 (by decide) (by decide)) (by decide) (by decide) (by decide)).trans (V_main_arg12 m c),
   (kept_rest m c h main_arg13 (Pipeline.mem_restRefs_of main_arg13 (by decide) (by decide)) (by decide) (by decide) (by decide)).trans (V_main_arg13 m c),
   (kept_rest m c h main_arg14 (Pipeline.mem_restRefs_of main_arg14 (by decide) (by decide)) (by decide) (by decide) (by decide)).trans (V_main_arg14 m c),
   (kept_win m c h 15 rfl).trans (V_main_arg15 m c),
   (kept_rest m c h main_arg16 (Pipeline.mem_restRefs_of main_arg16 (by decide) (by decide)) (by decide) (by decide) (by decide)).trans (V_main_arg16 m c)⟩

/-- The program runs to its end, with every argument array as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun _ h => ⟨fun c => kept m h.1 c, h.2⟩) (run_main m ρ)

end Cert.KernelIdeal.Hand

end
-- ==== Proof.SameText.lean ====
/-
The kernel and its idealization are the same text: its body table and its @main are equal, whatever the float values. So
a run of the one is a run of the other.
-/
module

public import proofs.«01_k».proof.Defs
public import proofs.«01_k».proof.Proof.Run
public import proofs.«01_k».proof.Proof.Gen.Kernel
public import proofs.«01_k».proof.Proof.Gen.KernelIdeal

@[expose] public section

noncomputable section

namespace Cert.Proof

open Idealize.ShloMosaic Idealize.SL.Sem

variable {F : FTy → Type} [FloatOps F]

/-- The body is one function. -/
theorem same_body : (@Cert.Kernel.cc0_wave_decoder_step F _ Cert.Kernel.Gen.facts)
    = @Cert.KernelIdeal.cc0_wave_decoder_step F _ Cert.KernelIdeal.Gen.facts := rfl

set_option maxHeartbeats 4000000 in
/-- The body table's one row is. -/
theorem same_row : (Cert.Kernel.defs₀ (F := F)) = (Cert.KernelIdeal.defs₀ (F := F)) := by
  unfold Cert.Kernel.defs₀ Cert.KernelIdeal.defs₀
  refine congrArg Defs.onTc (funext fun l => funext fun a => ?_)
  match l, a with
  | ⟨0, _⟩, (t, s) =>
    dsimp only
    rw [same_body]
    rfl

/-- The whole body table is. -/
theorem same_defs : (Cert.Kernel.defs (F := F)) = (Cert.KernelIdeal.defs (F := F)) :=
  congrArg (Pipeline.defs Cert.KernelIdeal.pcfgs) same_row

set_option maxHeartbeats 2000000 in
/-- @main is. -/
theorem same_main : (Cert.Kernel.main (F := F)) = (Cert.KernelIdeal.main (F := F)) := by
  funext c
  unfold Cert.Kernel.main Cert.KernelIdeal.main
  rfl

/-- The idealization runs, leaves its arguments, and every counter ends at zero. -/
theorem frame_ideal : Cert.quiescent_KernelIdeal := fun m g _ => Cert.KernelIdeal.Hand.frame m g

set_option maxHeartbeats 4000000 in
/-- So does the kernel itself. -/
theorem frame_kernel : Cert.quiescent_Kernel := fun m g _ => by
  have h := Cert.KernelIdeal.Hand.frame (F := Bits) m g
  rw [← same_defs, ← same_main] at h
  exact h

end Cert.Proof

end
-- ==== Proof.Formula.lean ====
/-
The problem as formulas over single entries: the network's current vector, its skip vector and its result, for one row
of the batch, as the extended reals the arguments name. Both programs are shown to compute these.
-/
module

public import proofs.«01_k».proof.Proof.Gen.KernelIdeal
public import Idealize.ShloMosaic.Lib.Pointwise

@[expose] public section

noncomputable section

namespace Cert.WaveNet

open Cert.KernelIdeal
open Idealize.ShloMosaic

/-- The seventeen arguments. -/
structure Args where
  queues : FVec Ideal S24x256x32x256 .f32
  x : FVec Ideal S256x1x1 .f32
  num : FVec Ideal S256x8x1 .f32
  cat : IVec S256x1x1 32
  emb : FVec Ideal S1000x16 .f32
  wIn : FVec Ideal S32x25 .f32
  bIn : FVec Ideal S32 .f32
  wConv : FVec Ideal S24x64x32x2 .f32
  bConv : FVec Ideal S24x64 .f32
  wRes : FVec Ideal S24x32x32 .f32
  bRes : FVec Ideal S24x32 .f32
  wSkip : FVec Ideal S24x32x32 .f32
  bSkip : FVec Ideal S24x32 .f32
  wO1 : FVec Ideal S128x768 .f32
  bO1 : FVec Ideal S128 .f32
  wO2 : FVec Ideal S1x128 .f32
  bO2 : FVec Ideal S1 .f32

/-- The dilated convolution before its activation: two taps of 32 channels into 64. -/
def conv (tap cur : Fin 32 → EReal) (w0 w1 : Fin 64 → Fin 32 → EReal) (b : Fin 64 → EReal) (o : Fin 64) : EReal :=
  (∑ j, tap j * w0 o j) + (∑ j, cur j * w1 o j) + b o

/-- The gate: the first 32 channels' tanh times the last 32 channels' logistic function. -/
def gate (z : Fin 64 → EReal) (k : Fin 32) : EReal :=
  Ideal.tanh (z ⟨k.val, by omega⟩) * Ideal.div 1 (1 + Ideal.exp (-(z ⟨32 + k.val, by omega⟩)))

/-- A dense layer of 32 channels. -/
def dense (g : Fin 32 → EReal) (w : Fin 32 → Fin 32 → EReal) (b : Fin 32 → EReal) (o : Fin 32) : EReal :=
  (∑ j, g j * w o j) + b o

/-- The row of a queue of 256 that a step's older tap reads. -/
def tapRow (n : Fin 24) : Fin 256 := ⟨256 - 2 ^ (n.val % 8), by have := Nat.one_le_two_pow (n := n.val % 8); omega⟩

/-- The column of the first output layer that channel `j` of step `n` feeds. -/
def col (n : Fin 24) (j : Fin 32) : Fin 768 := ⟨n.val * 32 + j.val, by omega⟩

namespace Args

variable (A : Args)

/-- The gated vector of step `n` on the current vector `cur`, for batch row `b`. -/
def gated (n : Fin 24) (cur : Fin 32 → EReal) (b : Fin 256) : Fin 32 → EReal :=
  gate (conv (fun j => A.queues (ix4 n b j (tapRow n))) cur (fun o j => A.wConv (ix4 n o j 0))
    (fun o j => A.wConv (ix4 n o j 1)) (fun o => A.bConv (ix2 n o)))

/-- The input's embedding row: the category's row of the table. -/
def embRow (b : Fin 256) (r : Fin 16) : EReal :=
  A.emb (ix2 ⟨(A.cat (ix3 b 0 0)).toNat % 1000, Nat.mod_lt _ (by norm_num)⟩ r)

/-- The current vector before the first step: the input's 25 features through a dense layer. -/
def cur₀ (b : Fin 256) (o : Fin 32) : EReal :=
  (A.x (ix3 b 0 0) * A.wIn (ix2 o 0) + (∑ j : Fin 8, A.num (ix3 b j 0) * A.wIn (ix2 o ⟨1 + j.val, by omega⟩))
    + (∑ j : Fin 16, A.embRow b j * A.wIn (ix2 o ⟨9 + j.val, by omega⟩))) + A.bIn (ix1 o)

/-- The current vector before step `k`. -/
def cur (b : Fin 256) : ℕ → Fin 32 → EReal
  | 0 => A.cur₀ b
  | k + 1 => fun o =>
    let n : Fin 24 := ⟨k % 24, Nat.mod_lt _ (by norm_num)⟩
    dense (A.gated n (cur b k) b) (fun o j => A.wRes (ix3 n o j)) (fun o => A.bRes (ix2 n o)) o + cur b k o

/-- The skip vector of step `n`. -/
def skip (n : Fin 24) (b : Fin 256) (o : Fin 32) : EReal :=
  dense (A.gated n (A.cur b n.val) b) (fun o j => A.wSkip (ix3 n o j)) (fun o => A.bSkip (ix2 n o)) o

/-- One step's share of the first output layer. -/
def share (n : Fin 24) (b : Fin 256) (p : Fin 128) : EReal :=
  ∑ j : Fin 32, max (A.skip n b j) 0 * A.wO1 (ix2 p (col n j))

/-- The first result, for batch row `b`. -/
def out (b : Fin 256) : EReal :=
  (∑ p : Fin 128, max ((∑ n : Fin 24, A.share n b p) + A.bO1 (ix1 p)) 0 * A.wO2 (ix2 0 p)) + A.bO2 (ix1 0)

/-- The second result: each queue with the current vector behind it. -/
def newq (n : Fin 24) (b : Fin 256) (o : Fin 32) (r : Fin 257) : EReal :=
  if h : r.val < 256 then A.queues (ix4 n b o ⟨r.val, h⟩) else A.cur b n.val o

end Args

end Cert.WaveNet
-- ==== Proof.KernelStep.lean ====
/-
The kernel's computations of one step, entry by entry.
-/
module

public import proofs.«01_k».proof.Proof.Compute
public import proofs.«01_k».proof.Proof.Formula

@[expose] public section

set_option maxRecDepth 16384

noncomputable section

namespace Cert.KernelIdeal.Hand

open Cert.KernelIdeal Cert.KernelIdeal.Gen
open Idealize.ShloMosaic Idealize.ShloMosaic.TcCoe

/-! ### The gate -/

theorem exp_nonneg (x : EReal) : 0 ≤ Ideal.exp x := by
  induction x using EReal.rec with
  | bot => exact le_rfl
  | top => exact le_top
  | coe r => exact EReal.coe_nonneg.mpr (Real.exp_pos r).le

/-- Dividing by `1 + exp x` is multiplying by its reciprocal. -/
theorem div_one_add_exp (a x : EReal) : Ideal.div a (1 + Ideal.exp x) = a * Ideal.div 1 (1 + Ideal.exp x) := by
  refine (Ideal.mul_one_div (fun h => ?_)).symm
  have h1 : (1 : EReal) ≤ 1 + Ideal.exp x := le_add_of_nonneg_right (exp_nonneg x)
  rw [h] at h1
  exact absurd h1 (by norm_num)

/-! ### One step -/

/-- The staged block, entry by entry: the queue's rows, the current vector behind them. -/
theorem newqV_at (q : Vec Ideal S1x32x256x256 .f32) (cur : Vec Ideal S32x256 .f32) (r : Fin 257) (ch : Fin 32) (b : Fin 256) :
    newqV (F := Ideal) q cur (ix4 0 r ch b) = if h : r.val < 256 then q (ix4 0 ch b ⟨r.val, h⟩) else cur (ix2 ch b) := by
  unfold newqV
  by_cases h : r.val < 256
  · rw [dif_pos h]; exact (dif_pos h).trans (by pointwise [k0_pay6])
  · rw [dif_neg h]; exact (dif_neg h).trans (by pointwise [k0_pay7])

/-- The older tap's row of the staged block. -/
theorem tapV_at (i : grid0.Coords) (q : Vec Ideal S1x32x256x256 .f32) (cur : Vec Ideal S32x256 .f32) (ch : Fin 32) (b : Fin 256) :
    tapV (F := Ideal) i q cur (ix4 0 0 ch b) = q (ix4 0 ch b ⟨tapRow i, tapRow_lt i⟩) := by
  have h := newqV_at q cur ⟨tapRow i, (tapRow_lt i).trans (by norm_num)⟩ ch b
  rw [dif_pos (tapRow_lt i)] at h
  refine Eq.trans (congrArg (newqV q cur) (funext fun a => Fin.ext ?_)) h
  fin_cases a
  · rfl
  · show tapRow i + 1 * 0 = tapRow i; omega
  · show 0 + 1 * ch.val = ch.val; omega
  · show 0 + 1 * b.val = b.val; omega

variable (i : grid0.Coords) (q : Vec Ideal S1x32x256x256 .f32) (cur : Vec Ideal S32x256 .f32) (w0 w1 : Vec Ideal S1x64x32 .f32)
  (bc : Vec Ideal S1x64x1 .f32)

/-- The gated vector of one batch row, from the blocks of a step. -/
def gatedV (b : Fin 256) : Fin 32 → EReal :=
  WaveNet.gate (WaveNet.conv (fun j => q (ix4 0 j b ⟨tapRow i, tapRow_lt i⟩)) (fun j => cur (ix2 j b)) (fun o j => w0 (ix3 0 o j))
    (fun o j => w1 (ix3 0 o j)) (fun o => bc (ix3 0 o 0)))

theorem zV_at (o : Fin 64) (b : Fin 256) : zV (F := Ideal) i q cur w0 w1 (ix2 o b)
    = (∑ j, q (ix4 0 j b ⟨tapRow i, tapRow_lt i⟩) * w0 (ix3 0 o j)) + ∑ j, cur (ix2 j b) * w1 (ix3 0 o j) := by
  unfold zV
  pointwise [k0_pay16, k0_pay8]
  exact congrArg₂ (· + ·) (Finset.sum_congr rfl fun j _ => (mul_comm _ _).trans (congrArg (· * w0 (ix3 0 o j)) (tapV_at i q cur j b)))
    (Finset.sum_congr rfl fun j _ => mul_comm _ _)

theorem gated_at (ch : Fin 32) (b : Fin 256) :
    k0_pay17 (F := Ideal) (zV i q cur w0 w1) bc (ix2 ch b) = gatedV i q cur w0 w1 bc b ch := by
  pointwise [k0_pay17]
  rw [div_one_add_exp, zero_sub, zV_at, zV_at]
  rfl

/-- The next current vector. -/
theorem curV_at (wr : Vec Ideal S1x32x32 .f32) (br : Vec Ideal S1x32x1 .f32) (ch : Fin 32) (b : Fin 256) :
    curV (F := Ideal) i q cur w0 w1 bc wr br (ix2 ch b)
      = WaveNet.dense (gatedV i q cur w0 w1 bc b) (fun o j => wr (ix3 0 o j)) (fun o => br (ix3 0 o 0)) ch + cur (ix2 ch b) := by
  unfold curV
  pointwise [k0_pay1, k0_pay19, k0_pay20]
  simp only [gated_at]
  exact congrArg (· + br (ix3 0 ch 0) + cur (ix2 ch b)) (Finset.sum_congr rfl fun j _ => mul_comm _ _)

/-- The next accumulator. -/
theorem accV_at (acc : Vec Ideal S128x256 .f32) (ws : Vec Ideal S1x32x32 .f32) (bs : Vec Ideal S1x32x1 .f32)
    (wo : Vec Ideal S1x128x32 .f32) (p : Fin 128) (b : Fin 256) :
    accV (F := Ideal) i q cur acc w0 w1 bc ws bs wo (ix2 p b) = acc (ix2 p b)
      + ∑ j, max (WaveNet.dense (gatedV i q cur w0 w1 bc b) (fun o j => ws (ix3 0 o j)) (fun o => bs (ix3 0 o 0)) j) 0 * wo (ix3 0 p j) := by
  unfold accV
  pointwise [k0_pay18]
  simp only [gated_at]
  refine congrArg (acc (ix2 p b) + ·) (Finset.sum_congr rfl fun j _ => ?_)
  refine (mul_comm _ _).trans (congrArg (fun z => max (z + bs (ix3 0 j 0)) 0 * wo (ix3 0 p j)) ?_)
  exact Finset.sum_congr rfl fun k _ => mul_comm _ _

/-! ### The first vector and the output -/

/-- The one-hot column of a category in range, as numbers. -/
theorem onehot (k : Fin 1000) (w : BitVec 32) (hw : w.toNat < 1000) :
    (FloatOps.sitofp (F := Ideal) .f32 (BitVec.setWidth 32 (IntOp.cmpi .eq (BitVec.ofNat 32 k.val) w)) : EReal)
      = if k = ⟨w.toNat, hw⟩ then 1 else 0 := by
  have hk := k.isLt
  by_cases h : k = ⟨w.toNat, hw⟩
  · have e : BitVec.ofNat 32 k.val = w := by
      rw [h]; exact BitVec.eq_of_toNat_eq (by rw [BitVec.toNat_ofNat]; exact Nat.mod_eq_of_lt w.isLt)
    rw [if_pos h, e]
    show (((BitVec.setWidth 32 (IntOp.cmpi .eq w w)).toInt : ℝ) : EReal) = 1
    rw [show BitVec.setWidth 32 (IntOp.cmpi .eq w w) = 1#32 from by simp [IntOp.cmpi]]
    norm_num
  · have e : BitVec.ofNat 32 k.val ≠ w := fun e => h (Fin.ext (by
      have := congrArg BitVec.toNat e
      rw [BitVec.toNat_ofNat] at this
      show k.val = w.toNat
      omega))
    rw [if_neg h]
    show (((BitVec.setWidth 32 (IntOp.cmpi .eq _ w)).toInt : ℝ) : EReal) = 0
    rw [show BitVec.setWidth 32 (IntOp.cmpi .eq (BitVec.ofNat 32 k.val) w) = 0#32 from by
      show BitVec.setWidth 32 (BitVec.ofBool (BitVec.ofNat 32 k.val == w)) = 0#32
      rw [beq_eq_false_iff_ne.mpr e]; rfl]
    norm_num

/-- The current vector before the first step. -/
theorem first_at (x : Vec Ideal S1x1x256 .f32) (num : Vec Ideal S1x8x256 .f32) (cat : Vec Ideal S1x1x256 .i32)
    (emb : Vec Ideal S16x1000 .f32) (w : Vec Ideal S32x25 .f32) (bias : Vec Ideal S32x1 .f32) (ch : Fin 32) (b : Fin 256)
    (hc : (cat (ix3 0 0 b) : BitVec 32).toNat < 1000) :
    k0_pay3 (F := Ideal) x num cat emb w bias (ix2 ch b)
      = (x (ix3 0 0 b) * w (ix2 ch 0) + (∑ j : Fin 8, num (ix3 0 j b) * w (ix2 ch ⟨1 + j.val, by omega⟩))
        + (∑ j : Fin 16, emb (ix2 j ⟨(cat (ix3 0 0 b) : BitVec 32).toNat, hc⟩) * w (ix2 ch ⟨9 + j.val, by omega⟩))) + bias (ix2 ch 0) := by
  pointwise [k0_pay3]
  simp only [onehot _ _ hc, mul_ite, mul_one, mul_zero, Finset.sum_ite_eq', Finset.mem_univ, if_true]
  simp only [mul_comm]

/-- The output row. -/
theorem last_at (acc : Vec Ideal S128x256 .f32) (b1 : Vec Ideal S128x1 .f32) (w2 : Vec Ideal S1x128 .f32) (b2 : Vec Ideal S1x1 .f32) (b : Fin 256) :
    k0_pay2 (F := Ideal) acc b1 w2 b2 (ix3 0 0 b)
      = (∑ p, max (acc (ix2 p b) + b1 (ix2 p 0)) 0 * w2 (ix2 0 p)) + b2 (ix2 0 0) := by
  pointwise [k0_pay2]
  exact congrArg (· + b2 (ix2 0 0)) (Finset.sum_congr rfl fun j _ => mul_comm _ _)

/-- The accumulator starts at zero. -/
theorem zero_at (p : Fin 128) (b : Fin 256) : k0_pay5 (k0_pay4 (F := Ideal)) (ix2 p b) = 0 := by
  pointwise [k0_pay5, k0_pay4]

end Cert.KernelIdeal.Hand
-- ==== Proof.KernelBlocks.lean ====
/-
The blocks a grid point reads, and the carried vectors after each step, as entries of the arguments.
-/
module

public import proofs.«01_k».proof.Proof.KernelStep
public import proofs.«01_k».proof.Proof.Run
public import Idealize.ShloMosaic.Lib.Pipeline.ValueKit
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The arguments in the kernel's memory. -/
def args : WaveNet.Args where
  queues := m ((c.tc : Thread nD τ).loc main_arg0)
  x := m ((c.tc : Thread nD τ).loc main_arg1)
  num := m ((c.tc : Thread nD τ).loc main_arg2)
  cat := m ((c.tc : Thread nD τ).loc main_arg3)
  emb := m ((c.tc : Thread nD τ).loc main_arg4)
  wIn := m ((c.tc : Thread nD τ).loc main_arg5)
  bIn := m ((c.tc : Thread nD τ).loc main_arg6)
  wConv := m ((c.tc : Thread nD τ).loc main_arg7)
  bConv := m ((c.tc : Thread nD τ).loc main_arg8)
  wRes := m ((c.tc : Thread nD τ).loc main_arg9)
  bRes := m ((c.tc : Thread nD τ).loc main_arg10)
  wSkip := m ((c.tc : Thread nD τ).loc main_arg11)
  bSkip := m ((c.tc : Thread nD τ).loc main_arg12)
  wO1 := m ((c.tc : Thread nD τ).loc main_arg13)
  bO1 := m ((c.tc : Thread nD τ).loc main_arg14)
  wO2 := m ((c.tc : Thread nD τ).loc main_arg15)
  bO2 := m ((c.tc : Thread nD τ).loc main_arg16)

/-- Where each window's block stands at each point. -/
theorem places : ∀ t : Fin cfg0.N, win0_0.index t = ![0, 0, 0] ∧ win0_1.index t = ![0, 0, 0] ∧ win0_2.index t = ![0, 0, 0]
    ∧ win0_3.index t = ![0, 0] ∧ win0_4.index t = ![0, 0] ∧ win0_5.index t = ![0, 0]
    ∧ win0_6.index t = ![t.val, 0, 0] ∧ win0_7.index t = ![t.val, 0, 0] ∧ win0_8.index t = ![t.val, 0, 0]
    ∧ win0_9.index t = ![t.val, 0, 0] ∧ win0_10.index t = ![t.val, 0, 0] ∧ win0_11.index t = ![t.val, 0, 0]
    ∧ win0_12.index t = ![t.val, 0, 0] ∧ win0_13.index t = ![t.val, 0, 0]
    ∧ win0_14.index t = ![0, 0] ∧ win0_15.index t = ![0, 0] ∧ win0_16.index t = ![0, 0] ∧ win0_17.index t = ![0, 0, 0]
    ∧ win0_18.index t = ![t.val, 0, 0, 0] :=
  (by decide +kernel : ∀ t : Fin grid0.N, _)

variable (t : Fin cfg0.N) (n : Fin 24) (hn : t.val = n.val)

/-! ### The arrays the lines before the region make, entry by entry -/

theorem v2_at (b : Fin 256) : V m c main_v2 (ix3 0 0 b) = (args m c).x (ix3 b 0 0) := by
  unfold V V0
  after_reads_at
  rfl

theorem v5_at (j : Fin 8) (b : Fin 256) : V m c main_v5 (ix3 0 j b) = (args m c).num (ix3 b j 0) := by
  unfold V V0
  after_reads_at
  rfl

theorem v8_at (b : Fin 256) : V m c main_v8 (ix3 0 0 b) = (args m c).cat (ix3 b 0 0) := by
  unfold V V0
  after_reads_at
  rfl

theorem v21_at (j : Fin 16) (k : Fin 1000) : V m c main_v21 (ix2 j k) = (args m c).emb (ix2 k j) := by
  unfold V V0
  after_reads_at
  rfl

theorem v18_at (o : Fin 32) : V m c main_v18 (ix2 o 0) = (args m c).bIn (ix1 o) := by
  unfold V V0
  after_reads_at
  rfl

theorem v10_at (o : Fin 64) (j : Fin 32) : V m c main_v10 (ix3 n o j) = (args m c).wConv (ix4 n o j 0) := by
  unfold V V0
  after_reads_at
  rfl

theorem v12_at (o : Fin 64) (j : Fin 32) : V m c main_v12 (ix3 n o j) = (args m c).wConv (ix4 n o j 1) := by
  unfold V V0
  after_reads_at
  rfl

theorem v13_at (o : Fin 64) : V m c main_v13 (ix3 n o 0) = (args m c).bConv (ix2 n o) := by
  unfold V V0
  after_reads_at
  rfl

theorem v14_at (o : Fin 32) : V m c main_v14 (ix3 n o 0) = (args m c).bRes (ix2 n o) := by
  unfold V V0
  after_reads_at
  rfl

theorem v15_at (o : Fin 32) : V m c main_v15 (ix3 n o 0) = (args m c).bSkip (ix2 n o) := by
  unfold V V0
  after_reads_at
  rfl

theorem v17_at (p : Fin 128) (j : Fin 32) : V m c main_v17 (ix3 n p j) = (args m c).wO1 (ix2 p (WaveNet.col n j)) := by
  unfold V V0
  after_reads_at
  rfl

theorem v19_at (p : Fin 128) : V m c main_v19 (ix2 p 0) = (args m c).bO1 (ix1 p) := by
  unfold V V0
  after_reads_at
  rfl

theorem v20_at  : V m c main_v20 (ix2 0 0) = (args m c).bO2 (ix1 0) := by
  unfold V V0
  after_reads_at
  rfl

/-! ### The blocks, entry by entry -/

theorem x0_at (b : Fin 256) : x0 m c t (ix3 0 0 b) = (args m c).x (ix3 b 0 0) := by
  refine Eq.trans ?_ (v2_at m c b)
  show iblk m c 0 t (ix3 0 0 b) = V m c main_v2 (ix3 0 0 b)
  blk_ext [iblk, places t]

theorem x1_at (j : Fin 8) (b : Fin 256) : x1 m c t (ix3 0 j b) = (args m c).num (ix3 b j 0) := by
  refine Eq.trans ?_ (v5_at m c j b)
  show iblk m c 1 t (ix3 0 j b) = V m c main_v5 (ix3 0 j b)
  blk_ext [iblk, places t]

theorem x2_at (b : Fin 256) : x2 m c t (ix3 0 0 b) = (args m c).cat (ix3 b 0 0) := by
  refine Eq.trans ?_ (v8_at m c b)
  show iblk m c 2 t (ix3 0 0 b) = V m c main_v8 (ix3 0 0 b)
  blk_ext [iblk, places t]

theorem x3_at (j : Fin 16) (k : Fin 1000) : x3 m c t (ix2 j k) = (args m c).emb (ix2 k j) := by
  refine Eq.trans ?_ (v21_at m c j k)
  show iblk m c 3 t (ix2 j k) = V m c main_v21 (ix2 j k)
  blk_ext [iblk, places t]

theorem x4_at (o : Fin 32) (k : Fin 25) : x4 m c t (ix2 o k) = (args m c).wIn (ix2 o k) := by
  refine Eq.trans ?_ (congrFun (V_main_arg5 m c) (ix2 o k))
  show iblk m c 4 t (ix2 o k) = V m c main_arg5 (ix2 o k)
  blk_ext [iblk, places t]

theorem x5_at (o : Fin 32) : x5 m c t (ix2 o 0) = (args m c).bIn (ix1 o) := by
  refine Eq.trans ?_ (v18_at m c o)
  show iblk m c 5 t (ix2 o 0) = V m c main_v18 (ix2 o 0)
  blk_ext [iblk, places t]

include hn in
theorem x6_at (o : Fin 64) (j : Fin 32) : x6 m c t (ix3 0 o j) = (args m c).wConv (ix4 n o j 0) := by
  refine Eq.trans ?_ (v10_at m c n o j)
  show iblk m c 6 t (ix3 0 o j) = V m c main_v10 (ix3 n o j)
  blk_ext [iblk, places t]

include hn in
theorem x7_at (o : Fin 64) (j : Fin 32) : x7 m c t (ix3 0 o j) = (args m c).wConv (ix4 n o j 1) := by
  refine Eq.trans ?_ (v12_at m c n o j)
  show iblk m c 7 t (ix3 0 o j) = V m c main_v12 (ix3 n o j)
  blk_ext [iblk, places t]

include hn in
theorem x8_at (o : Fin 64) : x8 m c t (ix3 0 o 0) = (args m c).bConv (ix2 n o) := by
  refine Eq.trans ?_ (v13_at m c n o)
  show iblk m c 8 t (ix3 0 o 0) = V m c main_v13 (ix3 n o 0)
  blk_ext [iblk, places t]

include hn in
theorem x9_at (o j : Fin 32) : x9 m c t (ix3 0 o j) = (args m c).wRes (ix3 n o j) := by
  refine Eq.trans ?_ (congrFun (V_main_arg9 m c) (ix3 n o j))
  show iblk m c 9 t (ix3 0 o j) = V m c main_arg9 (ix3 n o j)
  blk_ext [iblk, places t]

include hn in
theorem x10_at (o : Fin 32) : x10 m c t (ix3 0 o 0) = (args m c).bRes (ix2 n o) := by
  refine Eq.trans ?_ (v14_at m c n o)
  show iblk m c 10 t (ix3 0 o 0) = V m c main_v14 (ix3 n o 0)
  blk_ext [iblk, places t]

include hn in
theorem x11_at (o j : Fin 32) : x11 m c t (ix3 0 o j) = (args m c).wSkip (ix3 n o j) := by
  refine Eq.trans ?_ (congrFun (V_main_arg11 m c) (ix3 n o j))
  show iblk m c 11 t (ix3 0 o j) = V m c main_arg11 (ix3 n o j)
  blk_ext [iblk, places t]

include hn in
theorem x12_at (o : Fin 32) : x12 m c t (ix3 0 o 0) = (args m c).bSkip (ix2 n o) := by
  refine Eq.trans ?_ (v15_at m c n o)
  show iblk m c 12 t (ix3 0 o 0) = V m c main_v15 (ix3 n o 0)
  blk_ext [iblk, places t]

include hn in
theorem x13_at (p : Fin 128) (j : Fin 32) : x13 m c t (ix3 0 p j) = (args m c).wO1 (ix2 p (WaveNet.col n j)) := by
  refine Eq.trans ?_ (v17_at m c n p j)
  show iblk m c 13 t (ix3 0 p j) = V m c main_v17 (ix3 n p j)
  blk_ext [iblk, places t]

theorem x14_at (p : Fin 128) : x14 m c t (ix2 p 0) = (args m c).bO1 (ix1 p) := by
  refine Eq.trans ?_ (v19_at m c p)
  show iblk m c 14 t (ix2 p 0) = V m c main_v19 (ix2 p 0)
  blk_ext [iblk, places t]

theorem x15_at (p : Fin 128) : x15 m c t (ix2 0 p) = (args m c).wO2 (ix2 0 p) := by
  refine Eq.trans ?_ (congrFun (V_main_arg15 m c) (ix2 0 p))
  show iblk m c 15 t (ix2 0 p) = V m c main_arg15 (ix2 0 p)
  blk_ext [iblk, places t]

theorem x16_at  : x16 m c t (ix2 0 0) = (args m c).bO2 (ix1 0) := by
  refine Eq.trans ?_ (v20_at m c )
  show iblk m c 16 t (ix2 0 0) = V m c main_v20 (ix2 0 0)
  blk_ext [iblk, places t]

/-! ### The carried vectors -/

/-- The step of a grid point. -/
theorem step_eq : step (grid0.coords t) = ⟨t.val, point_lt t⟩ := Fin.ext (step_coords t)

/-- The tap's row at a point. -/
theorem tapRow_eq : (⟨tapRow (grid0.coords t), tapRow_lt _⟩ : Fin 256) = WaveNet.tapRow ⟨t.val, point_lt t⟩ := by
  refine Fin.ext ?_
  show 256 - 2 ^ ((grid0.coords t 0).val % 8) = 256 - 2 ^ (t.val % 8)
  rw [show (grid0.coords t 0).val = t.val from step_coords t]

/-- The gated vector of a step, from the arguments. -/
theorem gated_args (cur : Vec Ideal S32x256 .f32) (b : Fin 256) :
    gatedV (grid0.coords t) (blk (fqm m c) (step (grid0.coords t))) cur (x6 m c t) (x7 m c t) (x8 m c t) b
      = (args m c).gated ⟨t.val, point_lt t⟩ (fun j => cur (ix2 j b)) b := by
  unfold gatedV WaveNet.Args.gated
  simp only [x6_at m c t ⟨t.val, point_lt t⟩ rfl, x7_at m c t ⟨t.val, point_lt t⟩ rfl, x8_at m c t ⟨t.val, point_lt t⟩ rfl]
  rw [tapRow_eq, step_eq]
  exact congrArg (fun f => WaveNet.gate (WaveNet.conv f _ _ _ _)) (funext fun j => congrFun (V_main_arg0 m c) _)

variable (hcat : ∀ b : Fin 256, ((args m c).cat (ix3 b 0 0) : BitVec 32).toNat < 1000)

include hcat in
/-- The vector the first step finds. -/
theorem carry_zero (ch : Fin 32) (b : Fin 256) : (carry m c 0).1 (ix2 ch b) = (args m c).cur₀ b ch := by
  have hc : (x2 m c (tp 0) (ix3 0 0 b) : BitVec 32).toNat < 1000 := (congrArg BitVec.toNat (x2_at m c (tp 0) b)).trans_lt (hcat b)
  refine (first_at (x0 m c (tp 0)) (x1 m c (tp 0)) (x2 m c (tp 0)) (x3 m c (tp 0)) (x4 m c (tp 0)) (x5 m c (tp 0)) ch b hc).trans ?_
  have e : (⟨(x2 m c (tp 0) (ix3 0 0 b) : BitVec 32).toNat, hc⟩ : Fin 1000)
      = ⟨((args m c).cat (ix3 b 0 0) : BitVec 32).toNat % 1000, Nat.mod_lt _ (by norm_num)⟩ :=
    Fin.ext ((congrArg BitVec.toNat (x2_at m c (tp 0) b)).trans (Nat.mod_eq_of_lt (hcat b)).symm)
  rw [e]
  simp only [x0_at, x1_at, x3_at, x4_at, x5_at]
  rfl

include hcat in
/-- The current vector before each step. -/
theorem carry_cur_at (k : ℕ) (ch : Fin 32) (b : Fin 256) : (carry m c k).1 (ix2 ch b) = (args m c).cur b k ch := by
  induction k generalizing ch with
  | zero => exact carry_zero m c hcat ch b
  | succ k ih =>
    rw [carry]
    refine (curV_at _ _ _ _ _ _ _ _ ch b).trans ?_
    rw [gated_args, funext ih, ih]
    simp only [x9_at m c (tp k) ⟨(tp k).val, point_lt _⟩ rfl, x10_at m c (tp k) ⟨(tp k).val, point_lt _⟩ rfl]
    rfl

include hcat in
/-- The accumulator before each step: the shares of the steps before it. -/
theorem carry_acc_at (k : ℕ) (hk : k ≤ 24) (p : Fin 128) (b : Fin 256) :
    (carry m c k).2 (ix2 p b) = ∑ s : Fin k, (args m c).share ⟨s.val, s.isLt.trans_le hk⟩ b p := by
  induction k with
  | zero => exact (zero_at p b).trans (Finset.sum_of_isEmpty _).symm
  | succ k ih =>
    have hp : (⟨(tp k).val, point_lt _⟩ : Fin 24) = ⟨k, hk⟩ := Fin.ext (Nat.mod_eq_of_lt hk)
    rw [carry, Fin.sum_univ_castSucc]
    refine (accV_at _ _ _ _ _ _ _ _ _ _ p b).trans ?_
    rw [gated_args, ih (Nat.le_of_succ_le hk)]
    simp only [x11_at m c (tp k) ⟨k, hk⟩ (Nat.mod_eq_of_lt hk), x12_at m c (tp k) ⟨k, hk⟩ (Nat.mod_eq_of_lt hk),
      x13_at m c (tp k) ⟨k, hk⟩ (Nat.mod_eq_of_lt hk), carry_cur_at m c hcat, hp]
    rfl

/-! ### What a point writes back -/

include hcat in
/-- The new queue block of a point. -/
theorem newqAt_at (r : Fin 257) (ch : Fin 32) (b : Fin 256) :
    newqAt m c t (ix4 0 r ch b) = (args m c).newq ⟨t.val, point_lt t⟩ b ch r := by
  unfold newqAt
  refine (newqV_at _ _ r ch b).trans ?_
  unfold WaveNet.Args.newq
  by_cases h : r.val < 256
  · rw [dif_pos h, dif_pos h, step_eq]
    exact congrFun (V_main_arg0 m c) _
  · rw [dif_neg h, dif_neg h]
    exact carry_cur_at m c hcat t.val ch b

include hcat in
/-- The output row of the last point. -/
theorem outAt_at (ht : t.val = 23) (b : Fin 256) : outAt m c t (ix3 0 0 b) = (args m c).out b := by
  unfold outAt
  refine (last_at _ _ _ _ b).trans ?_
  have e : ∀ p : Fin 128, (carry m c (t.val + 1)).2 (ix2 p b) = ∑ n : Fin 24, (args m c).share n b p := fun p =>
    (congrArg (fun k => (carry m c k).2 (ix2 p b)) (show t.val + 1 = 24 by omega)).trans (carry_acc_at m c hcat 24 le_rfl p b)
  refine congrArg₂ (· + ·) (Finset.sum_congr rfl fun p _ => ?_) (x16_at m c t)
  rw [e, x14_at, x15_at]

end Cert.KernelIdeal.Hand
-- ==== Proof.KernelValue.lean ====
/-
The kernel's two result arrays after the run, entry by entry, as the formula in the arguments.
-/
module

public import proofs.«01_k».proof.Proof.KernelBlocks

@[expose] public section

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)
variable (hcat : ∀ b, ((args m c).cat (ix3 b 0 0) : BitVec 32).toNat < 1000)

/-- The output window's array after the run. -/
def endOut : FVec Ideal S1x1x256 .f32 := fun i => (args m c).out (i 2)

/-- The queue window's array after the run. -/
def endQueues : FVec Ideal S24x257x32x256 .f32 := fun i => (args m c).newq (i 0) (i 3) (i 2) (i 1)

include hcat in
theorem final18 : (dats m 0 c).arrAt 18 cfg0.N = endQueues m c := by
  refine (dats m 0 c).arrAt_eq_of_covers 18 _ (by decide +kernel) fun t _ y => ?_
  blk_simp
  dsimp only [dats, leaves]
  obtain ⟨z, r, ch, b, rfl⟩ : ∃ (z : Fin 1) (r : Fin 257) (ch : Fin 32) (b : Fin 256), y = ix4 z r ch b :=
    ⟨y 0, y 1, y 2, y 3, by funext a; fin_cases a <;> rfl⟩
  obtain rfl : z = 0 := Subsingleton.elim _ _
  refine (newqAt_at m c t hcat r ch b).trans ?_
  show endQueues m c (ix4 ⟨t.val, point_lt t⟩ r ch b) = _
  blk_ext [places t]

include hcat in
theorem final17 : (dats m 0 c).arrAt 17 cfg0.N = endOut m c := by
  refine (dats m 0 c).arrAt_eq_of_covers 17 _ (by decide +kernel) fun t hf y => ?_
  have ht : t.val = 23 := by
    have := (flush0_17 t).mp hf
    have := point_lt t
    omega
  blk_simp
  dsimp only [dats, leaves]
  obtain ⟨z, z', b, rfl⟩ : ∃ (z z' : Fin 1) (b : Fin 256), y = ix3 z z' b :=
    ⟨y 0, y 1, y 2, by funext a; fin_cases a <;> rfl⟩
  obtain rfl : z = 0 := Subsingleton.elim _ _
  obtain rfl : z' = 0 := Subsingleton.elim _ _
  refine (outAt_at m c t hcat ht b).trans ?_
  show endOut m c (ix3 0 0 b) = _
  blk_ext [places t]

include hcat in
/-- The first result array at the end holds the network's output. -/
theorem tail_v23 (b : Fin 256) :
    (Pipeline.afterTail₀ cfgs (dats m) 0 (V0 m) [hostOps1] c main_v23 : FVec Ideal S256x1x1 .f32) (ix3 b 0 0)
    = (args m c).out b := by
  unfold Pipeline.afterTail₀
  after_reads_at
  have e := (Pipeline.withArrays_arr spec0 (by decide) c (V0 m c) (fun w => (dats m 0 c).arrAt w cfg0.N) 17).trans (final17 m c hcat)
  exact congrFun e (ix3 0 0 b)

include hcat in
/-- The second result array at the end holds the queues, each with the layer's input appended. -/
theorem tail_v24 (n : Fin 24) (b : Fin 256) (ch : Fin 32) (r : Fin 257) :
    (Pipeline.afterTail₀ cfgs (dats m) 0 (V0 m) [hostOps1] c main_v24 : FVec Ideal S24x256x32x257 .f32) (ix4 n b ch r)
    = (args m c).newq n b ch r := by
  unfold Pipeline.afterTail₀
  after_reads_at
  have e := (Pipeline.withArrays_arr spec0 (by decide) c (V0 m c) (fun w => (dats m 0 c).arrAt w cfg0.N) 18).trans (final18 m c hcat)
  exact congrFun e (ix4 n r ch b)

include hcat in
/-- After the run the first result is the formula's output. -/
theorem result_v23 {r : PUnit × MemSt nD τ sig (Elt Ideal)}
    (h : Pipeline.FramePost cfgs (dats m) 0 (Pipeline.afterTail₀ cfgs (dats m) 0 (V0 m) [hostOps1]) r) :
    (r.2.mem ((c.tc : Thread nD τ).loc main_v23) : FVec Ideal S256x1x1 .f32) = fun i => (args m c).out (i 0) := by
  refine ((h c).2 main_v23 (Pipeline.mem_restRefs_of main_v23 (by decide) (by decide))).trans (funext fun i => ?_)
  obtain ⟨b, z, z', rfl⟩ : ∃ (b : Fin 256) (z z' : Fin 1), i = ix3 b z z' :=
    ⟨i 0, i 1, i 2, by funext a; fin_cases a <;> rfl⟩
  obtain rfl : z = 0 := Subsingleton.elim _ _
  obtain rfl : z' = 0 := Subsingleton.elim _ _
  exact tail_v23 m c hcat b

include hcat in
/-- After the run the second result is the formula's new queues. -/
theorem result_v24 {r : PUnit × MemSt nD τ sig (Elt Ideal)}
    (h : Pipeline.FramePost cfgs (dats m) 0 (Pipeline.afterTail₀ cfgs (dats m) 0 (V0 m) [hostOps1]) r) :
    (r.2.mem ((c.tc : Thread nD τ).loc main_v24) : FVec Ideal S24x256x32x257 .f32)
      = fun i => (args m c).newq (i 0) (i 1) (i 2) (i 3) := by
  refine ((h c).2 main_v24 (Pipeline.mem_restRefs_of main_v24 (by decide) (by decide))).trans (funext fun i => ?_)
  obtain ⟨n, b, ch, q, rfl⟩ : ∃ (n : Fin 24) (b : Fin 256) (ch : Fin 32) (q : Fin 257), i = ix4 n b ch q :=
    ⟨i 0, i 1, i 2, i 3, by funext a; fin_cases a <;> rfl⟩
  exact tail_v24 m c hcat n b ch q

end Cert.KernelIdeal.Hand
-- ==== Proof.RefPick.lean ====
/-
The plain program's slices at the step's counter, entry by entry.
-/
module

public import proofs.«01_k».proof.Proof.Gen.ReferenceIdeal.Run
public import proofs.«01_k».proof.Proof.Formula
public import Idealize.ShloMosaic.Lib.Pointwise
public import Idealize.ShloMosaic.Lib.DynamicIndex
public import Idealize.ShloMosaic.Lib.WordCmp

@[expose] public section

set_option maxRecDepth 16384

noncomputable section

namespace Cert.ReferenceIdeal.Hand

open Cert.ReferenceIdeal Cert.ReferenceIdeal.Gen
open Idealize.ShloMosaic Idealize.ShloMosaic.TcCoe

/-- The counter's word at step `n`. -/
abbrev word (n : Fin 24) : IVec S_ 32 := constantI S_ 32 (BitVec.ofNat 32 n.val)

theorem word_toInt (n : Fin 24) (i : S_.Idx) : (word n i).toInt = (n.val : Int) :=
  toInt_ofNat_of_lt (by omega)

theorem clamp_eq {z : Int} {k d : Nat} (hz : z = (k : Int)) (hk : k ≤ d) : (min (max z 0) ((d : Nat) : Int)).toNat = k := by
  omega

variable (n : Fin 24)

theorem pick_queue (x : FVec Ideal S24x256x32x256 .f32) (b : Fin 256) (j : Fin 32) (r : Fin 256) :
    shapeCast S256x32x256 (Host.dynamicSlice S1x256x32x256 x (fun k => (((![word n, constantI S_ 32 0#32, constantI S_ 32 0#32, constantI S_ 32 0#32] : Fin 4 → (⟨S_, .i32⟩ : BufTy).Contents (Elt Ideal))) k (Shape.Idx.first h_S_)).toInt) sliceFits_S24x256x32x256_S1x256x32x256) shapeCasts_S1x256x32x256_S256x32x256 (ix3 b j r)
    = x (ix4 n b j r) := by
  rw [Host.dynamicSlice_eq_extractStridedSlice _ x _ ![n.val, 0, 0, 0] _ (by revert n; decide)
    (fun a => by fin_cases a <;> first | exact word_toInt n (Shape.Idx.first h_S_) | rfl)]
  pointwise

theorem pick_conv (x : FVec Ideal S24x64x32x2 .f32) (o : Fin 64) (j : Fin 32) (t : Fin 2) :
    shapeCast S64x32x2 (Host.dynamicSlice S1x64x32x2 x (fun k => (((![word n, constantI S_ 32 0#32, constantI S_ 32 0#32, constantI S_ 32 0#32] : Fin 4 → (⟨S_, .i32⟩ : BufTy).Contents (Elt Ideal))) k (Shape.Idx.first h_S_)).toInt) sliceFits_S24x64x32x2_S1x64x32x2) shapeCasts_S1x64x32x2_S64x32x2 (ix3 o j t)
    = x (ix4 n o j t) := by
  rw [Host.dynamicSlice_eq_extractStridedSlice _ x _ ![n.val, 0, 0, 0] _ (by revert n; decide)
    (fun a => by fin_cases a <;> first | exact word_toInt n (Shape.Idx.first h_S_) | rfl)]
  pointwise

theorem pick_bias (x : FVec Ideal S24x64 .f32) (o : Fin 64) :
    shapeCast S64 (Host.dynamicSlice S1x64 x (fun k => (((![word n, constantI S_ 32 0#32] : Fin 2 → (⟨S_, .i32⟩ : BufTy).Contents (Elt Ideal))) k (Shape.Idx.first h_S_)).toInt) sliceFits_S24x64_S1x64) shapeCasts_S1x64_S64 (ix1 o)
    = x (ix2 n o) := by
  rw [Host.dynamicSlice_eq_extractStridedSlice _ x _ ![n.val, 0] _ (by revert n; decide)
    (fun a => by fin_cases a <;> first | exact word_toInt n (Shape.Idx.first h_S_) | rfl)]
  pointwise

theorem pick_dense (x : FVec Ideal S24x32x32 .f32) (o j : Fin 32) :
    shapeCast S32x32 (Host.dynamicSlice S1x32x32 x (fun k => (((![word n, constantI S_ 32 0#32, constantI S_ 32 0#32] : Fin 3 → (⟨S_, .i32⟩ : BufTy).Contents (Elt Ideal))) k (Shape.Idx.first h_S_)).toInt) sliceFits_S24x32x32_S1x32x32) shapeCasts_S1x32x32_S32x32 (ix2 o j)
    = x (ix3 n o j) := by
  rw [Host.dynamicSlice_eq_extractStridedSlice _ x _ ![n.val, 0, 0] _ (by revert n; decide)
    (fun a => by fin_cases a <;> first | exact word_toInt n (Shape.Idx.first h_S_) | rfl)]
  pointwise

theorem pick_denseBias (x : FVec Ideal S24x32 .f32) (o : Fin 32) :
    shapeCast S32 (Host.dynamicSlice S1x32 x (fun k => (((![word n, constantI S_ 32 0#32] : Fin 2 → (⟨S_, .i32⟩ : BufTy).Contents (Elt Ideal))) k (Shape.Idx.first h_S_)).toInt) sliceFits_S24x32_S1x32) shapeCasts_S1x32_S32 (ix1 o)
    = x (ix2 n o) := by
  rw [Host.dynamicSlice_eq_extractStridedSlice _ x _ ![n.val, 0] _ (by revert n; decide)
    (fun a => by fin_cases a <;> first | exact word_toInt n (Shape.Idx.first h_S_) | rfl)]
  pointwise

/-- The step's dilation. -/
theorem pick_dilation (x : IVec S24 32) :
    shapeCast S_ (Host.dynamicSlice S1 x (fun k => (((![word n] : Fin 1 → (⟨S_, .i32⟩ : BufTy).Contents (Elt Ideal))) k (Shape.Idx.first h_S_)).toInt) sliceFits_S24_S1) shapeCasts_S1_S_
    = fun _ => x (ix1 n) := by
  rw [Host.dynamicSlice_eq_extractStridedSlice _ x _ ![n.val] _ (by revert n; decide)
    (fun a => by fin_cases a <;> first | exact word_toInt n (Shape.Idx.first h_S_) | rfl)]
  funext i
  pointwise

theorem dilation (n : Fin 24) : lit0 (S24.rowMajor (ix1 n)) = BitVec.ofNat 32 (2 ^ (n.val % 8)) := by
  revert n
  decide

/-- The row the older tap reads, from the dilation. -/
theorem tap_toInt (n : Fin 24) (w : BitVec 32) (hw : w = BitVec.ofNat 32 (2 ^ (n.val % 8))) (i : S_.Idx) :
    (select (cmpi .slt (subi (constantI S_ 32 4294967295#32) fun _ => w) (constantI S_ 32 0#32))
      (addi (subi (constantI S_ 32 4294967295#32) fun _ => w) (constantI S_ 32 257#32))
      (subi (constantI S_ 32 4294967295#32) fun _ => w) i).toInt = ((WaveNet.tapRow n).val : Int) := by
  subst hw
  show (Scalar.select (IntOp.cmpi .slt (4294967295#32 - BitVec.ofNat 32 (2 ^ (n.val % 8))) 0#32)
    ((4294967295#32 - BitVec.ofNat 32 (2 ^ (n.val % 8))) + 257#32) (4294967295#32 - BitVec.ofNat 32 (2 ^ (n.val % 8)))).toInt = _
  revert n
  decide

theorem tap_fits (n : Fin 24) : S256x32x257.Slices ![0, 0, (WaveNet.tapRow n).val] S256x32x1 := by
  revert n
  decide

theorem pick_tap (x : FVec Ideal S256x32x257 .f32) (v : IVec S_ 32) (hv : ∀ i, (v i).toInt = ((WaveNet.tapRow n).val : Int))
    (b : Fin 256) (j : Fin 32) :
    shapeCast S256x32 (Host.dynamicSlice S256x32x1 x (fun k => (((![select (cmpi .slt (constantI S_ 32 0#32) (constantI S_ 32 0#32)) (addi (constantI S_ 32 0#32) (constantI S_ 32 256#32)) (constantI S_ 32 0#32), select (cmpi .slt (constantI S_ 32 0#32) (constantI S_ 32 0#32)) (addi (constantI S_ 32 0#32) (constantI S_ 32 32#32)) (constantI S_ 32 0#32), v] : Fin 3 → (⟨S_, .i32⟩ : BufTy).Contents (Elt Ideal))) k (Shape.Idx.first h_S_)).toInt) sliceFits_S256x32x257_S256x32x1) shapeCasts_S256x32x1_S256x32 (ix2 b j)
    = x (ix3 b j ⟨(WaveNet.tapRow n).val, by omega⟩) := by
  rw [Host.dynamicSlice_eq_extractStridedSlice _ x _ ![0, 0, (WaveNet.tapRow n).val] _ (tap_fits n)
    (fun a => by fin_cases a <;> first | exact hv (Shape.Idx.first h_S_) | exact toInt_wrap_ofNat (d := constantI S_ 32 256#32) (i := Shape.Idx.first h_S_) 0 (by norm_num) | exact toInt_wrap_ofNat (d := constantI S_ 32 32#32) (i := Shape.Idx.first h_S_) 0 (by norm_num))]
  pointwise

/-- A block written at the counter's row leaves the other rows. -/
theorem put_queue (x : FVec Ideal S24x256x32x257 .f32) (y : FVec Ideal S1x256x32x257 .f32) (k : Fin 24) (b : Fin 256) (j : Fin 32) (r : Fin 257) :
    Host.dynamicUpdateSlice x y (fun k => (((![word n, constantI S_ 32 0#32, constantI S_ 32 0#32, constantI S_ 32 0#32] : Fin 4 → (⟨S_, .i32⟩ : BufTy).Contents (Elt Ideal))) k (Shape.Idx.first h_S_)).toInt) updateFits_S24x256x32x257_S1x256x32x257 (ix4 k b j r)
    = if k = n then y (ix4 0 b j r) else x (ix4 k b j r) := by
  rw [Host.dynamicUpdateSlice_eq_updateSlice x y _ _ ![n.val, 0, 0, 0] (fun a => by
      fin_cases a
      · exact clamp_eq (word_toInt n (Shape.Idx.first h_S_)) (by show n.val ≤ 24 - 1; omega)
      all_goals exact clamp_eq (z := 0) (k := 0) rfl (Nat.zero_le _)) (by revert n; decide)]
  pointwise
  by_cases hk : k = n
  · subst hk
    rw [dif_pos ⟨le_rfl, Nat.lt_succ_self _⟩, if_pos rfl]
    exact congrArg (fun z => y (ix4 z b j r)) (Subsingleton.elim _ _)
  · rw [dif_neg (fun h => hk (Fin.ext (by omega))), if_neg hk]

theorem put_skip (x : FVec Ideal S24x256x32 .f32) (y : FVec Ideal S1x256x32 .f32) (k : Fin 24) (b : Fin 256) (j : Fin 32) :
    Host.dynamicUpdateSlice x y (fun k => (((![word n, constantI S_ 32 0#32, constantI S_ 32 0#32] : Fin 3 → (⟨S_, .i32⟩ : BufTy).Contents (Elt Ideal))) k (Shape.Idx.first h_S_)).toInt) updateFits_S24x256x32_S1x256x32 (ix3 k b j)
    = if k = n then y (ix3 0 b j) else x (ix3 k b j) := by
  rw [Host.dynamicUpdateSlice_eq_updateSlice x y _ _ ![n.val, 0, 0] (fun a => by
      fin_cases a
      · exact clamp_eq (word_toInt n (Shape.Idx.first h_S_)) (by show n.val ≤ 24 - 1; omega)
      all_goals exact clamp_eq (z := 0) (k := 0) rfl (Nat.zero_le _)) (by revert n; decide)]
  pointwise
  by_cases hk : k = n
  · subst hk
    rw [dif_pos ⟨le_rfl, Nat.lt_succ_self _⟩, if_pos rfl]
    exact congrArg (fun z => y (ix3 z b j)) (Subsingleton.elim _ _)
  · rw [dif_neg (fun h => hk (Fin.ext (by omega))), if_neg hk]
end Cert.ReferenceIdeal.Hand
-- ==== Proof.RefStep.lean ====
/-
One trip of the plain program's loop, entry by entry.
-/
module

public import proofs.«01_k».proof.Proof.RefPick

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe

/-- What the loop finds before trip `n`: the arguments it reads, the counter, the dilations and the current vector. -/
structure Before (A : WaveNet.Args) (n : Fin 24) (V : Valuation τ sig (Elt Ideal)) : Prop where
  queues : (V (Proc.devRef .tc main_v17_0) : FVec Ideal S24x256x32x256 .f32) = A.queues
  dil : (V (Proc.devRef .tc main_v17_1) : IVec S24 32) = fun i => lit0 (S24.rowMajor i)
  wConv : (V (Proc.devRef .tc main_v17_2) : FVec Ideal S24x64x32x2 .f32) = A.wConv
  bConv : (V (Proc.devRef .tc main_v17_3) : FVec Ideal S24x64 .f32) = A.bConv
  wRes : (V (Proc.devRef .tc main_v17_4) : FVec Ideal S24x32x32 .f32) = A.wRes
  bRes : (V (Proc.devRef .tc main_v17_5) : FVec Ideal S24x32 .f32) = A.bRes
  wSkip : (V (Proc.devRef .tc main_v17_6) : FVec Ideal S24x32x32 .f32) = A.wSkip
  bSkip : (V (Proc.devRef .tc main_v17_7) : FVec Ideal S24x32 .f32) = A.bSkip
  ctr : (V (Proc.devRef .tc main_v17_8) : IVec S_ 32) = word n
  cur : ∀ b o, (V (Proc.devRef .tc main_v17_9) : FVec Ideal S256x32x1 .f32) (ix3 b o 0) = A.cur b n.val o

variable {A : WaveNet.Args} {n : Fin 24} {V : Valuation τ sig (Elt Ideal)} (h : Before A n V)

theorem join_at (x : FVec Ideal S256x32x256 .f32) (y : FVec Ideal S256x32x1 .f32) (b : Fin 256) (j : Fin 32) (r : Fin 257) :
    concatenate S256x32x257 2 [⟨S256x32x256, x⟩, ⟨S256x32x1, y⟩] concatenates_S256x32x256_S256x32x1_S256x32x257_d2 (ix3 b j r)
    = if h : r.val < 256 then x (ix3 b j ⟨r.val, h⟩) else y (ix3 b j 0) := by
  pointwise
  by_cases h : r.val < 256
  · rw [dif_pos h, dif_pos h]
  · rw [dif_neg h, dif_neg h]
    exact congrArg (fun z => y (ix3 b j z)) (Subsingleton.elim _ _)

theorem conv_congr {t t' c c' : Fin 32 → EReal} {u u' w w' : Fin 64 → Fin 32 → EReal} {d d' : Fin 64 → EReal} (ht : ∀ j, t j = t' j)
    (hc : ∀ j, c j = c' j) (hu : ∀ o j, u o j = u' o j) (hw : ∀ o j, w o j = w' o j) (hd : ∀ o, d o = d' o) (o : Fin 64) :
    WaveNet.conv t c u w d o = WaveNet.conv t' c' u' w' d' o := by
  obtain rfl : t = t' := funext ht
  obtain rfl : c = c' := funext hc
  obtain rfl : u = u' := funext fun o => funext (hu o)
  obtain rfl : w = w' := funext fun o => funext (hw o)
  obtain rfl : d = d' := funext hd
  rfl

theorem dense_congr {g g' : Fin 32 → EReal} {w w' : Fin 32 → Fin 32 → EReal} {d d' : Fin 32 → EReal} (hg : ∀ j, g j = g' j)
    (hw : ∀ o j, w o j = w' o j) (hd : ∀ o, d o = d' o) (o : Fin 32) : WaveNet.dense g w d o = WaveNet.dense g' w' d' o := by
  obtain rfl : g = g' := funext hg
  obtain rfl : w = w' := funext fun o => funext (hw o)
  obtain rfl : d = d' := funext hd
  rfl

theorem cur_succ (A : WaveNet.Args) (n : Fin 24) (b : Fin 256) (o : Fin 32) : A.cur b (n.val + 1) o
    = WaveNet.dense (A.gated n (A.cur b n.val) b) (fun o j => A.wRes (ix3 n o j)) (fun o => A.bRes (ix2 n o)) o + A.cur b n.val o :=
  congrArg (fun k : Fin 24 => WaveNet.dense (A.gated k (A.cur b n.val) b) (fun o j => A.wRes (ix3 k o j)) (fun o => A.bRes (ix2 k o)) o
    + A.cur b n.val o) (Fin.ext (Nat.mod_eq_of_lt n.isLt) : (⟨n.val % 24, Nat.mod_lt _ (by norm_num)⟩ : Fin 24) = n)

theorem lift_queue (y : FVec Ideal S256x32x257 .f32) (b : Fin 256) (o : Fin 32) (r : Fin 257) :
    broadcastInDim S1x256x32x257 ![1, 2, 3] bcast_S256x32x257_S1x256x32x257_1_2_3 y (ix4 0 b o r) = y (ix3 b o r) := by
  pointwise

theorem lift_skip (y : FVec Ideal S256x32 .f32) (b : Fin 256) (o : Fin 32) :
    broadcastInDim S1x256x32 ![1, 2] bcast_S256x32_S1x256x32_1_2 y (ix3 0 b o) = y (ix2 b o) := by
  pointwise

theorem lift_cur (y : FVec Ideal S256x32 .f32) (b : Fin 256) (o : Fin 32) :
    broadcastInDim S256x32x1 ![0, 1] bcast_S256x32_S256x32x1_0_1 y (ix3 b o 0) = y (ix2 b o) := by
  pointwise

theorem add_at (x y : FVec Ideal S256x32 .f32) (i : S256x32.Idx) : addf x y i = (x i + y i : EReal) := rfl

include h

/-- The queue with the current vector behind it. -/
theorem v41_at (b : Fin 256) (j : Fin 32) (r : Fin 257) :
    (res_main_while0b_v41 V : FVec Ideal S256x32x257 .f32) (ix3 b j r) = A.newq n b j r := by
  unfold res_main_while0b_v41
  rw [h.queues, h.ctr]
  refine (join_at _ _ b j r).trans ?_
  unfold WaveNet.Args.newq
  by_cases hr : r.val < 256
  · rw [dif_pos hr, dif_pos hr]; exact pick_queue n A.queues b j ⟨r.val, hr⟩
  · rw [dif_neg hr, dif_neg hr]; exact h.cur b j

theorem v55_at (b : Fin 256) (j : Fin 32) : (res_main_while0b_v55 V : FVec Ideal S256x32 .f32) (ix2 b j) = A.cur b n.val j := by
  have e := v41_at h b j 256
  unfold res_main_while0b_v55
  generalize (res_main_while0b_v41 V : FVec Ideal S256x32x257 .f32) = x at e ⊢
  refine Eq.trans ?_ (e.trans (dif_neg (by decide)))
  pointwise

theorem v35_at (o : Fin 64) (j : Fin 32) (t : Fin 2) :
    (res_main_while0b_v35 V : FVec Ideal S64x32x2 .f32) (ix3 o j t) = A.wConv (ix4 n o j t) := by
  unfold res_main_while0b_v35
  rw [h.wConv, h.ctr]
  exact pick_conv n A.wConv o j t

theorem v42_eq : (res_main_while0b_v42 V : IVec S_ 32) = subi (constantI S_ 32 4294967295#32) fun _ => lit0 (S24.rowMajor (ix1 n)) := by
  unfold res_main_while0b_v42
  rw [h.dil, h.ctr]
  exact congrArg (subi (constantI S_ 32 4294967295#32)) (pick_dilation n fun i => lit0 (S24.rowMajor i))

omit h in
/-- The convolution, from its operands entry by entry. -/
theorem conv_at (t0 t1 : FVec Ideal S256x32 .f32) (w : FVec Ideal S64x32x2 .f32) (bc : FVec Ideal S64 .f32) (b : Fin 256) (o : Fin 64) :
    (addf (addf (Host.dotGeneral dot_S256x32_S32x64_S256x64_1_0_0_1_n_n none t0 (transpose S32x64 [1, 0] (shapeCast S64x32 (extractStridedSlice S64x32x1 ![0, 0, 0] w slices_S64x32x2_S64x32x1_0_0_0) shapeCasts_S64x32x1_S64x32) transposes_S64x32_S32x64_1_0)) (Host.dotGeneral dot_S256x32_S32x64_S256x64_1_0_0_1_n_n none t1 (transpose S32x64 [1, 0] (shapeCast S64x32 (extractStridedSlice S64x32x1 ![0, 0, 1] w slices_S64x32x2_S64x32x1_0_0_1) shapeCasts_S64x32x1_S64x32) transposes_S64x32_S32x64_1_0))) (broadcastInDim S256x64 ![0, 1] bcast_S1x64_S256x64_0_1 (broadcastInDim S1x64 ![1] bcast_S64_S1x64_1 bc)) : FVec Ideal S256x64 .f32) (ix2 b o)
    = WaveNet.conv (fun j => t0 (ix2 b j)) (fun j => t1 (ix2 b j)) (fun o j => w (ix3 o j 0)) (fun o j => w (ix3 o j 1)) (fun o => bc (ix1 o)) o := by
  pointwise [WaveNet.conv]

theorem v67_at (b : Fin 256) (o : Fin 64) : (res_main_while0b_v67 V : FVec Ideal S256x64 .f32) (ix2 b o)
    = WaveNet.conv (fun j => A.queues (ix4 n b j (WaveNet.tapRow n))) (A.cur b n.val) (fun o j => A.wConv (ix4 n o j 0))
      (fun o j => A.wConv (ix4 n o j 1)) (fun o => A.bConv (ix2 n o)) o := by
  unfold res_main_while0b_v67
  refine (conv_at _ _ _ _ b o).trans ?_
  have e0 := fun j => (pick_tap n (res_main_while0b_v41 V) _
    (fun i => (congrArg (fun v : IVec S_ 32 => (select (cmpi .slt v (constantI S_ 32 0#32)) (addi v (constantI S_ 32 257#32)) v i).toInt) (v42_eq h)).trans
      (tap_toInt n _ (dilation n) i)) b j).trans (v41_at h b j ⟨(WaveNet.tapRow n).val, by omega⟩)
  have e0' : ∀ j, A.newq n b j ⟨(WaveNet.tapRow n).val, by omega⟩ = A.queues (ix4 n b j (WaveNet.tapRow n)) := fun j =>
    dif_pos (WaveNet.tapRow n).isLt
  rw [h.bConv, h.ctr]
  exact conv_congr (fun j => (e0 j).trans (e0' j)) (fun j => v55_at h b j) (fun o j => v35_at h o j 0) (fun o j => v35_at h o j 1)
    (fun o => pick_bias n A.bConv o) o

omit h in
theorem gate_at (z : FVec Ideal S256x64 .f32) (b : Fin 256) (k : Fin 32) :
    (mulf (Host.tanh (extractStridedSlice S256x32 ![0, 0] z slices_S256x64_S256x32_0_0)) (Host.divf (broadcastInDim S256x32 ![] bcast_S_S256x32 (constant S_ .f32 0x3F800000#32)) (addf (broadcastInDim S256x32 ![] bcast_S_S256x32 (constant S_ .f32 0x3F800000#32)) (Host.exp (Host.negf (extractStridedSlice S256x32 ![0, 32] z slices_S256x64_S256x32_0_32))))) : FVec Ideal S256x32 .f32) (ix2 b k)
    = WaveNet.gate (fun o => z (ix2 b o)) k := by
  pointwise [WaveNet.gate]

theorem v77_at (b : Fin 256) (k : Fin 32) : (res_main_while0b_v77 V : FVec Ideal S256x32 .f32) (ix2 b k) = A.gated n (A.cur b n.val) b k := by
  unfold res_main_while0b_v77
  refine (gate_at _ b k).trans ?_
  exact congrArg (fun z => WaveNet.gate z k) (funext fun o => v67_at h b o)

omit h in
theorem dense_at (g : FVec Ideal S256x32 .f32) (w : FVec Ideal S32x32 .f32) (bc : FVec Ideal S32 .f32) (b : Fin 256) (o : Fin 32) :
    (addf (Host.dotGeneral dot_S256x32_S32x32_S256x32_1_0_0_1_n_n none g (transpose S32x32 [1, 0] w transposes_S32x32_S32x32_1_0)) (broadcastInDim S256x32 ![0, 1] bcast_S1x32_S256x32_0_1 (broadcastInDim S1x32 ![1] bcast_S32_S1x32_1 bc)) : FVec Ideal S256x32 .f32) (ix2 b o)
    = WaveNet.dense (fun j => g (ix2 b j)) (fun o j => w (ix2 o j)) (fun o => bc (ix1 o)) o := by
  pointwise [WaveNet.dense]

/-- The current vector after the trip. -/
theorem step9_at (b : Fin 256) (o : Fin 32) :
    (step_main_v17_9 V : FVec Ideal S256x32x1 .f32) (ix3 b o 0) = A.cur b (n.val + 1) o := by
  unfold step_main_v17_9
  rw [id_eq]
  rw [h.wRes, h.bRes, h.ctr, cur_succ]
  refine (lift_cur _ b o).trans ((add_at _ _ _).trans ?_)
  refine congrArg₂ (· + ·) ((dense_at (res_main_while0b_v77 V) _ _ b o).trans ?_) (v55_at h b o)
  exact dense_congr (fun j => v77_at h b j) (fun o j => pick_dense n A.wRes o j) (fun o => pick_denseBias n A.bRes o) o

/-- The skip vector the trip stores. -/
theorem skip_at (k : Fin 24) (b : Fin 256) (o : Fin 32) :
    (step_main_v17_11 V : FVec Ideal S24x256x32 .f32) (ix3 k b o)
    = if k = n then A.skip n b o else (V (Proc.devRef .tc main_v17_11) : FVec Ideal S24x256x32 .f32) (ix3 k b o) := by
  unfold step_main_v17_11
  rw [id_eq]
  rw [h.wSkip, h.bSkip, h.ctr]
  refine (put_skip n _ _ k b o).trans ?_
  refine congrArg (fun z => if k = n then z else _) ?_
  refine (lift_skip _ b o).trans ((dense_at (res_main_while0b_v77 V) _ _ b o).trans ?_)
  exact dense_congr (fun j => v77_at h b j) (fun o j => pick_dense n A.wSkip o j) (fun o => pick_denseBias n A.bSkip o) o

/-- The queues the trip stores. -/
theorem queues_at (k : Fin 24) (b : Fin 256) (o : Fin 32) (r : Fin 257) :
    (step_main_v17_10 V : FVec Ideal S24x256x32x257 .f32) (ix4 k b o r)
    = if k = n then A.newq n b o r else (V (Proc.devRef .tc main_v17_10) : FVec Ideal S24x256x32x257 .f32) (ix4 k b o r) := by
  unfold step_main_v17_10
  rw [id_eq]
  rw [h.ctr]
  refine (put_queue n _ _ k b o r).trans ?_
  refine congrArg (fun z => if k = n then z else _) ?_
  exact (lift_queue _ b o r).trans (v41_at h b o r)

end Cert.ReferenceIdeal.Hand
-- ==== Proof.RefEntry.lean ====
/-
What the plain program's loop starts from, entry by entry.
-/
module

public import proofs.«01_k».proof.Proof.RefStep
public import Idealize.ShloMosaic.Lib.StableHlo.ReadAt
public import Idealize.ShloMosaic.Lib.Tactic.WordOmega

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo

/-- A row of the table, at the row number clamped into it. -/
theorem gather_at (x : FVec Ideal S1000x16 .f32) (idx : IVec S256x1 32) (b : Fin 256) (r : Fin 16) :
    Host.gather gather_S1000x16_S256x1_S256x16_1_0_n_n_0_1_116 x idx (ix2 b r)
    = x (ix2 ⟨min (idx (ix2 b 0)).toInt.toNat 999, by omega⟩ r) := by
  unfold Host.gather
  refine congrArg x (funext fun a => ?_)
  refine Fin.ext ?_
  show GatherDims.start _ _ idx a + GatherDims.batchCoord _ _ a + GatherDims.offCoord _ _ a = _
  fin_cases a
  · have e : GatherDims.siIdx gather_S1000x16_S256x1_S256x16_1_0_n_n_0_1_116 (ix2 b r) ⟨0, by decide⟩ = ix2 b 0 := by
      funext i
      fin_cases i <;> rfl
    show min (idx (GatherDims.siIdx gather_S1000x16_S256x1_S256x16_1_0_n_n_0_1_116 (ix2 b r) ⟨0, _⟩)).toInt.toNat 999 + 0 + 0 = _
    rw [e]
    rfl
  · show 0 + 0 + r.val = r.val
    omega

/-- The row number the plain program makes of a category. -/
theorem row_of (w : BitVec 32) (hw : w.toNat < 1000) :
    (Scalar.select (IntOp.cmpi .slt w 0#32) (IntOp.addi w 1000#32) w).toInt.toNat = w.toNat % 1000 := by
  have h1 : w.toInt = w.toNat := by rw [BitVec.toInt_eq_toNat_cond]; split <;> omega
  have h2 : w.slt 0#32 = false := by
    simp only [BitVec.slt, BitVec.toInt_zero, decide_eq_false_iff_not, Int.not_lt]
    omega
  show (if BitVec.ofBool (w.slt 0#32) = 1 then _ else w).toInt.toNat = _
  rw [h2, if_neg (by decide), h1, Nat.mod_eq_of_lt hw]
  rfl

variable (m : (ℓ : Loc nD τ sig) → Buf (Elt Ideal) ℓ) (c : Dev nD)

/-- The arguments in the plain program's memory. -/
def args : WaveNet.Args where
  queues := m ((c.tc : Thread nD τ).loc main_arg0)
  x := m ((c.tc : Thread nD τ).loc main_arg1)
  num := m ((c.tc : Thread nD τ).loc main_arg2)
  cat := m ((c.tc : Thread nD τ).loc main_arg3)
  emb := m ((c.tc : Thread nD τ).loc main_arg4)
  wIn := m ((c.tc : Thread nD τ).loc main_arg5)
  bIn := m ((c.tc : Thread nD τ).loc main_arg6)
  wConv := m ((c.tc : Thread nD τ).loc main_arg7)
  bConv := m ((c.tc : Thread nD τ).loc main_arg8)
  wRes := m ((c.tc : Thread nD τ).loc main_arg9)
  bRes := m ((c.tc : Thread nD τ).loc main_arg10)
  wSkip := m ((c.tc : Thread nD τ).loc main_arg11)
  bSkip := m ((c.tc : Thread nD τ).loc main_arg12)
  wO1 := m ((c.tc : Thread nD τ).loc main_arg13)
  bO1 := m ((c.tc : Thread nD τ).loc main_arg14)
  wO2 := m ((c.tc : Thread nD τ).loc main_arg15)
  bO2 := m ((c.tc : Thread nD τ).loc main_arg16)

/-- The embedded categories. -/
def embedded (cat : IVec S256x1x1 32) (emb : FVec Ideal S1000x16 .f32) : FVec Ideal S256x16 .f32 :=
  Host.gather gather_S1000x16_S256x1_S256x16_1_0_n_n_0_1_116 emb (broadcastInDim S256x1 ![0] bcast_S256_S256x1_0
    (select (cmpi .slt (shapeCast S256 cat shapeCasts_S256x1x1_S256) (broadcastInDim S256 ![] bcast_S_S256 (constantI S_ 32 0#32)))
      (addi (shapeCast S256 cat shapeCasts_S256x1x1_S256) (broadcastInDim S256 ![] bcast_S_S256 (constantI S_ 32 1000#32)))
      (shapeCast S256 cat shapeCasts_S256x1x1_S256)))

theorem embedded_at (cat : IVec S256x1x1 32) (emb : FVec Ideal S1000x16 .f32) (b : Fin 256) (r : Fin 16)
    (hcat : (cat (ix3 b 0 0)).toNat < 1000) :
    embedded cat emb (ix2 b r) = emb (ix2 ⟨(cat (ix3 b 0 0)).toNat % 1000, Nat.mod_lt _ (by norm_num)⟩ r) := by
  unfold embedded
  refine (gather_at _ _ b r).trans (congrArg (fun k => emb (ix2 k r)) (Fin.ext ?_))
  have e := row_of _ hcat
  have e' : (broadcastInDim S256x1 ![0] bcast_S256_S256x1_0
    (select (cmpi .slt (shapeCast S256 cat shapeCasts_S256x1x1_S256) (broadcastInDim S256 ![] bcast_S_S256 (constantI S_ 32 0#32)))
      (addi (shapeCast S256 cat shapeCasts_S256x1x1_S256) (broadcastInDim S256 ![] bcast_S_S256 (constantI S_ 32 1000#32)))
      (shapeCast S256 cat shapeCasts_S256x1x1_S256)) : IVec S256x1 32) (ix2 b 0)
      = Scalar.select (IntOp.cmpi .slt (cat (ix3 b 0 0)) 0#32) (IntOp.addi (cat (ix3 b 0 0)) 1000#32) (cat (ix3 b 0 0)) := by
    pointwise
  show min (BitVec.toInt _).toNat 999 = _
  rw [e', e]
  exact Nat.min_eq_left (by omega)

/-- The input layer. -/
def inputV (x : FVec Ideal S256x1x1 .f32) (num : FVec Ideal S256x8x1 .f32) (e : FVec Ideal S256x16 .f32) (w : FVec Ideal S32x25 .f32)
    (bias : FVec Ideal S32 .f32) : FVec Ideal S256x32x1 .f32 :=
  addf (transpose S256x32x1 [0, 2, 1] (Host.dotGeneral dot_S256x25x1_S32x25_S256x1x32_1_1_02_0_n_n none
    (concatenate S256x25x1 1 [⟨S256x1x1, x⟩, ⟨S256x8x1, num⟩, ⟨S256x16x1, broadcastInDim S256x16x1 ![0, 1] bcast_S256x16_S256x16x1_0_1 e⟩] concatenates_S256x1x1_S256x8x1_S256x16x1_S256x25x1_d1) w)
    transposes_S256x1x32_S256x32x1_0_2_1)
    (broadcastInDim S256x32x1 ![0, 1, 2] bcast_S1x32x1_S256x32x1_0_1_2 (broadcastInDim S1x32x1 ![1] bcast_S32_S1x32x1_1 bias))

theorem inputV_at (x : FVec Ideal S256x1x1 .f32) (num : FVec Ideal S256x8x1 .f32) (e : FVec Ideal S256x16 .f32) (w : FVec Ideal S32x25 .f32)
    (bias : FVec Ideal S32 .f32) (b : Fin 256) (o : Fin 32) :
    inputV x num e w bias (ix3 b o 0) = (x (ix3 b 0 0) * w (ix2 o 0) + (∑ j : Fin 8, num (ix3 b j 0) * w (ix2 o ⟨1 + j.val, by omega⟩))
      + (∑ j : Fin 16, e (ix2 b j) * w (ix2 o ⟨9 + j.val, by omega⟩))) + bias (ix1 o) := by
  pointwise [inputV]
  refine congrArg (· + bias (ix1 o)) ?_
  rw [Fin.sum_univ_two_halves 1 24 rfl, Fin.sum_univ_two_halves 8 16 rfl, Fin.sum_univ_one, ← add_assoc]
  refine congrArg₂ (· + ·) (congrArg₂ (· + ·) ?_ (Finset.sum_congr rfl fun j _ => ?_)) (Finset.sum_congr rfl fun j _ => ?_)
  · exact congrArg (· * w (ix2 o 0)) (dif_pos (by decide))
  · dsimp only
    rw [dif_neg (show ¬ (1 + j.val < 1) by omega), dif_pos (show 1 + j.val - 1 < 8 by omega)]
    exact congrArg (fun k => num (ix3 b k 0) * w (ix2 o ⟨1 + j.val, by omega⟩)) (Fin.ext (by show 1 + j.val - 1 = j.val; omega))
  · dsimp only
    rw [dif_neg (show ¬ (1 + (8 + j.val) < 1) by omega), dif_neg (show ¬ (1 + (8 + j.val) - 1 < 8) by omega)]
    exact congrArg₂ (fun k l => e (ix2 b k) * w (ix2 o l)) (Fin.ext (by show 1 + (8 + j.val) - 1 - 8 = j.val; omega))
      (Fin.ext (by show 1 + (8 + j.val) = 9 + j.val; omega))

theorem entry_cur : (entryContents preI m c (Proc.devRef .tc main_v17_9) : FVec Ideal S256x32x1 .f32)
    = inputV (args m c).x (args m c).num (embedded (args m c).cat (args m c).emb) (args m c).wIn (args m c).bIn := by
  unfold entryContents
  simp only [preI, afterL_cons, afterL_nil]
  after_reads_at
  rfl

theorem entry_ctr : (entryContents preI m c (Proc.devRef .tc main_v17_8) : IVec S_ 32) = constantI S_ 32 0#32 := by
  unfold entryContents
  simp only [preI, afterL_cons, afterL_nil]
  after_reads_at
  rfl

theorem entry_dil : (entryContents preI m c (Proc.devRef .tc main_v17_1) : IVec S24 32) = fun i => lit0 (S24.rowMajor i) := by
  unfold entryContents
  simp only [preI, afterL_cons, afterL_nil]
  after_reads_at
  rfl

theorem entry_queues : (entryContents preI m c (Proc.devRef .tc main_v17_0) : FVec Ideal S24x256x32x256 .f32) = (args m c).queues := by
  unfold entryContents
  simp only [preI, afterL_cons, afterL_nil]
  after_reads_at
  rfl

theorem entry_wConv : (entryContents preI m c (Proc.devRef .tc main_v17_2) : FVec Ideal S24x64x32x2 .f32) = (args m c).wConv := by
  unfold entryContents
  simp only [preI, afterL_cons, afterL_nil]
  after_reads_at
  rfl

theorem entry_bConv : (entryContents preI m c (Proc.devRef .tc main_v17_3) : FVec Ideal S24x64 .f32) = (args m c).bConv := by
  unfold entryContents
  simp only [preI, afterL_cons, afterL_nil]
  after_reads_at
  rfl

theorem entry_wRes : (entryContents preI m c (Proc.devRef .tc main_v17_4) : FVec Ideal S24x32x32 .f32) = (args m c).wRes := by
  unfold entryContents
  simp only [preI, afterL_cons, afterL_nil]
  after_reads_at
  rfl

theorem entry_bRes : (entryContents preI m c (Proc.devRef .tc main_v17_5) : FVec Ideal S24x32 .f32) = (args m c).bRes := by
  unfold entryContents
  simp only [preI, afterL_cons, afterL_nil]
  after_reads_at
  rfl

theorem entry_wSkip : (entryContents preI m c (Proc.devRef .tc main_v17_6) : FVec Ideal S24x32x32 .f32) = (args m c).wSkip := by
  unfold entryContents
  simp only [preI, afterL_cons, afterL_nil]
  after_reads_at
  rfl

theorem entry_bSkip : (entryContents preI m c (Proc.devRef .tc main_v17_7) : FVec Ideal S24x32 .f32) = (args m c).bSkip := by
  unfold entryContents
  simp only [preI, afterL_cons, afterL_nil]
  after_reads_at
  rfl

end Cert.ReferenceIdeal.Hand
-- ==== Proof.RefLoop.lean ====
/-
The plain program's loop by induction on its trips, and its two results.
-/
module

public import proofs.«01_k».proof.Proof.RefEntry

@[expose] public section

set_option maxRecDepth 16384

noncomputable section

namespace Cert.ReferenceIdeal.Hand

open Cert.ReferenceIdeal Cert.ReferenceIdeal.Gen Cert.ReferenceIdeal.Value
open Idealize.ShloMosaic Idealize.ShloMosaic.TcCoe Idealize.ShloMosaic.StableHlo

/-- What the loop holds after `k` trips. -/
structure Inv (A : WaveNet.Args) (k : ℕ) (V : Valuation τ sig (Elt Ideal)) : Prop where
  queues : (V (Proc.devRef .tc main_v17_0) : FVec Ideal S24x256x32x256 .f32) = A.queues
  dil : (V (Proc.devRef .tc main_v17_1) : IVec S24 32) = fun i => lit0 (S24.rowMajor i)
  wConv : (V (Proc.devRef .tc main_v17_2) : FVec Ideal S24x64x32x2 .f32) = A.wConv
  bConv : (V (Proc.devRef .tc main_v17_3) : FVec Ideal S24x64 .f32) = A.bConv
  wRes : (V (Proc.devRef .tc main_v17_4) : FVec Ideal S24x32x32 .f32) = A.wRes
  bRes : (V (Proc.devRef .tc main_v17_5) : FVec Ideal S24x32 .f32) = A.bRes
  wSkip : (V (Proc.devRef .tc main_v17_6) : FVec Ideal S24x32x32 .f32) = A.wSkip
  bSkip : (V (Proc.devRef .tc main_v17_7) : FVec Ideal S24x32 .f32) = A.bSkip
  ctr : (V (Proc.devRef .tc main_v17_8) : IVec S_ 32) = constantI S_ 32 (BitVec.ofNat 32 k)
  cur : ∀ b o, (V (Proc.devRef .tc main_v17_9) : FVec Ideal S256x32x1 .f32) (ix3 b o 0) = A.cur b k o
  newq : ∀ (n : Fin 24) b o r, n.val < k → (V (Proc.devRef .tc main_v17_10) : FVec Ideal S24x256x32x257 .f32) (ix4 n b o r) = A.newq n b o r
  skip : ∀ (n : Fin 24) b o, n.val < k → (V (Proc.devRef .tc main_v17_11) : FVec Ideal S24x256x32 .f32) (ix3 n b o) = A.skip n b o

theorem Inv.before {A : WaveNet.Args} {k : ℕ} {V : Valuation τ sig (Elt Ideal)} (h : Inv A k V) (hk : k < 24) :
    Before A ⟨k, hk⟩ V :=
  ⟨h.queues, h.dil, h.wConv, h.bConv, h.wRes, h.bRes, h.wSkip, h.bSkip, h.ctr, h.cur⟩

theorem ctr_succ (k : ℕ) : (addi (constantI S_ 32 (BitVec.ofNat 32 k)) (constantI S_ 32 1#32) : IVec S_ 32)
    = constantI S_ 32 (BitVec.ofNat 32 (k + 1)) := by
  funext i
  show BitVec.ofNat 32 k + 1#32 = BitVec.ofNat 32 (k + 1)
  exact (BitVec.ofNat_add k 1).symm

/-- One trip carries the invariant. -/
theorem Inv.step {A : WaveNet.Args} {k : ℕ} {V : Valuation τ sig (Elt Ideal)} (h : Inv A k V) (hk : k < 24) :
    Inv A (k + 1) (STEP V) where
  queues := (STEP_main_v17_0 V).trans h.queues
  dil := (STEP_main_v17_1 V).trans h.dil
  wConv := (STEP_main_v17_2 V).trans h.wConv
  bConv := (STEP_main_v17_3 V).trans h.bConv
  wRes := (STEP_main_v17_4 V).trans h.wRes
  bRes := (STEP_main_v17_5 V).trans h.bRes
  wSkip := (STEP_main_v17_6 V).trans h.wSkip
  bSkip := (STEP_main_v17_7 V).trans h.bSkip
  ctr := (STEP_main_v17_8 V).trans ((congrArg (fun v : IVec S_ 32 => addi v (constantI S_ 32 1#32)) h.ctr).trans (ctr_succ k))
  cur b o := (congrFun (STEP_main_v17_9 V) (ix3 b o 0)).trans (step9_at (h.before hk) b o)
  newq n b o r hn := by
    refine (congrFun (STEP_main_v17_10 V) (ix4 n b o r)).trans ((queues_at (h.before hk) n b o r).trans ?_)
    by_cases e : n = ⟨k, hk⟩
    · rw [if_pos e, e]
    · rw [if_neg e]
      exact h.newq n b o r (lt_of_le_of_ne (Nat.lt_succ_iff.mp hn) fun e' => e (Fin.ext e'))
  skip n b o hn := by
    refine (congrFun (STEP_main_v17_11 V) (ix3 n b o)).trans ((skip_at (h.before hk) n b o).trans ?_)
    by_cases e : n = ⟨k, hk⟩
    · rw [if_pos e, e]
    · rw [if_neg e]
      exact h.skip n b o (lt_of_le_of_ne (Nat.lt_succ_iff.mp hn) fun e' => e (Fin.ext e'))

variable (m : (ℓ : Loc nD τ sig) → Buf (Elt Ideal) ℓ) (c : Dev nD)
variable (hcat : ∀ b, ((args m c).cat (ix3 b 0 0) : BitVec 32).toNat < 1000)

include hcat in
/-- The invariant at the loop's entry. -/
theorem inv_entry : Inv (args m c) 0 (entryContents preI m c) where
  queues := entry_queues m c
  dil := entry_dil m c
  wConv := entry_wConv m c
  bConv := entry_bConv m c
  wRes := entry_wRes m c
  bRes := entry_bRes m c
  wSkip := entry_wSkip m c
  bSkip := entry_bSkip m c
  ctr := entry_ctr m c
  cur b o := by
    refine (congrFun (entry_cur m c) (ix3 b o 0)).trans ((inputV_at _ _ _ _ _ b o).trans ?_)
    refine congrArg₂ (· + ·) (congrArg₂ (· + ·) rfl (Finset.sum_congr rfl fun j _ => ?_)) rfl
    exact congrArg (fun e => e * (args m c).wIn (ix2 o ⟨9 + j.val, by omega⟩)) (embedded_at (args m c).cat (args m c).emb b j (hcat b))
  newq n b o r hn := absurd hn (Nat.not_lt_zero _)
  skip n b o hn := absurd hn (Nat.not_lt_zero _)

include hcat in
/-- The invariant after `k` trips. -/
theorem inv_at : ∀ k, k ≤ 24 → Inv (args m c) k (STEP^[k] (entryContents preI m c))
  | 0, _ => inv_entry m c hcat
  | k + 1, hk => by
    rw [Function.iterate_succ_apply']
    exact (inv_at k (Nat.le_of_succ_le hk)).step hk

/-- A sum over the first output layer's columns, step by step. -/
theorem sum_steps (f : Fin 768 → EReal) : ∑ k, f k = ∑ n : Fin 24, ∑ j : Fin 32, f (WaveNet.col n j) := by
  refine ((finProdFinEquiv (m := 24) (n := 32)).sum_comp f).symm.trans ((Fintype.sum_prod_type _).trans ?_)
  refine Finset.sum_congr rfl fun n _ => Finset.sum_congr rfl fun j _ => congrArg f (Fin.ext ?_)
  show j.val + 32 * n.val = n.val * 32 + j.val
  omega

/-- The output layers. -/
theorem outV_at (s : FVec Ideal S24x256x32 .f32) (w1 : FVec Ideal S128x768 .f32) (b1 : FVec Ideal S128 .f32) (w2 : FVec Ideal S1x128 .f32)
    (b2 : FVec Ideal S1 .f32) (b : Fin 256) :
    (broadcastInDim S256x1x1 ![0, 1] bcast_S256x1_S256x1x1_0_1 (addf (Host.dotGeneral dot_S256x128_S128x1_S256x1_1_0_0_1_n_n none (maximumf (addf (Host.dotGeneral dot_S256x768_S768x128_S256x128_1_0_0_1_n_n none (maximumf (shapeCast S256x768 (transpose S256x24x32 [1, 0, 2] s transposes_S24x256x32_S256x24x32_1_0_2) shapeCasts_S256x24x32_S256x768) (broadcastInDim S256x768 ![] bcast_S_S256x768 (constant S_ .f32 0x00000000#32))) (transpose S768x128 [1, 0] w1 transposes_S128x768_S768x128_1_0)) (broadcastInDim S256x128 ![0, 1] bcast_S1x128_S256x128_0_1 (broadcastInDim S1x128 ![1] bcast_S128_S1x128_1 b1))) (broadcastInDim S256x128 ![] bcast_S_S256x128 (constant S_ .f32 0x00000000#32))) (transpose S128x1 [1, 0] w2 transposes_S1x128_S128x1_1_0)) (broadcastInDim S256x1 ![0, 1] bcast_S1x1_S256x1_0_1 (broadcastInDim S1x1 ![1] bcast_S1_S1x1_1 b2))) : FVec Ideal S256x1x1 .f32) (ix3 b 0 0)
    = (∑ p : Fin 128, max ((∑ n : Fin 24, ∑ j : Fin 32, max (s (ix3 n b j)) 0 * w1 (ix2 p (WaveNet.col n j))) + b1 (ix1 p)) 0 * w2 (ix2 0 p)) + b2 (ix1 0) := by
  pointwise
  refine congrArg (· + b2 (ix1 0)) (Finset.sum_congr rfl fun p _ => ?_)
  refine congrArg (fun t => max (t + b1 (ix1 p)) 0 * w2 (ix2 0 p)) ?_
  refine (sum_steps _).trans (Finset.sum_congr rfl fun n _ => Finset.sum_congr rfl fun j _ => ?_)
  refine congrArg₂ (fun k l => max (s (ix3 k b l)) 0 * w1 (ix2 p (WaveNet.col n j))) (Fin.ext ?_) (Fin.ext ?_)
  · show (n.val * 32 + j.val) / 32 = n.val
    omega
  · show (n.val * 32 + j.val) % 32 = j.val
    omega

/-- The first result, from what the loop leaves. -/
theorem out_of (A : WaveNet.Args) (V : Valuation τ sig (Elt Ideal))
    (hs : ∀ n b o, (V (Proc.devRef .tc main_v17_11) : FVec Ideal S24x256x32 .f32) (ix3 n b o) = A.skip n b o)
    (h1 : (V (Proc.devRef .tc main_arg13) : FVec Ideal S128x768 .f32) = A.wO1)
    (h2 : (V (Proc.devRef .tc main_arg14) : FVec Ideal S128 .f32) = A.bO1)
    (h3 : (V (Proc.devRef .tc main_arg15) : FVec Ideal S1x128 .f32) = A.wO2)
    (h4 : (V (Proc.devRef .tc main_arg16) : FVec Ideal S1 .f32) = A.bO2) :
    (out_main_v32 V : FVec Ideal S256x1x1 .f32) = fun i => A.out (i 0) := by
  funext i
  obtain ⟨b, z, z', rfl⟩ : ∃ (b : Fin 256) (z z' : Fin 1), i = ix3 b z z' :=
    ⟨i 0, i 1, i 2, by funext a; fin_cases a <;> rfl⟩
  obtain rfl : z = 0 := Subsingleton.elim _ _
  obtain rfl : z' = 0 := Subsingleton.elim _ _
  unfold out_main_v32
  rw [h1, h2, h3, h4]
  refine (outV_at _ _ _ _ _ b).trans ?_
  refine congrArg (fun t => t + A.bO2 (ix1 0)) (Finset.sum_congr rfl fun p _ => ?_)
  refine congrArg (fun t => max (t + A.bO1 (ix1 p)) 0 * A.wO2 (ix2 0 p)) (Finset.sum_congr rfl fun n _ => Finset.sum_congr rfl fun j _ => ?_)
  exact congrArg (fun t => max t 0 * A.wO1 (ix2 p (WaveNet.col n j))) (hs n b j)

include hcat in
/-- The plain program's first result is the formula's output. -/
theorem result_v32 : (out_main_v32 (STEP^[24] (entryContents preI m c)) : FVec Ideal S256x1x1 .f32) = fun i => (args m c).out (i 0) := by
  have h := inv_at m c hcat 24 le_rfl
  have h1 := iter_main_arg13 m c 24
  have h2 := iter_main_arg14 m c 24
  have h3 := iter_main_arg15 m c 24
  have h4 := iter_main_arg16 m c 24
  generalize STEP^[24] (entryContents preI m c) = V at h h1 h2 h3 h4 ⊢
  exact out_of (args m c) V (fun n b o => h.skip n b o n.isLt) h1 h2 h3 h4

include hcat in
/-- The plain program's second result is the formula's new queues. -/
theorem result_v17_10 : ((STEP^[24] (entryContents preI m c)) (Proc.devRef .tc main_v17_10) : FVec Ideal S24x256x32x257 .f32)
    = fun i => (args m c).newq (i 0) (i 1) (i 2) (i 3) := by
  have h := inv_at m c hcat 24 le_rfl
  generalize STEP^[24] (entryContents preI m c) = V at h ⊢
  funext i
  obtain ⟨n, b, ch, q, rfl⟩ : ∃ (n : Fin 24) (b : Fin 256) (ch : Fin 32) (q : Fin 257), i = ix4 n b ch q :=
    ⟨i 0, i 1, i 2, i 3, by funext a; fin_cases a <;> rfl⟩
  exact h.newq n b ch q n.isLt

end Cert.ReferenceIdeal.Hand
-- ==== Proof.Agree.lean ====
/-
The two programs give the same results: both results of each are the formula in the arguments, the arguments are the
same arrays, and the precondition puts every category inside the embedding's rows.
-/
module

public import proofs.«01_k».proof.Defs
public import proofs.«01_k».proof.Proof.KernelValue
public import proofs.«01_k».proof.Proof.RefLoop
public import proofs.«01_k».proof.Proof.Gen.ReferenceIdeal.Run
public import Idealize.ShloMosaic.Lib.WordCmp
public import Idealize.ShloMosaic.Lib.Quiescent

@[expose] public section

noncomputable section

namespace Cert.Proof

open Idealize.ShloMosaic Idealize.SL.Sem

/-- The one shape relation the precondition states. -/
theorem facts_cat : Cert.Pre_cat_names_rows.Facts := ⟨by decide⟩

attribute [local instance] facts_cat Cert.KernelIdeal.Gen.facts Cert.ReferenceIdeal.Gen.facts

/-- A word at least zero and below a thousand, read signed, is below a thousand read unsigned. -/
theorem word_lt (w : BitVec 32) (h : IntOp.andi (IntOp.cmpi .sge w 0#32) (IntOp.cmpi .slt w 1000#32) = 1#1) :
    w.toNat < 1000 := by
  word_omega

/-- Under the precondition every category names a row of the embedding. -/
theorem cat_lt {m : (ℓ : Loc Cert.KernelIdeal.nD Cert.KernelIdeal.τ Cert.KernelIdeal.sig) → Buf (Elt Ideal) ℓ}
    (hpre : Cert.Pre_KernelIdeal_cat_names_rows m) (c : Dev Cert.KernelIdeal.nD) (b : Fin 256) :
    ((Cert.KernelIdeal.Hand.args m c).cat (ix3 b 0 0) : BitVec 32).toNat < 1000 :=
  word_lt _ (congrFun (hpre c) (ix3 b 0 0))

/-- The two programs, from the same arguments, end with the same results. -/
theorem agree : Cert.algebraic_KernelIdeal_ReferenceIdeal_pre_cat_names_rows := by
  intro m g m' g' hpre hargs
  have hA : ∀ c, Cert.ReferenceIdeal.Hand.args m' c = Cert.KernelIdeal.Hand.args m c := fun c => by
    obtain ⟨h0, h1, h2, h3, h4, h5, h6, h7, h8, h9, h10, h11, h12, h13, h14, h15, h16⟩ := hargs c
    unfold Cert.ReferenceIdeal.Hand.args Cert.KernelIdeal.Hand.args
    rw [WaveNet.Args.mk.injEq]
    exact ⟨h0, h1, h2, h3, h4, h5, h6, h7, h8, h9, h10, h11, h12, h13, h14, h15, h16⟩
  have hR : ∀ c b, ((Cert.ReferenceIdeal.Hand.args m' c).cat (ix3 b 0 0) : BitVec 32).toNat < 1000 := fun c b => by
    rw [hA c]
    exact cat_lt hpre c b
  refine ⟨fun c => (fun i => (Cert.KernelIdeal.Hand.args m c).out (i 0) : FVec Ideal Cert.KernelIdeal.S256x1x1 .f32),
    fun c => (fun i => (Cert.KernelIdeal.Hand.args m c).newq (i 0) (i 1) (i 2) (i 3) : FVec Ideal Cert.KernelIdeal.S24x256x32x257 .f32),
    ?_, ?_⟩
  · exact (θ_run Cert.KernelIdeal.defs _ _).mono (fun r h c =>
      ⟨Cert.KernelIdeal.Hand.result_v23 m c (cat_lt hpre c) h.1, Cert.KernelIdeal.Hand.result_v24 m c (cat_lt hpre c) h.1,
        Cert.KernelIdeal.Hand.kept m h.1 c⟩) (Cert.KernelIdeal.Hand.run_main m g)
  · refine (θ_run Cert.ReferenceIdeal.defs _ _).mono (fun r h c => ?_) (Cert.ReferenceIdeal.Value.run m' g')
    have e1 := Cert.ReferenceIdeal.Hand.result_v32 m' c (hR c)
    have e2 := Cert.ReferenceIdeal.Hand.result_v17_10 m' c (hR c)
    rw [hA c] at e1 e2
    exact ⟨(h c).1.trans e1, (h c).2.1.trans e2, (h c).2.2⟩

end Cert.Proof

end
-- ==== Proof.lean ====
/-
The claims, put together: the kernel, its idealization and the reference run and leave their arguments, and the
idealization and the reference end with the same results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.SameText
public import proofs.«01_k».proof.Proof.Agree
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, leaves its arguments, and declares no semaphore. -/
theorem frame_reference : Cert.quiescent_ReferenceIdeal := fun m g _ =>
  (θ_run Cert.ReferenceIdeal.defs _ _).mono
    (fun r h => ⟨fun c => (h c).2.2, sem_eq_zero_of_no_sems (by decide) r.2⟩) (Cert.ReferenceIdeal.Value.run m g)

/-- The claim. -/
theorem claim : Cert.Claim := ⟨Cert.Kernel.Gen.facts, Cert.KernelIdeal.Gen.facts, Cert.ReferenceIdeal.Gen.facts, facts_cat,
  frame_kernel, frame_ideal, fun m g _ => frame_ideal m g trivial, frame_reference,
  fun m g _ => frame_reference m g trivial, trivial, agree⟩

end Cert.Proof

end
